-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4000000x4 : Shape := ⟨2, ![4000000, 4]⟩
abbrev S4000000 : Shape := ⟨1, ![4000000]⟩
abbrev S31250x128x4 : Shape := ⟨3, ![31250, 128, 4]⟩
abbrev S31250x4x128 : Shape := ⟨3, ![31250, 4, 128]⟩
abbrev S32x16 : Shape := ⟨2, ![32, 16]⟩
abbrev S2x50x4x128 : Shape := ⟨4, ![2, 50, 4, 128]⟩
abbrev S2x6400 : Shape := ⟨2, ![2, 6400]⟩
abbrev S2x16 : Shape := ⟨2, ![2, 16]⟩
abbrev S2 : Shape := ⟨1, ![2]⟩
abbrev S1x50x4x128 : Shape := ⟨4, ![1, 50, 4, 128]⟩
abbrev S50x4x128 : Shape := ⟨3, ![50, 4, 128]⟩
abbrev S1 : Shape := ⟨1, ![1]⟩
abbrev S_ : Shape := ⟨0, ![]⟩
abbrev S1x6400 : Shape := ⟨2, ![1, 6400]⟩
abbrev S6400 : Shape := ⟨1, ![6400]⟩
abbrev S16 : Shape := ⟨1, ![16]⟩
abbrev S1x16 : Shape := ⟨2, ![1, 16]⟩
abbrev S1x1x1x16 : Shape := ⟨4, ![1, 1, 1, 16]⟩
abbrev S15625x2x128x4 : Shape := ⟨4, ![15625, 2, 128, 4]⟩
abbrev S15625x2x4x128 : Shape := ⟨4, ![15625, 2, 4, 128]⟩
abbrev S15625x8x128 : Shape := ⟨3, ![15625, 8, 128]⟩
abbrev S15625x2x128 : Shape := ⟨3, ![15625, 2, 128]⟩
abbrev S1x2 : Shape := ⟨2, ![1, 2]⟩
abbrev S512x8x128 : Shape := ⟨3, ![512, 8, 128]⟩
abbrev S512x2x128 : Shape := ⟨3, ![512, 2, 128]⟩
abbrev S1x1 : Shape := ⟨2, ![1, 1]⟩
abbrev S512x128 : Shape := ⟨2, ![512, 128]⟩
abbrev S512x1x128 : Shape := ⟨3, ![512, 1, 128]⟩
abbrev S1x512x128 : Shape := ⟨3, ![1, 512, 128]⟩
abbrev S1x1x1 : Shape := ⟨3, ![1, 1, 1]⟩
abbrev S1x512x2x128 : Shape := ⟨4, ![1, 512, 2, 128]⟩
abbrev S1x1x1x1 : Shape := ⟨4, ![1, 1, 1, 1]⟩

abbrev nBuf : Table → Nat
  | .hbm => 30
  | .local .tc .vmem => 9
  | .local .scVector .vmem => 4
  | _ => 0

abbrev bufTy : (tb : Table) → Fin (nBuf tb) → BufTy
  | .hbm, ⟨0, _⟩ => ⟨S4000000x4, .f32⟩
  | .hbm, ⟨1, _⟩ => ⟨S4000000x4, .f32⟩
  | .hbm, ⟨2, _⟩ => ⟨S4000000, .i32⟩
  | .hbm, ⟨3, _⟩ => ⟨S31250x128x4, .f32⟩
  | .hbm, ⟨4, _⟩ => ⟨S31250x4x128, .f32⟩
  | .hbm, ⟨5, _⟩ => ⟨S31250x128x4, .f32⟩
  | .hbm, ⟨6, _⟩ => ⟨S31250x4x128, .f32⟩
  | .hbm, ⟨7, _⟩ => ⟨S32x16, .f32⟩
  | .hbm, ⟨8, _⟩ => ⟨S32x16, .f32⟩
  | .hbm, ⟨9, _⟩ => ⟨S15625x2x128x4, .f32⟩
  | .hbm, ⟨10, _⟩ => ⟨S15625x2x4x128, .f32⟩
  | .hbm, ⟨11, _⟩ => ⟨S15625x8x128, .f32⟩
  | .hbm, ⟨12, _⟩ => ⟨S15625x2x128x4, .f32⟩
  | .hbm, ⟨13, _⟩ => ⟨S15625x2x4x128, .f32⟩
  | .hbm, ⟨14, _⟩ => ⟨S15625x8x128, .f32⟩
  | .hbm, ⟨15, _⟩ => ⟨S15625x2x128, .i32⟩
  | .hbm, ⟨16, _⟩ => ⟨S1x2, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local .tc .vmem, ⟨0, _⟩ => ⟨S512x8x128, .f32⟩
  | .local .tc .vmem, ⟨1, _⟩ => ⟨S512x8x128, .f32⟩
  | .local .tc .vmem, ⟨2, _⟩ => ⟨S512x8x128, .f32⟩
  | .local .tc .vmem, ⟨3, _⟩ => ⟨S512x8x128, .f32⟩
  | .local .tc .vmem, ⟨4, _⟩ => ⟨S512x2x128, .i32⟩
  | .local .tc .vmem, ⟨5, _⟩ => ⟨S512x2x128, .i32⟩
  | .local .tc .vmem, ⟨6, _⟩ => ⟨S1x2, .f32⟩
  | .local .tc .vmem, ⟨7, _⟩ => ⟨S1x1, .f32⟩
  | .local .tc .vmem, ⟨8, _⟩ => ⟨S1x1, .f32⟩
  | .local .scVector .vmem, ⟨0, _⟩ => ⟨S2x50x4x128, .f32⟩
  | .local .scVector .vmem, ⟨1, _⟩ => ⟨S2x50x4x128, .f32⟩
  | .local .scVector .vmem, ⟨2, _⟩ => ⟨S2x6400, .i32⟩
  | .local .scVector .vmem, ⟨3, _⟩ => ⟨S2x16, .f32⟩
  | _, _ => ⟨S4000000x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v1_scv : Ref sig .scVector := ⟨.hbm, 4, rfl⟩
abbrev main_v3_scv : Ref sig .scVector := ⟨.hbm, 6, rfl⟩
abbrev main_arg2_scv : Ref sig .scVector := ⟨.hbm, 2, rfl⟩
abbrev main_v4_0_scv : Ref sig .scVector := ⟨.hbm, 7, rfl⟩
abbrev main_v4_1_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_scratch0 : Ref sig .tc := ⟨.vmem, 7, rfl⟩
abbrev cc1_scratch1 : Ref sig .tc := ⟨.vmem, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c13_i32_2 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let c0_i32_3 : BitVec 32 := 0#32
  let v8 : BitVec 1 := Scalar.cmpi .sgt v7 c0_i32_3
  let v9 : BitVec 32 := Scalar.extui v8
  let c0_i32_4 : BitVec 32 := 0#32
  let v10 : BitVec 1 := Scalar.cmpi .ne v9 c0_i32_4
  v10

def k0_off1 (i : grid0.Coords) : Fin 3 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c0_i32_24 : BitVec 32 := 0#32
  let v48 : BitVec 32 := Scalar.addi v4 c0_i32_24
  let c50_i32 : BitVec 32 := 50#32
  let v49 : BitVec 32 := Scalar.muli v48 c50_i32
  let v50 : BitVec 32 := Scalar.addi c10400_i32 v49
  let c0_i32_30 : BitVec 32 := 0#32
  let c0_i32_31 : BitVec 32 := 0#32
  ![v50.toNat, 0, 0]
def k0_off2 (i : grid0.Coords) : Fin 1 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c0_i32_24 : BitVec 32 := 0#32
  let v48 : BitVec 32 := Scalar.addi v4 c0_i32_24
  let c50_i32 : BitVec 32 := 50#32
  let v49 : BitVec 32 := Scalar.muli v48 c50_i32
  let v50 : BitVec 32 := Scalar.addi c10400_i32 v49
  let c128_i32 : BitVec 32 := 128#32
  let v67 : BitVec 32 := Scalar.muli v50 c128_i32
  ![v67.toNat]
def k0_cond2 (i : grid0.Coords) : BitVec 1 :=
  let c13_i32_2 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let c1_i32_5 : BitVec 32 := 1#32
  let v11 : BitVec 1 := Scalar.cmpi .sgt v7 c1_i32_5
  let v12 : BitVec 32 := Scalar.extui v11
  let c0_i32_6 : BitVec 32 := 0#32
  let v13 : BitVec 1 := Scalar.cmpi .ne v12 c0_i32_6
  v13

def k0_off3 (i : grid0.Coords) : Fin 3 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c1_i32_24 : BitVec 32 := 1#32
  let v48 : BitVec 32 := Scalar.addi v4 c1_i32_24
  let c50_i32 : BitVec 32 := 50#32
  let v49 : BitVec 32 := Scalar.muli v48 c50_i32
  let v50 : BitVec 32 := Scalar.addi c10400_i32 v49
  let c0_i32_30 : BitVec 32 := 0#32
  let c0_i32_31 : BitVec 32 := 0#32
  ![v50.toNat, 0, 0]
def k0_off4 (i : grid0.Coords) : Fin 1 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c1_i32_24 : BitVec 32 := 1#32
  let v48 : BitVec 32 := Scalar.addi v4 c1_i32_24
  let c50_i32 : BitVec 32 := 50#32
  let v49 : BitVec 32 := Scalar.muli v48 c50_i32
  let v50 : BitVec 32 := Scalar.addi c10400_i32 v49
  let c128_i32 : BitVec 32 := 128#32
  let v67 : BitVec 32 := Scalar.muli v50 c128_i32
  ![v67.toNat]
@[reducible] def k0_t1_loop (i : grid0.Coords) : Scf.Loop 32 :=
  let c0_i32_15 : BitVec 32 := 0#32
  let c13_i32_2 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let c1_i32_7 : BitVec 32 := 1#32
  let v15 : BitVec 32 := Scalar.addi v7 c1_i32_7
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32_14 : BitVec 32 := 1#32
  let v31 : BitVec 32 := Scalar.subi v16 c1_i32_14
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_17 : BitVec 32 := 1#32
  ⟨c0_i32_15, v37, c1_i32_17⟩
def k0_cond3 (i : grid0.Coords) (k0_t1 : Fin (k0_t1_loop i).trips) : BitVec 1 :=
  let c2_i32_24 : BitVec 32 := 2#32
  let c0_i32_15 : BitVec 32 := 0#32
  let c1_i32_17 : BitVec 32 := 1#32
  let arg13 : BitVec 32 := Scf.iv c0_i32_15 c1_i32_17 k0_t1
  let v48 : BitVec 32 := Scalar.muli c2_i32_24 arg13
  let c0_i32_25 : BitVec 32 := 0#32
  let v49 : BitVec 32 := Scalar.addi v48 c0_i32_25
  let c13_i32_2 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let v50 : BitVec 1 := Scalar.cmpi .slt v49 v7
  let v51 : BitVec 32 := Scalar.extui v50
  let c0_i32_26 : BitVec 32 := 0#32
  let v52 : BitVec 1 := Scalar.cmpi .ne v51 c0_i32_26
  v52

def k0_off5 (i : grid0.Coords) (k0_t1 : Fin (k0_t1_loop i).trips) : Fin 3 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c2_i32_24 : BitVec 32 := 2#32
  let c0_i32_15 : BitVec 32 := 0#32
  let c1_i32_17 : BitVec 32 := 1#32
  let arg13 : BitVec 32 := Scf.iv c0_i32_15 c1_i32_17 k0_t1
  let v48 : BitVec 32 := Scalar.muli c2_i32_24 arg13
  let c0_i32_25 : BitVec 32 := 0#32
  let v49 : BitVec 32 := Scalar.addi v48 c0_i32_25
  let v84 : BitVec 32 := Scalar.addi v4 v49
  let c50_i32_47 : BitVec 32 := 50#32
  let v85 : BitVec 32 := Scalar.muli v84 c50_i32_47
  let v86 : BitVec 32 := Scalar.addi c10400_i32 v85
  let c0_i32_53 : BitVec 32 := 0#32
  let c0_i32_54 : BitVec 32 := 0#32
  ![v86.toNat, 0, 0]
def k0_off6 (i : grid0.Coords) (k0_t1 : Fin (k0_t1_loop i).trips) : Fin 1 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c2_i32_24 : BitVec 32 := 2#32
  let c0_i32_15 : BitVec 32 := 0#32
  let c1_i32_17 : BitVec 32 := 1#32
  let arg13 : BitVec 32 := Scf.iv c0_i32_15 c1_i32_17 k0_t1
  let v48 : BitVec 32 := Scalar.muli c2_i32_24 arg13
  let c0_i32_25 : BitVec 32 := 0#32
  let v49 : BitVec 32 := Scalar.addi v48 c0_i32_25
  let v84 : BitVec 32 := Scalar.addi v4 v49
  let c50_i32_47 : BitVec 32 := 50#32
  let v85 : BitVec 32 := Scalar.muli v84 c50_i32_47
  let v86 : BitVec 32 := Scalar.addi c10400_i32 v85
  let c128_i32 : BitVec 32 := 128#32
  let v103 : BitVec 32 := Scalar.muli v86 c128_i32
  ![v103.toNat]
@[reducible] def k0_t2_loop : Scf.Loop 32 :=
  let c0_i32_28 : BitVec 32 := 0#32
  let c50_i32 : BitVec 32 := 50#32
  let v54 : BitVec 32 := Scalar.addi c0_i32_28 c50_i32
  let c1_i32_29 : BitVec 32 := 1#32
  ⟨c0_i32_28, v54, c1_i32_29⟩
def k0_off7 (k0_t2 : Fin k0_t2_loop.trips) (c0_i32_47 : BitVec 32) : Fin 2 → Nat :=
  let c0_i32_48 : BitVec 32 := 0#32
  let v86 : Index := Scalar.indexCast c0_i32_48
  let c0_i32_28 : BitVec 32 := 0#32
  let c1_i32_29 : BitVec 32 := 1#32
  let arg16 : BitVec 32 := Scf.iv c0_i32_28 c1_i32_29 k0_t2
  let c128_i32 : BitVec 32 := 128#32
  let v84 : BitVec 32 := Scalar.muli arg16 c128_i32
  let v85 : BitVec 32 := Scalar.addi v84 c0_i32_47
  let v87 : Index := Scalar.indexCast v85
  ![0, v87.toNat]
def k0_off8 (k0_t2 : Fin k0_t2_loop.trips) : Fin 4 → Nat :=
  let c0_i32_52 : BitVec 32 := 0#32
  let v96 : Index := Scalar.indexCast c0_i32_52
  let c0_i32_28 : BitVec 32 := 0#32
  let c1_i32_29 : BitVec 32 := 1#32
  let arg16 : BitVec 32 := Scf.iv c0_i32_28 c1_i32_29 k0_t2
  let v97 : Index := Scalar.indexCast arg16
  let c0_i32_53 : BitVec 32 := 0#32
  let v98 : Index := Scalar.indexCast c0_i32_53
  let c0_54 : Index := 0#32
  ![0, v97.toNat, 0, 0]
def k0_off9 (k0_t2 : Fin k0_t2_loop.trips) : Fin 4 → Nat :=
  let c0_i32_60 : BitVec 32 := 0#32
  let v114 : Index := Scalar.indexCast c0_i32_60
  let c0_i32_28 : BitVec 32 := 0#32
  let c1_i32_29 : BitVec 32 := 1#32
  let arg16 : BitVec 32 := Scf.iv c0_i32_28 c1_i32_29 k0_t2
  let v115 : Index := Scalar.indexCast arg16
  let c1_i32_61 : BitVec 32 := 1#32
  let v116 : Index := Scalar.indexCast c1_i32_61
  let c0_62 : Index := 0#32
  ![0, v115.toNat, 1, 0]
def k0_off10 (k0_t2 : Fin k0_t2_loop.trips) : Fin 4 → Nat :=
  let c0_i32_68 : BitVec 32 := 0#32
  let v133 : Index := Scalar.indexCast c0_i32_68
  let c0_i32_28 : BitVec 32 := 0#32
  let c1_i32_29 : BitVec 32 := 1#32
  let arg16 : BitVec 32 := Scf.iv c0_i32_28 c1_i32_29 k0_t2
  let v134 : Index := Scalar.indexCast arg16
  let c2_i32_69 : BitVec 32 := 2#32
  let v135 : Index := Scalar.indexCast c2_i32_69
  let c0_70 : Index := 0#32
  ![0, v134.toNat, 2, 0]
def k0_off11 (k0_t2 : Fin k0_t2_loop.trips) : Fin 4 → Nat :=
  let c0_i32_76 : BitVec 32 := 0#32
  let v152 : Index := Scalar.indexCast c0_i32_76
  let c0_i32_28 : BitVec 32 := 0#32
  let c1_i32_29 : BitVec 32 := 1#32
  let arg16 : BitVec 32 := Scf.iv c0_i32_28 c1_i32_29 k0_t2
  let v153 : Index := Scalar.indexCast arg16
  let c3_i32 : BitVec 32 := 3#32
  let v154 : Index := Scalar.indexCast c3_i32
  let c0_77 : Index := 0#32
  ![0, v153.toNat, 3, 0]
def k0_off12 (k0_t2 : Fin k0_t2_loop.trips) : Fin 4 → Nat :=
  let c0_i32_89 : BitVec 32 := 0#32
  let v186 : Index := Scalar.indexCast c0_i32_89
  let c0_i32_28 : BitVec 32 := 0#32
  let c1_i32_29 : BitVec 32 := 1#32
  let arg16 : BitVec 32 := Scf.iv c0_i32_28 c1_i32_29 k0_t2
  let v187 : Index := Scalar.indexCast arg16
  let c0_i32_90 : BitVec 32 := 0#32
  let v188 : Index := Scalar.indexCast c0_i32_90
  let c16 : Index := 16#32
  ![0, v187.toNat, 0, 16]
def k0_off13 (k0_t2 : Fin k0_t2_loop.trips) : Fin 4 → Nat :=
  let c0_i32_96 : BitVec 32 := 0#32
  let v204 : Index := Scalar.indexCast c0_i32_96
  let c0_i32_28 : BitVec 32 := 0#32
  let c1_i32_29 : BitVec 32 := 1#32
  let arg16 : BitVec 32 := Scf.iv c0_i32_28 c1_i32_29 k0_t2
  let v205 : Index := Scalar.indexCast arg16
  let c1_i32_97 : BitVec 32 := 1#32
  let v206 : Index := Scalar.indexCast c1_i32_97
  let c16_98 : Index := 16#32
  ![0, v205.toNat, 1, 16]
def k0_off14 (k0_t2 : Fin k0_t2_loop.trips) : Fin 4 → Nat :=
  let c0_i32_104 : BitVec 32 := 0#32
  let v223 : Index := Scalar.indexCast c0_i32_104
  let c0_i32_28 : BitVec 32 := 0#32
  let c1_i32_29 : BitVec 32 := 1#32
  let arg16 : BitVec 32 := Scf.iv c0_i32_28 c1_i32_29 k0_t2
  let v224 : Index := Scalar.indexCast arg16
  let c2_i32_105 : BitVec 32 := 2#32
  let v225 : Index := Scalar.indexCast c2_i32_105
  let c16_106 : Index := 16#32
  ![0, v224.toNat, 2, 16]
def k0_off15 (k0_t2 : Fin k0_t2_loop.trips) : Fin 4 → Nat :=
  let c0_i32_112 : BitVec 32 := 0#32
  let v242 : Index := Scalar.indexCast c0_i32_112
  let c0_i32_28 : BitVec 32 := 0#32
  let c1_i32_29 : BitVec 32 := 1#32
  let arg16 : BitVec 32 := Scf.iv c0_i32_28 c1_i32_29 k0_t2
  let v243 : Index := Scalar.indexCast arg16
  let c3_i32_113 : BitVec 32 := 3#32
  let v244 : Index := Scalar.indexCast c3_i32_113
  let c16_114 : Index := 16#32
  ![0, v243.toNat, 3, 16]
def k0_off16 (k0_t2 : Fin k0_t2_loop.trips) : Fin 4 → Nat :=
  let c0_i32_126 : BitVec 32 := 0#32
  let v276 : Index := Scalar.indexCast c0_i32_126
  let c0_i32_28 : BitVec 32 := 0#32
  let c1_i32_29 : BitVec 32 := 1#32
  let arg16 : BitVec 32 := Scf.iv c0_i32_28 c1_i32_29 k0_t2
  let v277 : Index := Scalar.indexCast arg16
  let c0_i32_127 : BitVec 32 := 0#32
  let v278 : Index := Scalar.indexCast c0_i32_127
  let c32 : Index := 32#32
  ![0, v277.toNat, 0, 32]
def k0_off17 (k0_t2 : Fin k0_t2_loop.trips) : Fin 4 → Nat :=
  let c0_i32_133 : BitVec 32 := 0#32
  let v294 : Index := Scalar.indexCast c0_i32_133
  let c0_i32_28 : BitVec 32 := 0#32
  let c1_i32_29 : BitVec 32 := 1#32
  let arg16 : BitVec 32 := Scf.iv c0_i32_28 c1_i32_29 k0_t2
  let v295 : Index := Scalar.indexCast arg16
  let c1_i32_134 : BitVec 32 := 1#32
  let v296 : Index := Scalar.indexCast c1_i32_134
  let c32_135 : Index := 32#32
  ![0, v295.toNat, 1, 32]
def k0_off18 (k0_t2 : Fin k0_t2_loop.trips) : Fin 4 → Nat :=
  let c0_i32_141 : BitVec 32 := 0#32
  let v313 : Index := Scalar.indexCast c0_i32_141
  let c0_i32_28 : BitVec 32 := 0#32
  let c1_i32_29 : BitVec 32 := 1#32
  let arg16 : BitVec 32 := Scf.iv c0_i32_28 c1_i32_29 k0_t2
  let v314 : Index := Scalar.indexCast arg16
  let c2_i32_142 : BitVec 32 := 2#32
  let v315 : Index := Scalar.indexCast c2_i32_142
  let c32_143 : Index := 32#32
  ![0, v314.toNat, 2, 32]
def k0_off19 (k0_t2 : Fin k0_t2_loop.trips) : Fin 4 → Nat :=
  let c0_i32_149 : BitVec 32 := 0#32
  let v332 : Index := Scalar.indexCast c0_i32_149
  let c0_i32_28 : BitVec 32 := 0#32
  let c1_i32_29 : BitVec 32 := 1#32
  let arg16 : BitVec 32 := Scf.iv c0_i32_28 c1_i32_29 k0_t2
  let v333 : Index := Scalar.indexCast arg16
  let c3_i32_150 : BitVec 32 := 3#32
  let v334 : Index := Scalar.indexCast c3_i32_150
  let c32_151 : Index := 32#32
  ![0, v333.toNat, 3, 32]
def k0_off20 (k0_t2 : Fin k0_t2_loop.trips) : Fin 4 → Nat :=
  let c0_i32_163 : BitVec 32 := 0#32
  let v366 : Index := Scalar.indexCast c0_i32_163
  let c0_i32_28 : BitVec 32 := 0#32
  let c1_i32_29 : BitVec 32 := 1#32
  let arg16 : BitVec 32 := Scf.iv c0_i32_28 c1_i32_29 k0_t2
  let v367 : Index := Scalar.indexCast arg16
  let c0_i32_164 : BitVec 32 := 0#32
  let v368 : Index := Scalar.indexCast c0_i32_164
  let c48 : Index := 48#32
  ![0, v367.toNat, 0, 48]
def k0_off21 (k0_t2 : Fin k0_t2_loop.trips) : Fin 4 → Nat :=
  let c0_i32_170 : BitVec 32 := 0#32
  let v384 : Index := Scalar.indexCast c0_i32_170
  let c0_i32_28 : BitVec 32 := 0#32
  let c1_i32_29 : BitVec 32 := 1#32
  let arg16 : BitVec 32 := Scf.iv c0_i32_28 c1_i32_29 k0_t2
  let v385 : Index := Scalar.indexCast arg16
  let c1_i32_171 : BitVec 32 := 1#32
  let v386 : Index := Scalar.indexCast c1_i32_171
  let c48_172 : Index := 48#32
  ![0, v385.toNat, 1, 48]
def k0_off22 (k0_t2 : Fin k0_t2_loop.trips) : Fin 4 → Nat :=
  let c0_i32_178 : BitVec 32 := 0#32
  let v403 : Index := Scalar.indexCast c0_i32_178
  let c0_i32_28 : BitVec 32 := 0#32
  let c1_i32_29 : BitVec 32 := 1#32
  let arg16 : BitVec 32 := Scf.iv c0_i32_28 c1_i32_29 k0_t2
  let v404 : Index := Scalar.indexCast arg16
  let c2_i32_179 : BitVec 32 := 2#32
  let v405 : Index := Scalar.indexCast c2_i32_179
  let c48_180 : Index := 48#32
  ![0, v404.toNat, 2, 48]
def k0_off23 (k0_t2 : Fin k0_t2_loop.trips) : Fin 4 → Nat :=
  let c0_i32_186 : BitVec 32 := 0#32
  let v422 : Index := Scalar.indexCast c0_i32_186
  let c0_i32_28 : BitVec 32 := 0#32
  let c1_i32_29 : BitVec 32 := 1#32
  let arg16 : BitVec 32 := Scf.iv c0_i32_28 c1_i32_29 k0_t2
  let v423 : Index := Scalar.indexCast arg16
  let c3_i32_187 : BitVec 32 := 3#32
  let v424 : Index := Scalar.indexCast c3_i32_187
  let c48_188 : Index := 48#32
  ![0, v423.toNat, 3, 48]
def k0_off24 (k0_t2 : Fin k0_t2_loop.trips) : Fin 4 → Nat :=
  let c0_i32_200 : BitVec 32 := 0#32
  let v456 : Index := Scalar.indexCast c0_i32_200
  let c0_i32_28 : BitVec 32 := 0#32
  let c1_i32_29 : BitVec 32 := 1#32
  let arg16 : BitVec 32 := Scf.iv c0_i32_28 c1_i32_29 k0_t2
  let v457 : Index := Scalar.indexCast arg16
  let c0_i32_201 : BitVec 32 := 0#32
  let v458 : Index := Scalar.indexCast c0_i32_201
  let c64 : Index := 64#32
  ![0, v457.toNat, 0, 64]
def k0_off25 (k0_t2 : Fin k0_t2_loop.trips) : Fin 4 → Nat :=
  let c0_i32_207 : BitVec 32 := 0#32
  let v474 : Index := Scalar.indexCast c0_i32_207
  let c0_i32_28 : BitVec 32 := 0#32
  let c1_i32_29 : BitVec 32 := 1#32
  let arg16 : BitVec 32 := Scf.iv c0_i32_28 c1_i32_29 k0_t2
  let v475 : Index := Scalar.indexCast arg16
  let c1_i32_208 : BitVec 32 := 1#32
  let v476 : Index := Scalar.indexCast c1_i32_208
  let c64_209 : Index := 64#32
  ![0, v475.toNat, 1, 64]
def k0_off26 (k0_t2 : Fin k0_t2_loop.trips) : Fin 4 → Nat :=
  let c0_i32_215 : BitVec 32 := 0#32
  let v493 : Index := Scalar.indexCast c0_i32_215
  let c0_i32_28 : BitVec 32 := 0#32
  let c1_i32_29 : BitVec 32 := 1#32
  let arg16 : BitVec 32 := Scf.iv c0_i32_28 c1_i32_29 k0_t2
  let v494 : Index := Scalar.indexCast arg16
  let c2_i32_216 : BitVec 32 := 2#32
  let v495 : Index := Scalar.indexCast c2_i32_216
  let c64_217 : Index := 64#32
  ![0, v494.toNat, 2, 64]
def k0_off27 (k0_t2 : Fin k0_t2_loop.trips) : Fin 4 → Nat :=
  let c0_i32_223 : BitVec 32 := 0#32
  let v512 : Index := Scalar.indexCast c0_i32_223
  let c0_i32_28 : BitVec 32 := 0#32
  let c1_i32_29 : BitVec 32 := 1#32
  let arg16 : BitVec 32 := Scf.iv c0_i32_28 c1_i32_29 k0_t2
  let v513 : Index := Scalar.indexCast arg16
  let c3_i32_224 : BitVec 32 := 3#32
  let v514 : Index := Scalar.indexCast c3_i32_224
  let c64_225 : Index := 64#32
  ![0, v513.toNat, 3, 64]
def k0_off28 (k0_t2 : Fin k0_t2_loop.trips) : Fin 4 → Nat :=
  let c0_i32_237 : BitVec 32 := 0#32
  let v546 : Index := Scalar.indexCast c0_i32_237
  let c0_i32_28 : BitVec 32 := 0#32
  let c1_i32_29 : BitVec 32 := 1#32
  let arg16 : BitVec 32 := Scf.iv c0_i32_28 c1_i32_29 k0_t2
  let v547 : Index := Scalar.indexCast arg16
  let c0_i32_238 : BitVec 32 := 0#32
  let v548 : Index := Scalar.indexCast c0_i32_238
  let c80 : Index := 80#32
  ![0, v547.toNat, 0, 80]
def k0_off29 (k0_t2 : Fin k0_t2_loop.trips) : Fin 4 → Nat :=
  let c0_i32_244 : BitVec 32 := 0#32
  let v564 : Index := Scalar.indexCast c0_i32_244
  let c0_i32_28 : BitVec 32 := 0#32
  let c1_i32_29 : BitVec 32 := 1#32
  let arg16 : BitVec 32 := Scf.iv c0_i32_28 c1_i32_29 k0_t2
  let v565 : Index := Scalar.indexCast arg16
  let c1_i32_245 : BitVec 32 := 1#32
  let v566 : Index := Scalar.indexCast c1_i32_245
  let c80_246 : Index := 80#32
  ![0, v565.toNat, 1, 80]
def k0_off30 (k0_t2 : Fin k0_t2_loop.trips) : Fin 4 → Nat :=
  let c0_i32_252 : BitVec 32 := 0#32
  let v583 : Index := Scalar.indexCast c0_i32_252
  let c0_i32_28 : BitVec 32 := 0#32
  let c1_i32_29 : BitVec 32 := 1#32
  let arg16 : BitVec 32 := Scf.iv c0_i32_28 c1_i32_29 k0_t2
  let v584 : Index := Scalar.indexCast arg16
  let c2_i32_253 : BitVec 32 := 2#32
  let v585 : Index := Scalar.indexCast c2_i32_253
  let c80_254 : Index := 80#32
  ![0, v584.toNat, 2, 80]
def k0_off31 (k0_t2 : Fin k0_t2_loop.trips) : Fin 4 → Nat :=
  let c0_i32_260 : BitVec 32 := 0#32
  let v602 : Index := Scalar.indexCast c0_i32_260
  let c0_i32_28 : BitVec 32 := 0#32
  let c1_i32_29 : BitVec 32 := 1#32
  let arg16 : BitVec 32 := Scf.iv c0_i32_28 c1_i32_29 k0_t2
  let v603 : Index := Scalar.indexCast arg16
  let c3_i32_261 : BitVec 32 := 3#32
  let v604 : Index := Scalar.indexCast c3_i32_261
  let c80_262 : Index := 80#32
  ![0, v603.toNat, 3, 80]
def k0_off32 (k0_t2 : Fin k0_t2_loop.trips) : Fin 4 → Nat :=
  let c0_i32_274 : BitVec 32 := 0#32
  let v636 : Index := Scalar.indexCast c0_i32_274
  let c0_i32_28 : BitVec 32 := 0#32
  let c1_i32_29 : BitVec 32 := 1#32
  let arg16 : BitVec 32 := Scf.iv c0_i32_28 c1_i32_29 k0_t2
  let v637 : Index := Scalar.indexCast arg16
  let c0_i32_275 : BitVec 32 := 0#32
  let v638 : Index := Scalar.indexCast c0_i32_275
  let c96 : Index := 96#32
  ![0, v637.toNat, 0, 96]
def k0_off33 (k0_t2 : Fin k0_t2_loop.trips) : Fin 4 → Nat :=
  let c0_i32_281 : BitVec 32 := 0#32
  let v654 : Index := Scalar.indexCast c0_i32_281
  let c0_i32_28 : BitVec 32 := 0#32
  let c1_i32_29 : BitVec 32 := 1#32
  let arg16 : BitVec 32 := Scf.iv c0_i32_28 c1_i32_29 k0_t2
  let v655 : Index := Scalar.indexCast arg16
  let c1_i32_282 : BitVec 32 := 1#32
  let v656 : Index := Scalar.indexCast c1_i32_282
  let c96_283 : Index := 96#32
  ![0, v655.toNat, 1, 96]
def k0_off34 (k0_t2 : Fin k0_t2_loop.trips) : Fin 4 → Nat :=
  let c0_i32_289 : BitVec 32 := 0#32
  let v673 : Index := Scalar.indexCast c0_i32_289
  let c0_i32_28 : BitVec 32 := 0#32
  let c1_i32_29 : BitVec 32 := 1#32
  let arg16 : BitVec 32 := Scf.iv c0_i32_28 c1_i32_29 k0_t2
  let v674 : Index := Scalar.indexCast arg16
  let c2_i32_290 : BitVec 32 := 2#32
  let v675 : Index := Scalar.indexCast c2_i32_290
  let c96_291 : Index := 96#32
  ![0, v674.toNat, 2, 96]
def k0_off35 (k0_t2 : Fin k0_t2_loop.trips) : Fin 4 → Nat :=
  let c0_i32_297 : BitVec 32 := 0#32
  let v692 : Index := Scalar.indexCast c0_i32_297
  let c0_i32_28 : BitVec 32 := 0#32
  let c1_i32_29 : BitVec 32 := 1#32
  let arg16 : BitVec 32 := Scf.iv c0_i32_28 c1_i32_29 k0_t2
  let v693 : Index := Scalar.indexCast arg16
  let c3_i32_298 : BitVec 32 := 3#32
  let v694 : Index := Scalar.indexCast c3_i32_298
  let c96_299 : Index := 96#32
  ![0, v693.toNat, 3, 96]
def k0_off36 (k0_t2 : Fin k0_t2_loop.trips) : Fin 4 → Nat :=
  let c0_i32_311 : BitVec 32 := 0#32
  let v726 : Index := Scalar.indexCast c0_i32_311
  let c0_i32_28 : BitVec 32 := 0#32
  let c1_i32_29 : BitVec 32 := 1#32
  let arg16 : BitVec 32 := Scf.iv c0_i32_28 c1_i32_29 k0_t2
  let v727 : Index := Scalar.indexCast arg16
  let c0_i32_312 : BitVec 32 := 0#32
  let v728 : Index := Scalar.indexCast c0_i32_312
  let c112 : Index := 112#32
  ![0, v727.toNat, 0, 112]
def k0_off37 (k0_t2 : Fin k0_t2_loop.trips) : Fin 4 → Nat :=
  let c0_i32_318 : BitVec 32 := 0#32
  let v744 : Index := Scalar.indexCast c0_i32_318
  let c0_i32_28 : BitVec 32 := 0#32
  let c1_i32_29 : BitVec 32 := 1#32
  let arg16 : BitVec 32 := Scf.iv c0_i32_28 c1_i32_29 k0_t2
  let v745 : Index := Scalar.indexCast arg16
  let c1_i32_319 : BitVec 32 := 1#32
  let v746 : Index := Scalar.indexCast c1_i32_319
  let c112_320 : Index := 112#32
  ![0, v745.toNat, 1, 112]
def k0_off38 (k0_t2 : Fin k0_t2_loop.trips) : Fin 4 → Nat :=
  let c0_i32_326 : BitVec 32 := 0#32
  let v763 : Index := Scalar.indexCast c0_i32_326
  let c0_i32_28 : BitVec 32 := 0#32
  let c1_i32_29 : BitVec 32 := 1#32
  let arg16 : BitVec 32 := Scf.iv c0_i32_28 c1_i32_29 k0_t2
  let v764 : Index := Scalar.indexCast arg16
  let c2_i32_327 : BitVec 32 := 2#32
  let v765 : Index := Scalar.indexCast c2_i32_327
  let c112_328 : Index := 112#32
  ![0, v764.toNat, 2, 112]
def k0_off39 (k0_t2 : Fin k0_t2_loop.trips) : Fin 4 → Nat :=
  let c0_i32_334 : BitVec 32 := 0#32
  let v782 : Index := Scalar.indexCast c0_i32_334
  let c0_i32_28 : BitVec 32 := 0#32
  let c1_i32_29 : BitVec 32 := 1#32
  let arg16 : BitVec 32 := Scf.iv c0_i32_28 c1_i32_29 k0_t2
  let v783 : Index := Scalar.indexCast arg16
  let c3_i32_335 : BitVec 32 := 3#32
  let v784 : Index := Scalar.indexCast c3_i32_335
  let c112_336 : Index := 112#32
  ![0, v783.toNat, 3, 112]
def k0_cond4 (i : grid0.Coords) (k0_t1 : Fin (k0_t1_loop i).trips) : BitVec 1 :=
  let c2_i32_24 : BitVec 32 := 2#32
  let c0_i32_15 : BitVec 32 := 0#32
  let c1_i32_17 : BitVec 32 := 1#32
  let arg13 : BitVec 32 := Scf.iv c0_i32_15 c1_i32_17 k0_t1
  let v48 : BitVec 32 := Scalar.muli c2_i32_24 arg13
  let c0_i32_25 : BitVec 32 := 0#32
  let v49 : BitVec 32 := Scalar.addi v48 c0_i32_25
  let c2_i32_33 : BitVec 32 := 2#32
  let v62 : BitVec 32 := Scalar.addi v49 c2_i32_33
  let c13_i32_2 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let v63 : BitVec 1 := Scalar.cmpi .slt v62 v7
  let v64 : BitVec 32 := Scalar.extui v63
  let c0_i32_34 : BitVec 32 := 0#32
  let v65 : BitVec 1 := Scalar.cmpi .ne v64 c0_i32_34
  v65

def k0_off40 (i : grid0.Coords) (k0_t1 : Fin (k0_t1_loop i).trips) : Fin 3 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c2_i32_24 : BitVec 32 := 2#32
  let c0_i32_15 : BitVec 32 := 0#32
  let c1_i32_17 : BitVec 32 := 1#32
  let arg13 : BitVec 32 := Scf.iv c0_i32_15 c1_i32_17 k0_t1
  let v48 : BitVec 32 := Scalar.muli c2_i32_24 arg13
  let c0_i32_25 : BitVec 32 := 0#32
  let v49 : BitVec 32 := Scalar.addi v48 c0_i32_25
  let c2_i32_47 : BitVec 32 := 2#32
  let v84 : BitVec 32 := Scalar.addi v49 c2_i32_47
  let v85 : BitVec 32 := Scalar.addi v4 v84
  let c50_i32_48 : BitVec 32 := 50#32
  let v86 : BitVec 32 := Scalar.muli v85 c50_i32_48
  let v87 : BitVec 32 := Scalar.addi c10400_i32 v86
  let c0_i32_54 : BitVec 32 := 0#32
  let c0_i32_55 : BitVec 32 := 0#32
  ![v87.toNat, 0, 0]
def k0_off41 (i : grid0.Coords) (k0_t1 : Fin (k0_t1_loop i).trips) : Fin 1 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c2_i32_24 : BitVec 32 := 2#32
  let c0_i32_15 : BitVec 32 := 0#32
  let c1_i32_17 : BitVec 32 := 1#32
  let arg13 : BitVec 32 := Scf.iv c0_i32_15 c1_i32_17 k0_t1
  let v48 : BitVec 32 := Scalar.muli c2_i32_24 arg13
  let c0_i32_25 : BitVec 32 := 0#32
  let v49 : BitVec 32 := Scalar.addi v48 c0_i32_25
  let c2_i32_47 : BitVec 32 := 2#32
  let v84 : BitVec 32 := Scalar.addi v49 c2_i32_47
  let v85 : BitVec 32 := Scalar.addi v4 v84
  let c50_i32_48 : BitVec 32 := 50#32
  let v86 : BitVec 32 := Scalar.muli v85 c50_i32_48
  let v87 : BitVec 32 := Scalar.addi c10400_i32 v86
  let c128_i32 : BitVec 32 := 128#32
  let v104 : BitVec 32 := Scalar.muli v87 c128_i32
  ![v104.toNat]
def k0_cond5 (i : grid0.Coords) (k0_t1 : Fin (k0_t1_loop i).trips) : BitVec 1 :=
  let c2_i32_35 : BitVec 32 := 2#32
  let c0_i32_15 : BitVec 32 := 0#32
  let c1_i32_17 : BitVec 32 := 1#32
  let arg13 : BitVec 32 := Scf.iv c0_i32_15 c1_i32_17 k0_t1
  let v66 : BitVec 32 := Scalar.muli c2_i32_35 arg13
  let c1_i32_36 : BitVec 32 := 1#32
  let v67 : BitVec 32 := Scalar.addi v66 c1_i32_36
  let c13_i32_2 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let v68 : BitVec 1 := Scalar.cmpi .slt v67 v7
  let v69 : BitVec 32 := Scalar.extui v68
  let c0_i32_37 : BitVec 32 := 0#32
  let v70 : BitVec 1 := Scalar.cmpi .ne v69 c0_i32_37
  v70

def k0_off42 (i : grid0.Coords) (k0_t1 : Fin (k0_t1_loop i).trips) : Fin 3 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c2_i32_35 : BitVec 32 := 2#32
  let c0_i32_15 : BitVec 32 := 0#32
  let c1_i32_17 : BitVec 32 := 1#32
  let arg13 : BitVec 32 := Scf.iv c0_i32_15 c1_i32_17 k0_t1
  let v66 : BitVec 32 := Scalar.muli c2_i32_35 arg13
  let c1_i32_36 : BitVec 32 := 1#32
  let v67 : BitVec 32 := Scalar.addi v66 c1_i32_36
  let v84 : BitVec 32 := Scalar.addi v4 v67
  let c50_i32_47 : BitVec 32 := 50#32
  let v85 : BitVec 32 := Scalar.muli v84 c50_i32_47
  let v86 : BitVec 32 := Scalar.addi c10400_i32 v85
  let c0_i32_53 : BitVec 32 := 0#32
  let c0_i32_54 : BitVec 32 := 0#32
  ![v86.toNat, 0, 0]
def k0_off43 (i : grid0.Coords) (k0_t1 : Fin (k0_t1_loop i).trips) : Fin 1 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c2_i32_35 : BitVec 32 := 2#32
  let c0_i32_15 : BitVec 32 := 0#32
  let c1_i32_17 : BitVec 32 := 1#32
  let arg13 : BitVec 32 := Scf.iv c0_i32_15 c1_i32_17 k0_t1
  let v66 : BitVec 32 := Scalar.muli c2_i32_35 arg13
  let c1_i32_36 : BitVec 32 := 1#32
  let v67 : BitVec 32 := Scalar.addi v66 c1_i32_36
  let v84 : BitVec 32 := Scalar.addi v4 v67
  let c50_i32_47 : BitVec 32 := 50#32
  let v85 : BitVec 32 := Scalar.muli v84 c50_i32_47
  let v86 : BitVec 32 := Scalar.addi c10400_i32 v85
  let c128_i32 : BitVec 32 := 128#32
  let v103 : BitVec 32 := Scalar.muli v86 c128_i32
  ![v103.toNat]
@[reducible] def k0_t3_loop : Scf.Loop 32 :=
  let c0_i32_39 : BitVec 32 := 0#32
  let c50_i32_40 : BitVec 32 := 50#32
  let v72 : BitVec 32 := Scalar.addi c0_i32_39 c50_i32_40
  let c1_i32_41 : BitVec 32 := 1#32
  ⟨c0_i32_39, v72, c1_i32_41⟩
def k0_off44 (k0_t3 : Fin k0_t3_loop.trips) (c0_i32_47 : BitVec 32) : Fin 2 → Nat :=
  let c1_i32_48 : BitVec 32 := 1#32
  let v86 : Index := Scalar.indexCast c1_i32_48
  let c0_i32_39 : BitVec 32 := 0#32
  let c1_i32_41 : BitVec 32 := 1#32
  let arg16 : BitVec 32 := Scf.iv c0_i32_39 c1_i32_41 k0_t3
  let c128_i32 : BitVec 32 := 128#32
  let v84 : BitVec 32 := Scalar.muli arg16 c128_i32
  let v85 : BitVec 32 := Scalar.addi v84 c0_i32_47
  let v87 : Index := Scalar.indexCast v85
  ![1, v87.toNat]
def k0_off45 (k0_t3 : Fin k0_t3_loop.trips) : Fin 4 → Nat :=
  let c1_i32_52 : BitVec 32 := 1#32
  let v96 : Index := Scalar.indexCast c1_i32_52
  let c0_i32_39 : BitVec 32 := 0#32
  let c1_i32_41 : BitVec 32 := 1#32
  let arg16 : BitVec 32 := Scf.iv c0_i32_39 c1_i32_41 k0_t3
  let v97 : Index := Scalar.indexCast arg16
  let c0_i32_53 : BitVec 32 := 0#32
  let v98 : Index := Scalar.indexCast c0_i32_53
  let c0_54 : Index := 0#32
  ![1, v97.toNat, 0, 0]
def k0_off46 (k0_t3 : Fin k0_t3_loop.trips) : Fin 4 → Nat :=
  let c1_i32_60 : BitVec 32 := 1#32
  let v114 : Index := Scalar.indexCast c1_i32_60
  let c0_i32_39 : BitVec 32 := 0#32
  let c1_i32_41 : BitVec 32 := 1#32
  let arg16 : BitVec 32 := Scf.iv c0_i32_39 c1_i32_41 k0_t3
  let v115 : Index := Scalar.indexCast arg16
  let c1_i32_61 : BitVec 32 := 1#32
  let v116 : Index := Scalar.indexCast c1_i32_61
  let c0_62 : Index := 0#32
  ![1, v115.toNat, 1, 0]
def k0_off47 (k0_t3 : Fin k0_t3_loop.trips) : Fin 4 → Nat :=
  let c1_i32_68 : BitVec 32 := 1#32
  let v133 : Index := Scalar.indexCast c1_i32_68
  let c0_i32_39 : BitVec 32 := 0#32
  let c1_i32_41 : BitVec 32 := 1#32
  let arg16 : BitVec 32 := Scf.iv c0_i32_39 c1_i32_41 k0_t3
  let v134 : Index := Scalar.indexCast arg16
  let c2_i32_69 : BitVec 32 := 2#32
  let v135 : Index := Scalar.indexCast c2_i32_69
  let c0_70 : Index := 0#32
  ![1, v134.toNat, 2, 0]
def k0_off48 (k0_t3 : Fin k0_t3_loop.trips) : Fin 4 → Nat :=
  let c1_i32_76 : BitVec 32 := 1#32
  let v152 : Index := Scalar.indexCast c1_i32_76
  let c0_i32_39 : BitVec 32 := 0#32
  let c1_i32_41 : BitVec 32 := 1#32
  let arg16 : BitVec 32 := Scf.iv c0_i32_39 c1_i32_41 k0_t3
  let v153 : Index := Scalar.indexCast arg16
  let c3_i32 : BitVec 32 := 3#32
  let v154 : Index := Scalar.indexCast c3_i32
  let c0_77 : Index := 0#32
  ![1, v153.toNat, 3, 0]
def k0_off49 (k0_t3 : Fin k0_t3_loop.trips) : Fin 4 → Nat :=
  let c1_i32_89 : BitVec 32 := 1#32
  let v186 : Index := Scalar.indexCast c1_i32_89
  let c0_i32_39 : BitVec 32 := 0#32
  let c1_i32_41 : BitVec 32 := 1#32
  let arg16 : BitVec 32 := Scf.iv c0_i32_39 c1_i32_41 k0_t3
  let v187 : Index := Scalar.indexCast arg16
  let c0_i32_90 : BitVec 32 := 0#32
  let v188 : Index := Scalar.indexCast c0_i32_90
  let c16 : Index := 16#32
  ![1, v187.toNat, 0, 16]
def k0_off50 (k0_t3 : Fin k0_t3_loop.trips) : Fin 4 → Nat :=
  let c1_i32_96 : BitVec 32 := 1#32
  let v204 : Index := Scalar.indexCast c1_i32_96
  let c0_i32_39 : BitVec 32 := 0#32
  let c1_i32_41 : BitVec 32 := 1#32
  let arg16 : BitVec 32 := Scf.iv c0_i32_39 c1_i32_41 k0_t3
  let v205 : Index := Scalar.indexCast arg16
  let c1_i32_97 : BitVec 32 := 1#32
  let v206 : Index := Scalar.indexCast c1_i32_97
  let c16_98 : Index := 16#32
  ![1, v205.toNat, 1, 16]
def k0_off51 (k0_t3 : Fin k0_t3_loop.trips) : Fin 4 → Nat :=
  let c1_i32_104 : BitVec 32 := 1#32
  let v223 : Index := Scalar.indexCast c1_i32_104
  let c0_i32_39 : BitVec 32 := 0#32
  let c1_i32_41 : BitVec 32 := 1#32
  let arg16 : BitVec 32 := Scf.iv c0_i32_39 c1_i32_41 k0_t3
  let v224 : Index := Scalar.indexCast arg16
  let c2_i32_105 : BitVec 32 := 2#32
  let v225 : Index := Scalar.indexCast c2_i32_105
  let c16_106 : Index := 16#32
  ![1, v224.toNat, 2, 16]
def k0_off52 (k0_t3 : Fin k0_t3_loop.trips) : Fin 4 → Nat :=
  let c1_i32_112 : BitVec 32 := 1#32
  let v242 : Index := Scalar.indexCast c1_i32_112
  let c0_i32_39 : BitVec 32 := 0#32
  let c1_i32_41 : BitVec 32 := 1#32
  let arg16 : BitVec 32 := Scf.iv c0_i32_39 c1_i32_41 k0_t3
  let v243 : Index := Scalar.indexCast arg16
  let c3_i32_113 : BitVec 32 := 3#32
  let v244 : Index := Scalar.indexCast c3_i32_113
  let c16_114 : Index := 16#32
  ![1, v243.toNat, 3, 16]
def k0_off53 (k0_t3 : Fin k0_t3_loop.trips) : Fin 4 → Nat :=
  let c1_i32_126 : BitVec 32 := 1#32
  let v276 : Index := Scalar.indexCast c1_i32_126
  let c0_i32_39 : BitVec 32 := 0#32
  let c1_i32_41 : BitVec 32 := 1#32
  let arg16 : BitVec 32 := Scf.iv c0_i32_39 c1_i32_41 k0_t3
  let v277 : Index := Scalar.indexCast arg16
  let c0_i32_127 : BitVec 32 := 0#32
  let v278 : Index := Scalar.indexCast c0_i32_127
  let c32 : Index := 32#32
  ![1, v277.toNat, 0, 32]
def k0_off54 (k0_t3 : Fin k0_t3_loop.trips) : Fin 4 → Nat :=
  let c1_i32_133 : BitVec 32 := 1#32
  let v294 : Index := Scalar.indexCast c1_i32_133
  let c0_i32_39 : BitVec 32 := 0#32
  let c1_i32_41 : BitVec 32 := 1#32
  let arg16 : BitVec 32 := Scf.iv c0_i32_39 c1_i32_41 k0_t3
  let v295 : Index := Scalar.indexCast arg16
  let c1_i32_134 : BitVec 32 := 1#32
  let v296 : Index := Scalar.indexCast c1_i32_134
  let c32_135 : Index := 32#32
  ![1, v295.toNat, 1, 32]
def k0_off55 (k0_t3 : Fin k0_t3_loop.trips) : Fin 4 → Nat :=
  let c1_i32_141 : BitVec 32 := 1#32
  let v313 : Index := Scalar.indexCast c1_i32_141
  let c0_i32_39 : BitVec 32 := 0#32
  let c1_i32_41 : BitVec 32 := 1#32
  let arg16 : BitVec 32 := Scf.iv c0_i32_39 c1_i32_41 k0_t3
  let v314 : Index := Scalar.indexCast arg16
  let c2_i32_142 : BitVec 32 := 2#32
  let v315 : Index := Scalar.indexCast c2_i32_142
  let c32_143 : Index := 32#32
  ![1, v314.toNat, 2, 32]
def k0_off56 (k0_t3 : Fin k0_t3_loop.trips) : Fin 4 → Nat :=
  let c1_i32_149 : BitVec 32 := 1#32
  let v332 : Index := Scalar.indexCast c1_i32_149
  let c0_i32_39 : BitVec 32 := 0#32
  let c1_i32_41 : BitVec 32 := 1#32
  let arg16 : BitVec 32 := Scf.iv c0_i32_39 c1_i32_41 k0_t3
  let v333 : Index := Scalar.indexCast arg16
  let c3_i32_150 : BitVec 32 := 3#32
  let v334 : Index := Scalar.indexCast c3_i32_150
  let c32_151 : Index := 32#32
  ![1, v333.toNat, 3, 32]
def k0_off57 (k0_t3 : Fin k0_t3_loop.trips) : Fin 4 → Nat :=
  let c1_i32_163 : BitVec 32 := 1#32
  let v366 : Index := Scalar.indexCast c1_i32_163
  let c0_i32_39 : BitVec 32 := 0#32
  let c1_i32_41 : BitVec 32 := 1#32
  let arg16 : BitVec 32 := Scf.iv c0_i32_39 c1_i32_41 k0_t3
  let v367 : Index := Scalar.indexCast arg16
  let c0_i32_164 : BitVec 32 := 0#32
  let v368 : Index := Scalar.indexCast c0_i32_164
  let c48 : Index := 48#32
  ![1, v367.toNat, 0, 48]
def k0_off58 (k0_t3 : Fin k0_t3_loop.trips) : Fin 4 → Nat :=
  let c1_i32_170 : BitVec 32 := 1#32
  let v384 : Index := Scalar.indexCast c1_i32_170
  let c0_i32_39 : BitVec 32 := 0#32
  let c1_i32_41 : BitVec 32 := 1#32
  let arg16 : BitVec 32 := Scf.iv c0_i32_39 c1_i32_41 k0_t3
  let v385 : Index := Scalar.indexCast arg16
  let c1_i32_171 : BitVec 32 := 1#32
  let v386 : Index := Scalar.indexCast c1_i32_171
  let c48_172 : Index := 48#32
  ![1, v385.toNat, 1, 48]
def k0_off59 (k0_t3 : Fin k0_t3_loop.trips) : Fin 4 → Nat :=
  let c1_i32_178 : BitVec 32 := 1#32
  let v403 : Index := Scalar.indexCast c1_i32_178
  let c0_i32_39 : BitVec 32 := 0#32
  let c1_i32_41 : BitVec 32 := 1#32
  let arg16 : BitVec 32 := Scf.iv c0_i32_39 c1_i32_41 k0_t3
  let v404 : Index := Scalar.indexCast arg16
  let c2_i32_179 : BitVec 32 := 2#32
  let v405 : Index := Scalar.indexCast c2_i32_179
  let c48_180 : Index := 48#32
  ![1, v404.toNat, 2, 48]
def k0_off60 (k0_t3 : Fin k0_t3_loop.trips) : Fin 4 → Nat :=
  let c1_i32_186 : BitVec 32 := 1#32
  let v422 : Index := Scalar.indexCast c1_i32_186
  let c0_i32_39 : BitVec 32 := 0#32
  let c1_i32_41 : BitVec 32 := 1#32
  let arg16 : BitVec 32 := Scf.iv c0_i32_39 c1_i32_41 k0_t3
  let v423 : Index := Scalar.indexCast arg16
  let c3_i32_187 : BitVec 32 := 3#32
  let v424 : Index := Scalar.indexCast c3_i32_187
  let c48_188 : Index := 48#32
  ![1, v423.toNat, 3, 48]
def k0_off61 (k0_t3 : Fin k0_t3_loop.trips) : Fin 4 → Nat :=
  let c1_i32_200 : BitVec 32 := 1#32
  let v456 : Index := Scalar.indexCast c1_i32_200
  let c0_i32_39 : BitVec 32 := 0#32
  let c1_i32_41 : BitVec 32 := 1#32
  let arg16 : BitVec 32 := Scf.iv c0_i32_39 c1_i32_41 k0_t3
  let v457 : Index := Scalar.indexCast arg16
  let c0_i32_201 : BitVec 32 := 0#32
  let v458 : Index := Scalar.indexCast c0_i32_201
  let c64 : Index := 64#32
  ![1, v457.toNat, 0, 64]
def k0_off62 (k0_t3 : Fin k0_t3_loop.trips) : Fin 4 → Nat :=
  let c1_i32_207 : BitVec 32 := 1#32
  let v474 : Index := Scalar.indexCast c1_i32_207
  let c0_i32_39 : BitVec 32 := 0#32
  let c1_i32_41 : BitVec 32 := 1#32
  let arg16 : BitVec 32 := Scf.iv c0_i32_39 c1_i32_41 k0_t3
  let v475 : Index := Scalar.indexCast arg16
  let c1_i32_208 : BitVec 32 := 1#32
  let v476 : Index := Scalar.indexCast c1_i32_208
  let c64_209 : Index := 64#32
  ![1, v475.toNat, 1, 64]
def k0_off63 (k0_t3 : Fin k0_t3_loop.trips) : Fin 4 → Nat :=
  let c1_i32_215 : BitVec 32 := 1#32
  let v493 : Index := Scalar.indexCast c1_i32_215
  let c0_i32_39 : BitVec 32 := 0#32
  let c1_i32_41 : BitVec 32 := 1#32
  let arg16 : BitVec 32 := Scf.iv c0_i32_39 c1_i32_41 k0_t3
  let v494 : Index := Scalar.indexCast arg16
  let c2_i32_216 : BitVec 32 := 2#32
  let v495 : Index := Scalar.indexCast c2_i32_216
  let c64_217 : Index := 64#32
  ![1, v494.toNat, 2, 64]
def k0_off64 (k0_t3 : Fin k0_t3_loop.trips) : Fin 4 → Nat :=
  let c1_i32_223 : BitVec 32 := 1#32
  let v512 : Index := Scalar.indexCast c1_i32_223
  let c0_i32_39 : BitVec 32 := 0#32
  let c1_i32_41 : BitVec 32 := 1#32
  let arg16 : BitVec 32 := Scf.iv c0_i32_39 c1_i32_41 k0_t3
  let v513 : Index := Scalar.indexCast arg16
  let c3_i32_224 : BitVec 32 := 3#32
  let v514 : Index := Scalar.indexCast c3_i32_224
  let c64_225 : Index := 64#32
  ![1, v513.toNat, 3, 64]
def k0_off65 (k0_t3 : Fin k0_t3_loop.trips) : Fin 4 → Nat :=
  let c1_i32_237 : BitVec 32 := 1#32
  let v546 : Index := Scalar.indexCast c1_i32_237
  let c0_i32_39 : BitVec 32 := 0#32
  let c1_i32_41 : BitVec 32 := 1#32
  let arg16 : BitVec 32 := Scf.iv c0_i32_39 c1_i32_41 k0_t3
  let v547 : Index := Scalar.indexCast arg16
  let c0_i32_238 : BitVec 32 := 0#32
  let v548 : Index := Scalar.indexCast c0_i32_238
  let c80 : Index := 80#32
  ![1, v547.toNat, 0, 80]
def k0_off66 (k0_t3 : Fin k0_t3_loop.trips) : Fin 4 → Nat :=
  let c1_i32_244 : BitVec 32 := 1#32
  let v564 : Index := Scalar.indexCast c1_i32_244
  let c0_i32_39 : BitVec 32 := 0#32
  let c1_i32_41 : BitVec 32 := 1#32
  let arg16 : BitVec 32 := Scf.iv c0_i32_39 c1_i32_41 k0_t3
  let v565 : Index := Scalar.indexCast arg16
  let c1_i32_245 : BitVec 32 := 1#32
  let v566 : Index := Scalar.indexCast c1_i32_245
  let c80_246 : Index := 80#32
  ![1, v565.toNat, 1, 80]
def k0_off67 (k0_t3 : Fin k0_t3_loop.trips) : Fin 4 → Nat :=
  let c1_i32_252 : BitVec 32 := 1#32
  let v583 : Index := Scalar.indexCast c1_i32_252
  let c0_i32_39 : BitVec 32 := 0#32
  let c1_i32_41 : BitVec 32 := 1#32
  let arg16 : BitVec 32 := Scf.iv c0_i32_39 c1_i32_41 k0_t3
  let v584 : Index := Scalar.indexCast arg16
  let c2_i32_253 : BitVec 32 := 2#32
  let v585 : Index := Scalar.indexCast c2_i32_253
  let c80_254 : Index := 80#32
  ![1, v584.toNat, 2, 80]
def k0_off68 (k0_t3 : Fin k0_t3_loop.trips) : Fin 4 → Nat :=
  let c1_i32_260 : BitVec 32 := 1#32
  let v602 : Index := Scalar.indexCast c1_i32_260
  let c0_i32_39 : BitVec 32 := 0#32
  let c1_i32_41 : BitVec 32 := 1#32
  let arg16 : BitVec 32 := Scf.iv c0_i32_39 c1_i32_41 k0_t3
  let v603 : Index := Scalar.indexCast arg16
  let c3_i32_261 : BitVec 32 := 3#32
  let v604 : Index := Scalar.indexCast c3_i32_261
  let c80_262 : Index := 80#32
  ![1, v603.toNat, 3, 80]
def k0_off69 (k0_t3 : Fin k0_t3_loop.trips) : Fin 4 → Nat :=
  let c1_i32_274 : BitVec 32 := 1#32
  let v636 : Index := Scalar.indexCast c1_i32_274
  let c0_i32_39 : BitVec 32 := 0#32
  let c1_i32_41 : BitVec 32 := 1#32
  let arg16 : BitVec 32 := Scf.iv c0_i32_39 c1_i32_41 k0_t3
  let v637 : Index := Scalar.indexCast arg16
  let c0_i32_275 : BitVec 32 := 0#32
  let v638 : Index := Scalar.indexCast c0_i32_275
  let c96 : Index := 96#32
  ![1, v637.toNat, 0, 96]
def k0_off70 (k0_t3 : Fin k0_t3_loop.trips) : Fin 4 → Nat :=
  let c1_i32_281 : BitVec 32 := 1#32
  let v654 : Index := Scalar.indexCast c1_i32_281
  let c0_i32_39 : BitVec 32 := 0#32
  let c1_i32_41 : BitVec 32 := 1#32
  let arg16 : BitVec 32 := Scf.iv c0_i32_39 c1_i32_41 k0_t3
  let v655 : Index := Scalar.indexCast arg16
  let c1_i32_282 : BitVec 32 := 1#32
  let v656 : Index := Scalar.indexCast c1_i32_282
  let c96_283 : Index := 96#32
  ![1, v655.toNat, 1, 96]
def k0_off71 (k0_t3 : Fin k0_t3_loop.trips) : Fin 4 → Nat :=
  let c1_i32_289 : BitVec 32 := 1#32
  let v673 : Index := Scalar.indexCast c1_i32_289
  let c0_i32_39 : BitVec 32 := 0#32
  let c1_i32_41 : BitVec 32 := 1#32
  let arg16 : BitVec 32 := Scf.iv c0_i32_39 c1_i32_41 k0_t3
  let v674 : Index := Scalar.indexCast arg16
  let c2_i32_290 : BitVec 32 := 2#32
  let v675 : Index := Scalar.indexCast c2_i32_290
  let c96_291 : Index := 96#32
  ![1, v674.toNat, 2, 96]
def k0_off72 (k0_t3 : Fin k0_t3_loop.trips) : Fin 4 → Nat :=
  let c1_i32_297 : BitVec 32 := 1#32
  let v692 : Index := Scalar.indexCast c1_i32_297
  let c0_i32_39 : BitVec 32 := 0#32
  let c1_i32_41 : BitVec 32 := 1#32
  let arg16 : BitVec 32 := Scf.iv c0_i32_39 c1_i32_41 k0_t3
  let v693 : Index := Scalar.indexCast arg16
  let c3_i32_298 : BitVec 32 := 3#32
  let v694 : Index := Scalar.indexCast c3_i32_298
  let c96_299 : Index := 96#32
  ![1, v693.toNat, 3, 96]
def k0_off73 (k0_t3 : Fin k0_t3_loop.trips) : Fin 4 → Nat :=
  let c1_i32_311 : BitVec 32 := 1#32
  let v726 : Index := Scalar.indexCast c1_i32_311
  let c0_i32_39 : BitVec 32 := 0#32
  let c1_i32_41 : BitVec 32 := 1#32
  let arg16 : BitVec 32 := Scf.iv c0_i32_39 c1_i32_41 k0_t3
  let v727 : Index := Scalar.indexCast arg16
  let c0_i32_312 : BitVec 32 := 0#32
  let v728 : Index := Scalar.indexCast c0_i32_312
  let c112 : Index := 112#32
  ![1, v727.toNat, 0, 112]
def k0_off74 (k0_t3 : Fin k0_t3_loop.trips) : Fin 4 → Nat :=
  let c1_i32_318 : BitVec 32 := 1#32
  let v744 : Index := Scalar.indexCast c1_i32_318
  let c0_i32_39 : BitVec 32 := 0#32
  let c1_i32_41 : BitVec 32 := 1#32
  let arg16 : BitVec 32 := Scf.iv c0_i32_39 c1_i32_41 k0_t3
  let v745 : Index := Scalar.indexCast arg16
  let c1_i32_319 : BitVec 32 := 1#32
  let v746 : Index := Scalar.indexCast c1_i32_319
  let c112_320 : Index := 112#32
  ![1, v745.toNat, 1, 112]
def k0_off75 (k0_t3 : Fin k0_t3_loop.trips) : Fin 4 → Nat :=
  let c1_i32_326 : BitVec 32 := 1#32
  let v763 : Index := Scalar.indexCast c1_i32_326
  let c0_i32_39 : BitVec 32 := 0#32
  let c1_i32_41 : BitVec 32 := 1#32
  let arg16 : BitVec 32 := Scf.iv c0_i32_39 c1_i32_41 k0_t3
  let v764 : Index := Scalar.indexCast arg16
  let c2_i32_327 : BitVec 32 := 2#32
  let v765 : Index := Scalar.indexCast c2_i32_327
  let c112_328 : Index := 112#32
  ![1, v764.toNat, 2, 112]
def k0_off76 (k0_t3 : Fin k0_t3_loop.trips) : Fin 4 → Nat :=
  let c1_i32_334 : BitVec 32 := 1#32
  let v782 : Index := Scalar.indexCast c1_i32_334
  let c0_i32_39 : BitVec 32 := 0#32
  let c1_i32_41 : BitVec 32 := 1#32
  let arg16 : BitVec 32 := Scf.iv c0_i32_39 c1_i32_41 k0_t3
  let v783 : Index := Scalar.indexCast arg16
  let c3_i32_335 : BitVec 32 := 3#32
  let v784 : Index := Scalar.indexCast c3_i32_335
  let c112_336 : Index := 112#32
  ![1, v783.toNat, 3, 112]
def k0_cond6 (i : grid0.Coords) (k0_t1 : Fin (k0_t1_loop i).trips) : BitVec 1 :=
  let c2_i32_35 : BitVec 32 := 2#32
  let c0_i32_15 : BitVec 32 := 0#32
  let c1_i32_17 : BitVec 32 := 1#32
  let arg13 : BitVec 32 := Scf.iv c0_i32_15 c1_i32_17 k0_t1
  let v66 : BitVec 32 := Scalar.muli c2_i32_35 arg13
  let c1_i32_36 : BitVec 32 := 1#32
  let v67 : BitVec 32 := Scalar.addi v66 c1_i32_36
  let c2_i32_45 : BitVec 32 := 2#32
  let v80 : BitVec 32 := Scalar.addi v67 c2_i32_45
  let c13_i32_2 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let v81 : BitVec 1 := Scalar.cmpi .slt v80 v7
  let v82 : BitVec 32 := Scalar.extui v81
  let c0_i32_46 : BitVec 32 := 0#32
  let v83 : BitVec 1 := Scalar.cmpi .ne v82 c0_i32_46
  v83

def k0_off77 (i : grid0.Coords) (k0_t1 : Fin (k0_t1_loop i).trips) : Fin 3 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c2_i32_35 : BitVec 32 := 2#32
  let c0_i32_15 : BitVec 32 := 0#32
  let c1_i32_17 : BitVec 32 := 1#32
  let arg13 : BitVec 32 := Scf.iv c0_i32_15 c1_i32_17 k0_t1
  let v66 : BitVec 32 := Scalar.muli c2_i32_35 arg13
  let c1_i32_36 : BitVec 32 := 1#32
  let v67 : BitVec 32 := Scalar.addi v66 c1_i32_36
  let c2_i32_47 : BitVec 32 := 2#32
  let v84 : BitVec 32 := Scalar.addi v67 c2_i32_47
  let v85 : BitVec 32 := Scalar.addi v4 v84
  let c50_i32_48 : BitVec 32 := 50#32
  let v86 : BitVec 32 := Scalar.muli v85 c50_i32_48
  let v87 : BitVec 32 := Scalar.addi c10400_i32 v86
  let c0_i32_54 : BitVec 32 := 0#32
  let c0_i32_55 : BitVec 32 := 0#32
  ![v87.toNat, 0, 0]
def k0_off78 (i : grid0.Coords) (k0_t1 : Fin (k0_t1_loop i).trips) : Fin 1 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c2_i32_35 : BitVec 32 := 2#32
  let c0_i32_15 : BitVec 32 := 0#32
  let c1_i32_17 : BitVec 32 := 1#32
  let arg13 : BitVec 32 := Scf.iv c0_i32_15 c1_i32_17 k0_t1
  let v66 : BitVec 32 := Scalar.muli c2_i32_35 arg13
  let c1_i32_36 : BitVec 32 := 1#32
  let v67 : BitVec 32 := Scalar.addi v66 c1_i32_36
  let c2_i32_47 : BitVec 32 := 2#32
  let v84 : BitVec 32 := Scalar.addi v67 c2_i32_47
  let v85 : BitVec 32 := Scalar.addi v4 v84
  let c50_i32_48 : BitVec 32 := 50#32
  let v86 : BitVec 32 := Scalar.muli v85 c50_i32_48
  let v87 : BitVec 32 := Scalar.addi c10400_i32 v86
  let c128_i32 : BitVec 32 := 128#32
  let v104 : BitVec 32 := Scalar.muli v87 c128_i32
  ![v104.toNat]
@[reducible] def k0_t4_loop (i : grid0.Coords) : Scf.Loop 32 :=
  let c0_i32_15 : BitVec 32 := 0#32
  let c13_i32_2 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let c1_i32_7 : BitVec 32 := 1#32
  let v15 : BitVec 32 := Scalar.addi v7 c1_i32_7
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32_14 : BitVec 32 := 1#32
  let v31 : BitVec 32 := Scalar.subi v16 c1_i32_14
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let v34 : BitVec 32 := Scalar.addi c0_i32_15 v33
  let c1_i32_18 : BitVec 32 := 1#32
  ⟨v37, v34, c1_i32_18⟩
def k0_cond7 (i : grid0.Coords) (k0_t4 : Fin (k0_t4_loop i).trips) : BitVec 1 :=
  let c2_i32_24 : BitVec 32 := 2#32
  let c0_i32_15 : BitVec 32 := 0#32
  let c13_i32_2 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let c1_i32_7 : BitVec 32 := 1#32
  let v15 : BitVec 32 := Scalar.addi v7 c1_i32_7
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32_14 : BitVec 32 := 1#32
  let v31 : BitVec 32 := Scalar.subi v16 c1_i32_14
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg13 : BitVec 32 := Scf.iv v37 c1_i32_18 k0_t4
  let v48 : BitVec 32 := Scalar.muli c2_i32_24 arg13
  let c0_i32_25 : BitVec 32 := 0#32
  let v49 : BitVec 32 := Scalar.addi v48 c0_i32_25
  let v50 : BitVec 1 := Scalar.cmpi .slt v49 v7
  let v51 : BitVec 32 := Scalar.extui v50
  let c0_i32_26 : BitVec 32 := 0#32
  let v52 : BitVec 1 := Scalar.cmpi .ne v51 c0_i32_26
  v52

def k0_off79 (i : grid0.Coords) (k0_t4 : Fin (k0_t4_loop i).trips) : Fin 3 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c2_i32_24 : BitVec 32 := 2#32
  let c0_i32_15 : BitVec 32 := 0#32
  let c13_i32_2 : BitVec 32 := 13#32
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let c1_i32_7 : BitVec 32 := 1#32
  let v15 : BitVec 32 := Scalar.addi v7 c1_i32_7
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32_14 : BitVec 32 := 1#32
  let v31 : BitVec 32 := Scalar.subi v16 c1_i32_14
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg13 : BitVec 32 := Scf.iv v37 c1_i32_18 k0_t4
  let v48 : BitVec 32 := Scalar.muli c2_i32_24 arg13
  let c0_i32_25 : BitVec 32 := 0#32
  let v49 : BitVec 32 := Scalar.addi v48 c0_i32_25
  let v84 : BitVec 32 := Scalar.addi v4 v49
  let c50_i32_47 : BitVec 32 := 50#32
  let v85 : BitVec 32 := Scalar.muli v84 c50_i32_47
  let v86 : BitVec 32 := Scalar.addi c10400_i32 v85
  let c0_i32_53 : BitVec 32 := 0#32
  let c0_i32_54 : BitVec 32 := 0#32
  ![v86.toNat, 0, 0]
def k0_off80 (i : grid0.Coords) (k0_t4 : Fin (k0_t4_loop i).trips) : Fin 1 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c2_i32_24 : BitVec 32 := 2#32
  let c0_i32_15 : BitVec 32 := 0#32
  let c13_i32_2 : BitVec 32 := 13#32
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let c1_i32_7 : BitVec 32 := 1#32
  let v15 : BitVec 32 := Scalar.addi v7 c1_i32_7
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32_14 : BitVec 32 := 1#32
  let v31 : BitVec 32 := Scalar.subi v16 c1_i32_14
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg13 : BitVec 32 := Scf.iv v37 c1_i32_18 k0_t4
  let v48 : BitVec 32 := Scalar.muli c2_i32_24 arg13
  let c0_i32_25 : BitVec 32 := 0#32
  let v49 : BitVec 32 := Scalar.addi v48 c0_i32_25
  let v84 : BitVec 32 := Scalar.addi v4 v49
  let c50_i32_47 : BitVec 32 := 50#32
  let v85 : BitVec 32 := Scalar.muli v84 c50_i32_47
  let v86 : BitVec 32 := Scalar.addi c10400_i32 v85
  let c128_i32 : BitVec 32 := 128#32
  let v103 : BitVec 32 := Scalar.muli v86 c128_i32
  ![v103.toNat]
@[reducible] def k0_t5_loop : Scf.Loop 32 :=
  let c0_i32_28 : BitVec 32 := 0#32
  let c50_i32 : BitVec 32 := 50#32
  let v54 : BitVec 32 := Scalar.addi c0_i32_28 c50_i32
  let c1_i32_29 : BitVec 32 := 1#32
  ⟨c0_i32_28, v54, c1_i32_29⟩
def k0_off81 (k0_t5 : Fin k0_t5_loop.trips) (c0_i32_47 : BitVec 32) : Fin 2 → Nat :=
  let c0_i32_48 : BitVec 32 := 0#32
  let v86 : Index := Scalar.indexCast c0_i32_48
  let c0_i32_28 : BitVec 32 := 0#32
  let c1_i32_29 : BitVec 32 := 1#32
  let arg16 : BitVec 32 := Scf.iv c0_i32_28 c1_i32_29 k0_t5
  let c128_i32 : BitVec 32 := 128#32
  let v84 : BitVec 32 := Scalar.muli arg16 c128_i32
  let v85 : BitVec 32 := Scalar.addi v84 c0_i32_47
  let v87 : Index := Scalar.indexCast v85
  ![0, v87.toNat]
def k0_off82 (k0_t5 : Fin k0_t5_loop.trips) : Fin 4 → Nat :=
  let c0_i32_52 : BitVec 32 := 0#32
  let v96 : Index := Scalar.indexCast c0_i32_52
  let c0_i32_28 : BitVec 32 := 0#32
  let c1_i32_29 : BitVec 32 := 1#32
  let arg16 : BitVec 32 := Scf.iv c0_i32_28 c1_i32_29 k0_t5
  let v97 : Index := Scalar.indexCast arg16
  let c0_i32_53 : BitVec 32 := 0#32
  let v98 : Index := Scalar.indexCast c0_i32_53
  let c0_54 : Index := 0#32
  ![0, v97.toNat, 0, 0]
def k0_off83 (k0_t5 : Fin k0_t5_loop.trips) : Fin 4 → Nat :=
  let c0_i32_60 : BitVec 32 := 0#32
  let v114 : Index := Scalar.indexCast c0_i32_60
  let c0_i32_28 : BitVec 32 := 0#32
  let c1_i32_29 : BitVec 32 := 1#32
  let arg16 : BitVec 32 := Scf.iv c0_i32_28 c1_i32_29 k0_t5
  let v115 : Index := Scalar.indexCast arg16
  let c1_i32_61 : BitVec 32 := 1#32
  let v116 : Index := Scalar.indexCast c1_i32_61
  let c0_62 : Index := 0#32
  ![0, v115.toNat, 1, 0]
def k0_off84 (k0_t5 : Fin k0_t5_loop.trips) : Fin 4 → Nat :=
  let c0_i32_68 : BitVec 32 := 0#32
  let v133 : Index := Scalar.indexCast c0_i32_68
  let c0_i32_28 : BitVec 32 := 0#32
  let c1_i32_29 : BitVec 32 := 1#32
  let arg16 : BitVec 32 := Scf.iv c0_i32_28 c1_i32_29 k0_t5
  let v134 : Index := Scalar.indexCast arg16
  let c2_i32_69 : BitVec 32 := 2#32
  let v135 : Index := Scalar.indexCast c2_i32_69
  let c0_70 : Index := 0#32
  ![0, v134.toNat, 2, 0]
def k0_off85 (k0_t5 : Fin k0_t5_loop.trips) : Fin 4 → Nat :=
  let c0_i32_76 : BitVec 32 := 0#32
  let v152 : Index := Scalar.indexCast c0_i32_76
  let c0_i32_28 : BitVec 32 := 0#32
  let c1_i32_29 : BitVec 32 := 1#32
  let arg16 : BitVec 32 := Scf.iv c0_i32_28 c1_i32_29 k0_t5
  let v153 : Index := Scalar.indexCast arg16
  let c3_i32 : BitVec 32 := 3#32
  let v154 : Index := Scalar.indexCast c3_i32
  let c0_77 : Index := 0#32
  ![0, v153.toNat, 3, 0]
def k0_off86 (k0_t5 : Fin k0_t5_loop.trips) : Fin 4 → Nat :=
  let c0_i32_89 : BitVec 32 := 0#32
  let v186 : Index := Scalar.indexCast c0_i32_89
  let c0_i32_28 : BitVec 32 := 0#32
  let c1_i32_29 : BitVec 32 := 1#32
  let arg16 : BitVec 32 := Scf.iv c0_i32_28 c1_i32_29 k0_t5
  let v187 : Index := Scalar.indexCast arg16
  let c0_i32_90 : BitVec 32 := 0#32
  let v188 : Index := Scalar.indexCast c0_i32_90
  let c16 : Index := 16#32
  ![0, v187.toNat, 0, 16]
def k0_off87 (k0_t5 : Fin k0_t5_loop.trips) : Fin 4 → Nat :=
  let c0_i32_96 : BitVec 32 := 0#32
  let v204 : Index := Scalar.indexCast c0_i32_96
  let c0_i32_28 : BitVec 32 := 0#32
  let c1_i32_29 : BitVec 32 := 1#32
  let arg16 : BitVec 32 := Scf.iv c0_i32_28 c1_i32_29 k0_t5
  let v205 : Index := Scalar.indexCast arg16
  let c1_i32_97 : BitVec 32 := 1#32
  let v206 : Index := Scalar.indexCast c1_i32_97
  let c16_98 : Index := 16#32
  ![0, v205.toNat, 1, 16]
def k0_off88 (k0_t5 : Fin k0_t5_loop.trips) : Fin 4 → Nat :=
  let c0_i32_104 : BitVec 32 := 0#32
  let v223 : Index := Scalar.indexCast c0_i32_104
  let c0_i32_28 : BitVec 32 := 0#32
  let c1_i32_29 : BitVec 32 := 1#32
  let arg16 : BitVec 32 := Scf.iv c0_i32_28 c1_i32_29 k0_t5
  let v224 : Index := Scalar.indexCast arg16
  let c2_i32_105 : BitVec 32 := 2#32
  let v225 : Index := Scalar.indexCast c2_i32_105
  let c16_106 : Index := 16#32
  ![0, v224.toNat, 2, 16]
def k0_off89 (k0_t5 : Fin k0_t5_loop.trips) : Fin 4 → Nat :=
  let c0_i32_112 : BitVec 32 := 0#32
  let v242 : Index := Scalar.indexCast c0_i32_112
  let c0_i32_28 : BitVec 32 := 0#32
  let c1_i32_29 : BitVec 32 := 1#32
  let arg16 : BitVec 32 := Scf.iv c0_i32_28 c1_i32_29 k0_t5
  let v243 : Index := Scalar.indexCast arg16
  let c3_i32_113 : BitVec 32 := 3#32
  let v244 : Index := Scalar.indexCast c3_i32_113
  let c16_114 : Index := 16#32
  ![0, v243.toNat, 3, 16]
def k0_off90 (k0_t5 : Fin k0_t5_loop.trips) : Fin 4 → Nat :=
  let c0_i32_126 : BitVec 32 := 0#32
  let v276 : Index := Scalar.indexCast c0_i32_126
  let c0_i32_28 : BitVec 32 := 0#32
  let c1_i32_29 : BitVec 32 := 1#32
  let arg16 : BitVec 32 := Scf.iv c0_i32_28 c1_i32_29 k0_t5
  let v277 : Index := Scalar.indexCast arg16
  let c0_i32_127 : BitVec 32 := 0#32
  let v278 : Index := Scalar.indexCast c0_i32_127
  let c32 : Index := 32#32
  ![0, v277.toNat, 0, 32]
def k0_off91 (k0_t5 : Fin k0_t5_loop.trips) : Fin 4 → Nat :=
  let c0_i32_133 : BitVec 32 := 0#32
  let v294 : Index := Scalar.indexCast c0_i32_133
  let c0_i32_28 : BitVec 32 := 0#32
  let c1_i32_29 : BitVec 32 := 1#32
  let arg16 : BitVec 32 := Scf.iv c0_i32_28 c1_i32_29 k0_t5
  let v295 : Index := Scalar.indexCast arg16
  let c1_i32_134 : BitVec 32 := 1#32
  let v296 : Index := Scalar.indexCast c1_i32_134
  let c32_135 : Index := 32#32
  ![0, v295.toNat, 1, 32]
def k0_off92 (k0_t5 : Fin k0_t5_loop.trips) : Fin 4 → Nat :=
  let c0_i32_141 : BitVec 32 := 0#32
  let v313 : Index := Scalar.indexCast c0_i32_141
  let c0_i32_28 : BitVec 32 := 0#32
  let c1_i32_29 : BitVec 32 := 1#32
  let arg16 : BitVec 32 := Scf.iv c0_i32_28 c1_i32_29 k0_t5
  let v314 : Index := Scalar.indexCast arg16
  let c2_i32_142 : BitVec 32 := 2#32
  let v315 : Index := Scalar.indexCast c2_i32_142
  let c32_143 : Index := 32#32
  ![0, v314.toNat, 2, 32]
def k0_off93 (k0_t5 : Fin k0_t5_loop.trips) : Fin 4 → Nat :=
  let c0_i32_149 : BitVec 32 := 0#32
  let v332 : Index := Scalar.indexCast c0_i32_149
  let c0_i32_28 : BitVec 32 := 0#32
  let c1_i32_29 : BitVec 32 := 1#32
  let arg16 : BitVec 32 := Scf.iv c0_i32_28 c1_i32_29 k0_t5
  let v333 : Index := Scalar.indexCast arg16
  let c3_i32_150 : BitVec 32 := 3#32
  let v334 : Index := Scalar.indexCast c3_i32_150
  let c32_151 : Index := 32#32
  ![0, v333.toNat, 3, 32]
def k0_off94 (k0_t5 : Fin k0_t5_loop.trips) : Fin 4 → Nat :=
  let c0_i32_163 : BitVec 32 := 0#32
  let v366 : Index := Scalar.indexCast c0_i32_163
  let c0_i32_28 : BitVec 32 := 0#32
  let c1_i32_29 : BitVec 32 := 1#32
  let arg16 : BitVec 32 := Scf.iv c0_i32_28 c1_i32_29 k0_t5
  let v367 : Index := Scalar.indexCast arg16
  let c0_i32_164 : BitVec 32 := 0#32
  let v368 : Index := Scalar.indexCast c0_i32_164
  let c48 : Index := 48#32
  ![0, v367.toNat, 0, 48]
def k0_off95 (k0_t5 : Fin k0_t5_loop.trips) : Fin 4 → Nat :=
  let c0_i32_170 : BitVec 32 := 0#32
  let v384 : Index := Scalar.indexCast c0_i32_170
  let c0_i32_28 : BitVec 32 := 0#32
  let c1_i32_29 : BitVec 32 := 1#32
  let arg16 : BitVec 32 := Scf.iv c0_i32_28 c1_i32_29 k0_t5
  let v385 : Index := Scalar.indexCast arg16
  let c1_i32_171 : BitVec 32 := 1#32
  let v386 : Index := Scalar.indexCast c1_i32_171
  let c48_172 : Index := 48#32
  ![0, v385.toNat, 1, 48]
def k0_off96 (k0_t5 : Fin k0_t5_loop.trips) : Fin 4 → Nat :=
  let c0_i32_178 : BitVec 32 := 0#32
  let v403 : Index := Scalar.indexCast c0_i32_178
  let c0_i32_28 : BitVec 32 := 0#32
  let c1_i32_29 : BitVec 32 := 1#32
  let arg16 : BitVec 32 := Scf.iv c0_i32_28 c1_i32_29 k0_t5
  let v404 : Index := Scalar.indexCast arg16
  let c2_i32_179 : BitVec 32 := 2#32
  let v405 : Index := Scalar.indexCast c2_i32_179
  let c48_180 : Index := 48#32
  ![0, v404.toNat, 2, 48]
def k0_off97 (k0_t5 : Fin k0_t5_loop.trips) : Fin 4 → Nat :=
  let c0_i32_186 : BitVec 32 := 0#32
  let v422 : Index := Scalar.indexCast c0_i32_186
  let c0_i32_28 : BitVec 32 := 0#32
  let c1_i32_29 : BitVec 32 := 1#32
  let arg16 : BitVec 32 := Scf.iv c0_i32_28 c1_i32_29 k0_t5
  let v423 : Index := Scalar.indexCast arg16
  let c3_i32_187 : BitVec 32 := 3#32
  let v424 : Index := Scalar.indexCast c3_i32_187
  let c48_188 : Index := 48#32
  ![0, v423.toNat, 3, 48]
def k0_off98 (k0_t5 : Fin k0_t5_loop.trips) : Fin 4 → Nat :=
  let c0_i32_200 : BitVec 32 := 0#32
  let v456 : Index := Scalar.indexCast c0_i32_200
  let c0_i32_28 : BitVec 32 := 0#32
  let c1_i32_29 : BitVec 32 := 1#32
  let arg16 : BitVec 32 := Scf.iv c0_i32_28 c1_i32_29 k0_t5
  let v457 : Index := Scalar.indexCast arg16
  let c0_i32_201 : BitVec 32 := 0#32
  let v458 : Index := Scalar.indexCast c0_i32_201
  let c64 : Index := 64#32
  ![0, v457.toNat, 0, 64]
def k0_off99 (k0_t5 : Fin k0_t5_loop.trips) : Fin 4 → Nat :=
  let c0_i32_207 : BitVec 32 := 0#32
  let v474 : Index := Scalar.indexCast c0_i32_207
  let c0_i32_28 : BitVec 32 := 0#32
  let c1_i32_29 : BitVec 32 := 1#32
  let arg16 : BitVec 32 := Scf.iv c0_i32_28 c1_i32_29 k0_t5
  let v475 : Index := Scalar.indexCast arg16
  let c1_i32_208 : BitVec 32 := 1#32
  let v476 : Index := Scalar.indexCast c1_i32_208
  let c64_209 : Index := 64#32
  ![0, v475.toNat, 1, 64]
def k0_off100 (k0_t5 : Fin k0_t5_loop.trips) : Fin 4 → Nat :=
  let c0_i32_215 : BitVec 32 := 0#32
  let v493 : Index := Scalar.indexCast c0_i32_215
  let c0_i32_28 : BitVec 32 := 0#32
  let c1_i32_29 : BitVec 32 := 1#32
  let arg16 : BitVec 32 := Scf.iv c0_i32_28 c1_i32_29 k0_t5
  let v494 : Index := Scalar.indexCast arg16
  let c2_i32_216 : BitVec 32 := 2#32
  let v495 : Index := Scalar.indexCast c2_i32_216
  let c64_217 : Index := 64#32
  ![0, v494.toNat, 2, 64]
def k0_off101 (k0_t5 : Fin k0_t5_loop.trips) : Fin 4 → Nat :=
  let c0_i32_223 : BitVec 32 := 0#32
  let v512 : Index := Scalar.indexCast c0_i32_223
  let c0_i32_28 : BitVec 32 := 0#32
  let c1_i32_29 : BitVec 32 := 1#32
  let arg16 : BitVec 32 := Scf.iv c0_i32_28 c1_i32_29 k0_t5
  let v513 : Index := Scalar.indexCast arg16
  let c3_i32_224 : BitVec 32 := 3#32
  let v514 : Index := Scalar.indexCast c3_i32_224
  let c64_225 : Index := 64#32
  ![0, v513.toNat, 3, 64]
def k0_off102 (k0_t5 : Fin k0_t5_loop.trips) : Fin 4 → Nat :=
  let c0_i32_237 : BitVec 32 := 0#32
  let v546 : Index := Scalar.indexCast c0_i32_237
  let c0_i32_28 : BitVec 32 := 0#32
  let c1_i32_29 : BitVec 32 := 1#32
  let arg16 : BitVec 32 := Scf.iv c0_i32_28 c1_i32_29 k0_t5
  let v547 : Index := Scalar.indexCast arg16
  let c0_i32_238 : BitVec 32 := 0#32
  let v548 : Index := Scalar.indexCast c0_i32_238
  let c80 : Index := 80#32
  ![0, v547.toNat, 0, 80]
def k0_off103 (k0_t5 : Fin k0_t5_loop.trips) : Fin 4 → Nat :=
  let c0_i32_244 : BitVec 32 := 0#32
  let v564 : Index := Scalar.indexCast c0_i32_244
  let c0_i32_28 : BitVec 32 := 0#32
  let c1_i32_29 : BitVec 32 := 1#32
  let arg16 : BitVec 32 := Scf.iv c0_i32_28 c1_i32_29 k0_t5
  let v565 : Index := Scalar.indexCast arg16
  let c1_i32_245 : BitVec 32 := 1#32
  let v566 : Index := Scalar.indexCast c1_i32_245
  let c80_246 : Index := 80#32
  ![0, v565.toNat, 1, 80]
def k0_off104 (k0_t5 : Fin k0_t5_loop.trips) : Fin 4 → Nat :=
  let c0_i32_252 : BitVec 32 := 0#32
  let v583 : Index := Scalar.indexCast c0_i32_252
  let c0_i32_28 : BitVec 32 := 0#32
  let c1_i32_29 : BitVec 32 := 1#32
  let arg16 : BitVec 32 := Scf.iv c0_i32_28 c1_i32_29 k0_t5
  let v584 : Index := Scalar.indexCast arg16
  let c2_i32_253 : BitVec 32 := 2#32
  let v585 : Index := Scalar.indexCast c2_i32_253
  let c80_254 : Index := 80#32
  ![0, v584.toNat, 2, 80]
def k0_off105 (k0_t5 : Fin k0_t5_loop.trips) : Fin 4 → Nat :=
  let c0_i32_260 : BitVec 32 := 0#32
  let v602 : Index := Scalar.indexCast c0_i32_260
  let c0_i32_28 : BitVec 32 := 0#32
  let c1_i32_29 : BitVec 32 := 1#32
  let arg16 : BitVec 32 := Scf.iv c0_i32_28 c1_i32_29 k0_t5
  let v603 : Index := Scalar.indexCast arg16
  let c3_i32_261 : BitVec 32 := 3#32
  let v604 : Index := Scalar.indexCast c3_i32_261
  let c80_262 : Index := 80#32
  ![0, v603.toNat, 3, 80]
def k0_off106 (k0_t5 : Fin k0_t5_loop.trips) : Fin 4 → Nat :=
  let c0_i32_274 : BitVec 32 := 0#32
  let v636 : Index := Scalar.indexCast c0_i32_274
  let c0_i32_28 : BitVec 32 := 0#32
  let c1_i32_29 : BitVec 32 := 1#32
  let arg16 : BitVec 32 := Scf.iv c0_i32_28 c1_i32_29 k0_t5
  let v637 : Index := Scalar.indexCast arg16
  let c0_i32_275 : BitVec 32 := 0#32
  let v638 : Index := Scalar.indexCast c0_i32_275
  let c96 : Index := 96#32
  ![0, v637.toNat, 0, 96]
def k0_off107 (k0_t5 : Fin k0_t5_loop.trips) : Fin 4 → Nat :=
  let c0_i32_281 : BitVec 32 := 0#32
  let v654 : Index := Scalar.indexCast c0_i32_281
  let c0_i32_28 : BitVec 32 := 0#32
  let c1_i32_29 : BitVec 32 := 1#32
  let arg16 : BitVec 32 := Scf.iv c0_i32_28 c1_i32_29 k0_t5
  let v655 : Index := Scalar.indexCast arg16
  let c1_i32_282 : BitVec 32 := 1#32
  let v656 : Index := Scalar.indexCast c1_i32_282
  let c96_283 : Index := 96#32
  ![0, v655.toNat, 1, 96]
def k0_off108 (k0_t5 : Fin k0_t5_loop.trips) : Fin 4 → Nat :=
  let c0_i32_289 : BitVec 32 := 0#32
  let v673 : Index := Scalar.indexCast c0_i32_289
  let c0_i32_28 : BitVec 32 := 0#32
  let c1_i32_29 : BitVec 32 := 1#32
  let arg16 : BitVec 32 := Scf.iv c0_i32_28 c1_i32_29 k0_t5
  let v674 : Index := Scalar.indexCast arg16
  let c2_i32_290 : BitVec 32 := 2#32
  let v675 : Index := Scalar.indexCast c2_i32_290
  let c96_291 : Index := 96#32
  ![0, v674.toNat, 2, 96]
def k0_off109 (k0_t5 : Fin k0_t5_loop.trips) : Fin 4 → Nat :=
  let c0_i32_297 : BitVec 32 := 0#32
  let v692 : Index := Scalar.indexCast c0_i32_297
  let c0_i32_28 : BitVec 32 := 0#32
  let c1_i32_29 : BitVec 32 := 1#32
  let arg16 : BitVec 32 := Scf.iv c0_i32_28 c1_i32_29 k0_t5
  let v693 : Index := Scalar.indexCast arg16
  let c3_i32_298 : BitVec 32 := 3#32
  let v694 : Index := Scalar.indexCast c3_i32_298
  let c96_299 : Index := 96#32
  ![0, v693.toNat, 3, 96]
def k0_off110 (k0_t5 : Fin k0_t5_loop.trips) : Fin 4 → Nat :=
  let c0_i32_311 : BitVec 32 := 0#32
  let v726 : Index := Scalar.indexCast c0_i32_311
  let c0_i32_28 : BitVec 32 := 0#32
  let c1_i32_29 : BitVec 32 := 1#32
  let arg16 : BitVec 32 := Scf.iv c0_i32_28 c1_i32_29 k0_t5
  let v727 : Index := Scalar.indexCast arg16
  let c0_i32_312 : BitVec 32 := 0#32
  let v728 : Index := Scalar.indexCast c0_i32_312
  let c112 : Index := 112#32
  ![0, v727.toNat, 0, 112]
def k0_off111 (k0_t5 : Fin k0_t5_loop.trips) : Fin 4 → Nat :=
  let c0_i32_318 : BitVec 32 := 0#32
  let v744 : Index := Scalar.indexCast c0_i32_318
  let c0_i32_28 : BitVec 32 := 0#32
  let c1_i32_29 : BitVec 32 := 1#32
  let arg16 : BitVec 32 := Scf.iv c0_i32_28 c1_i32_29 k0_t5
  let v745 : Index := Scalar.indexCast arg16
  let c1_i32_319 : BitVec 32 := 1#32
  let v746 : Index := Scalar.indexCast c1_i32_319
  let c112_320 : Index := 112#32
  ![0, v745.toNat, 1, 112]
def k0_off112 (k0_t5 : Fin k0_t5_loop.trips) : Fin 4 → Nat :=
  let c0_i32_326 : BitVec 32 := 0#32
  let v763 : Index := Scalar.indexCast c0_i32_326
  let c0_i32_28 : BitVec 32 := 0#32
  let c1_i32_29 : BitVec 32 := 1#32
  let arg16 : BitVec 32 := Scf.iv c0_i32_28 c1_i32_29 k0_t5
  let v764 : Index := Scalar.indexCast arg16
  let c2_i32_327 : BitVec 32 := 2#32
  let v765 : Index := Scalar.indexCast c2_i32_327
  let c112_328 : Index := 112#32
  ![0, v764.toNat, 2, 112]
def k0_off113 (k0_t5 : Fin k0_t5_loop.trips) : Fin 4 → Nat :=
  let c0_i32_334 : BitVec 32 := 0#32
  let v782 : Index := Scalar.indexCast c0_i32_334
  let c0_i32_28 : BitVec 32 := 0#32
  let c1_i32_29 : BitVec 32 := 1#32
  let arg16 : BitVec 32 := Scf.iv c0_i32_28 c1_i32_29 k0_t5
  let v783 : Index := Scalar.indexCast arg16
  let c3_i32_335 : BitVec 32 := 3#32
  let v784 : Index := Scalar.indexCast c3_i32_335
  let c112_336 : Index := 112#32
  ![0, v783.toNat, 3, 112]
def k0_cond8 (i : grid0.Coords) (k0_t4 : Fin (k0_t4_loop i).trips) : BitVec 1 :=
  let c2_i32_24 : BitVec 32 := 2#32
  let c0_i32_15 : BitVec 32 := 0#32
  let c13_i32_2 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let c1_i32_7 : BitVec 32 := 1#32
  let v15 : BitVec 32 := Scalar.addi v7 c1_i32_7
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32_14 : BitVec 32 := 1#32
  let v31 : BitVec 32 := Scalar.subi v16 c1_i32_14
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg13 : BitVec 32 := Scf.iv v37 c1_i32_18 k0_t4
  let v48 : BitVec 32 := Scalar.muli c2_i32_24 arg13
  let c0_i32_25 : BitVec 32 := 0#32
  let v49 : BitVec 32 := Scalar.addi v48 c0_i32_25
  let c2_i32_33 : BitVec 32 := 2#32
  let v62 : BitVec 32 := Scalar.addi v49 c2_i32_33
  let v63 : BitVec 1 := Scalar.cmpi .slt v62 v7
  let v64 : BitVec 32 := Scalar.extui v63
  let c0_i32_34 : BitVec 32 := 0#32
  let v65 : BitVec 1 := Scalar.cmpi .ne v64 c0_i32_34
  v65

def k0_off114 (i : grid0.Coords) (k0_t4 : Fin (k0_t4_loop i).trips) : Fin 3 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c2_i32_24 : BitVec 32 := 2#32
  let c0_i32_15 : BitVec 32 := 0#32
  let c13_i32_2 : BitVec 32 := 13#32
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let c1_i32_7 : BitVec 32 := 1#32
  let v15 : BitVec 32 := Scalar.addi v7 c1_i32_7
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32_14 : BitVec 32 := 1#32
  let v31 : BitVec 32 := Scalar.subi v16 c1_i32_14
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg13 : BitVec 32 := Scf.iv v37 c1_i32_18 k0_t4
  let v48 : BitVec 32 := Scalar.muli c2_i32_24 arg13
  let c0_i32_25 : BitVec 32 := 0#32
  let v49 : BitVec 32 := Scalar.addi v48 c0_i32_25
  let c2_i32_47 : BitVec 32 := 2#32
  let v84 : BitVec 32 := Scalar.addi v49 c2_i32_47
  let v85 : BitVec 32 := Scalar.addi v4 v84
  let c50_i32_48 : BitVec 32 := 50#32
  let v86 : BitVec 32 := Scalar.muli v85 c50_i32_48
  let v87 : BitVec 32 := Scalar.addi c10400_i32 v86
  let c0_i32_54 : BitVec 32 := 0#32
  let c0_i32_55 : BitVec 32 := 0#32
  ![v87.toNat, 0, 0]
def k0_off115 (i : grid0.Coords) (k0_t4 : Fin (k0_t4_loop i).trips) : Fin 1 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c2_i32_24 : BitVec 32 := 2#32
  let c0_i32_15 : BitVec 32 := 0#32
  let c13_i32_2 : BitVec 32 := 13#32
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let c1_i32_7 : BitVec 32 := 1#32
  let v15 : BitVec 32 := Scalar.addi v7 c1_i32_7
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32_14 : BitVec 32 := 1#32
  let v31 : BitVec 32 := Scalar.subi v16 c1_i32_14
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg13 : BitVec 32 := Scf.iv v37 c1_i32_18 k0_t4
  let v48 : BitVec 32 := Scalar.muli c2_i32_24 arg13
  let c0_i32_25 : BitVec 32 := 0#32
  let v49 : BitVec 32 := Scalar.addi v48 c0_i32_25
  let c2_i32_47 : BitVec 32 := 2#32
  let v84 : BitVec 32 := Scalar.addi v49 c2_i32_47
  let v85 : BitVec 32 := Scalar.addi v4 v84
  let c50_i32_48 : BitVec 32 := 50#32
  let v86 : BitVec 32 := Scalar.muli v85 c50_i32_48
  let v87 : BitVec 32 := Scalar.addi c10400_i32 v86
  let c128_i32 : BitVec 32 := 128#32
  let v104 : BitVec 32 := Scalar.muli v87 c128_i32
  ![v104.toNat]
def k0_cond9 (i : grid0.Coords) (k0_t4 : Fin (k0_t4_loop i).trips) : BitVec 1 :=
  let c2_i32_35 : BitVec 32 := 2#32
  let c0_i32_15 : BitVec 32 := 0#32
  let c13_i32_2 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let c1_i32_7 : BitVec 32 := 1#32
  let v15 : BitVec 32 := Scalar.addi v7 c1_i32_7
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32_14 : BitVec 32 := 1#32
  let v31 : BitVec 32 := Scalar.subi v16 c1_i32_14
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg13 : BitVec 32 := Scf.iv v37 c1_i32_18 k0_t4
  let v66 : BitVec 32 := Scalar.muli c2_i32_35 arg13
  let c1_i32_36 : BitVec 32 := 1#32
  let v67 : BitVec 32 := Scalar.addi v66 c1_i32_36
  let v68 : BitVec 1 := Scalar.cmpi .slt v67 v7
  let v69 : BitVec 32 := Scalar.extui v68
  let c0_i32_37 : BitVec 32 := 0#32
  let v70 : BitVec 1 := Scalar.cmpi .ne v69 c0_i32_37
  v70

def k0_off116 (i : grid0.Coords) (k0_t4 : Fin (k0_t4_loop i).trips) : Fin 3 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c2_i32_35 : BitVec 32 := 2#32
  let c0_i32_15 : BitVec 32 := 0#32
  let c13_i32_2 : BitVec 32 := 13#32
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let c1_i32_7 : BitVec 32 := 1#32
  let v15 : BitVec 32 := Scalar.addi v7 c1_i32_7
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32_14 : BitVec 32 := 1#32
  let v31 : BitVec 32 := Scalar.subi v16 c1_i32_14
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg13 : BitVec 32 := Scf.iv v37 c1_i32_18 k0_t4
  let v66 : BitVec 32 := Scalar.muli c2_i32_35 arg13
  let c1_i32_36 : BitVec 32 := 1#32
  let v67 : BitVec 32 := Scalar.addi v66 c1_i32_36
  let v84 : BitVec 32 := Scalar.addi v4 v67
  let c50_i32_47 : BitVec 32 := 50#32
  let v85 : BitVec 32 := Scalar.muli v84 c50_i32_47
  let v86 : BitVec 32 := Scalar.addi c10400_i32 v85
  let c0_i32_53 : BitVec 32 := 0#32
  let c0_i32_54 : BitVec 32 := 0#32
  ![v86.toNat, 0, 0]
def k0_off117 (i : grid0.Coords) (k0_t4 : Fin (k0_t4_loop i).trips) : Fin 1 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c2_i32_35 : BitVec 32 := 2#32
  let c0_i32_15 : BitVec 32 := 0#32
  let c13_i32_2 : BitVec 32 := 13#32
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let c1_i32_7 : BitVec 32 := 1#32
  let v15 : BitVec 32 := Scalar.addi v7 c1_i32_7
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32_14 : BitVec 32 := 1#32
  let v31 : BitVec 32 := Scalar.subi v16 c1_i32_14
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg13 : BitVec 32 := Scf.iv v37 c1_i32_18 k0_t4
  let v66 : BitVec 32 := Scalar.muli c2_i32_35 arg13
  let c1_i32_36 : BitVec 32 := 1#32
  let v67 : BitVec 32 := Scalar.addi v66 c1_i32_36
  let v84 : BitVec 32 := Scalar.addi v4 v67
  let c50_i32_47 : BitVec 32 := 50#32
  let v85 : BitVec 32 := Scalar.muli v84 c50_i32_47
  let v86 : BitVec 32 := Scalar.addi c10400_i32 v85
  let c128_i32 : BitVec 32 := 128#32
  let v103 : BitVec 32 := Scalar.muli v86 c128_i32
  ![v103.toNat]
@[reducible] def k0_t6_loop : Scf.Loop 32 :=
  let c0_i32_39 : BitVec 32 := 0#32
  let c50_i32_40 : BitVec 32 := 50#32
  let v72 : BitVec 32 := Scalar.addi c0_i32_39 c50_i32_40
  let c1_i32_41 : BitVec 32 := 1#32
  ⟨c0_i32_39, v72, c1_i32_41⟩
def k0_off118 (k0_t6 : Fin k0_t6_loop.trips) (c0_i32_47 : BitVec 32) : Fin 2 → Nat :=
  let c1_i32_48 : BitVec 32 := 1#32
  let v86 : Index := Scalar.indexCast c1_i32_48
  let c0_i32_39 : BitVec 32 := 0#32
  let c1_i32_41 : BitVec 32 := 1#32
  let arg16 : BitVec 32 := Scf.iv c0_i32_39 c1_i32_41 k0_t6
  let c128_i32 : BitVec 32 := 128#32
  let v84 : BitVec 32 := Scalar.muli arg16 c128_i32
  let v85 : BitVec 32 := Scalar.addi v84 c0_i32_47
  let v87 : Index := Scalar.indexCast v85
  ![1, v87.toNat]
def k0_off119 (k0_t6 : Fin k0_t6_loop.trips) : Fin 4 → Nat :=
  let c1_i32_52 : BitVec 32 := 1#32
  let v96 : Index := Scalar.indexCast c1_i32_52
  let c0_i32_39 : BitVec 32 := 0#32
  let c1_i32_41 : BitVec 32 := 1#32
  let arg16 : BitVec 32 := Scf.iv c0_i32_39 c1_i32_41 k0_t6
  let v97 : Index := Scalar.indexCast arg16
  let c0_i32_53 : BitVec 32 := 0#32
  let v98 : Index := Scalar.indexCast c0_i32_53
  let c0_54 : Index := 0#32
  ![1, v97.toNat, 0, 0]
def k0_off120 (k0_t6 : Fin k0_t6_loop.trips) : Fin 4 → Nat :=
  let c1_i32_60 : BitVec 32 := 1#32
  let v114 : Index := Scalar.indexCast c1_i32_60
  let c0_i32_39 : BitVec 32 := 0#32
  let c1_i32_41 : BitVec 32 := 1#32
  let arg16 : BitVec 32 := Scf.iv c0_i32_39 c1_i32_41 k0_t6
  let v115 : Index := Scalar.indexCast arg16
  let c1_i32_61 : BitVec 32 := 1#32
  let v116 : Index := Scalar.indexCast c1_i32_61
  let c0_62 : Index := 0#32
  ![1, v115.toNat, 1, 0]
def k0_off121 (k0_t6 : Fin k0_t6_loop.trips) : Fin 4 → Nat :=
  let c1_i32_68 : BitVec 32 := 1#32
  let v133 : Index := Scalar.indexCast c1_i32_68
  let c0_i32_39 : BitVec 32 := 0#32
  let c1_i32_41 : BitVec 32 := 1#32
  let arg16 : BitVec 32 := Scf.iv c0_i32_39 c1_i32_41 k0_t6
  let v134 : Index := Scalar.indexCast arg16
  let c2_i32_69 : BitVec 32 := 2#32
  let v135 : Index := Scalar.indexCast c2_i32_69
  let c0_70 : Index := 0#32
  ![1, v134.toNat, 2, 0]
def k0_off122 (k0_t6 : Fin k0_t6_loop.trips) : Fin 4 → Nat :=
  let c1_i32_76 : BitVec 32 := 1#32
  let v152 : Index := Scalar.indexCast c1_i32_76
  let c0_i32_39 : BitVec 32 := 0#32
  let c1_i32_41 : BitVec 32 := 1#32
  let arg16 : BitVec 32 := Scf.iv c0_i32_39 c1_i32_41 k0_t6
  let v153 : Index := Scalar.indexCast arg16
  let c3_i32 : BitVec 32 := 3#32
  let v154 : Index := Scalar.indexCast c3_i32
  let c0_77 : Index := 0#32
  ![1, v153.toNat, 3, 0]
def k0_off123 (k0_t6 : Fin k0_t6_loop.trips) : Fin 4 → Nat :=
  let c1_i32_89 : BitVec 32 := 1#32
  let v186 : Index := Scalar.indexCast c1_i32_89
  let c0_i32_39 : BitVec 32 := 0#32
  let c1_i32_41 : BitVec 32 := 1#32
  let arg16 : BitVec 32 := Scf.iv c0_i32_39 c1_i32_41 k0_t6
  let v187 : Index := Scalar.indexCast arg16
  let c0_i32_90 : BitVec 32 := 0#32
  let v188 : Index := Scalar.indexCast c0_i32_90
  let c16 : Index := 16#32
  ![1, v187.toNat, 0, 16]
def k0_off124 (k0_t6 : Fin k0_t6_loop.trips) : Fin 4 → Nat :=
  let c1_i32_96 : BitVec 32 := 1#32
  let v204 : Index := Scalar.indexCast c1_i32_96
  let c0_i32_39 : BitVec 32 := 0#32
  let c1_i32_41 : BitVec 32 := 1#32
  let arg16 : BitVec 32 := Scf.iv c0_i32_39 c1_i32_41 k0_t6
  let v205 : Index := Scalar.indexCast arg16
  let c1_i32_97 : BitVec 32 := 1#32
  let v206 : Index := Scalar.indexCast c1_i32_97
  let c16_98 : Index := 16#32
  ![1, v205.toNat, 1, 16]
def k0_off125 (k0_t6 : Fin k0_t6_loop.trips) : Fin 4 → Nat :=
  let c1_i32_104 : BitVec 32 := 1#32
  let v223 : Index := Scalar.indexCast c1_i32_104
  let c0_i32_39 : BitVec 32 := 0#32
  let c1_i32_41 : BitVec 32 := 1#32
  let arg16 : BitVec 32 := Scf.iv c0_i32_39 c1_i32_41 k0_t6
  let v224 : Index := Scalar.indexCast arg16
  let c2_i32_105 : BitVec 32 := 2#32
  let v225 : Index := Scalar.indexCast c2_i32_105
  let c16_106 : Index := 16#32
  ![1, v224.toNat, 2, 16]
def k0_off126 (k0_t6 : Fin k0_t6_loop.trips) : Fin 4 → Nat :=
  let c1_i32_112 : BitVec 32 := 1#32
  let v242 : Index := Scalar.indexCast c1_i32_112
  let c0_i32_39 : BitVec 32 := 0#32
  let c1_i32_41 : BitVec 32 := 1#32
  let arg16 : BitVec 32 := Scf.iv c0_i32_39 c1_i32_41 k0_t6
  let v243 : Index := Scalar.indexCast arg16
  let c3_i32_113 : BitVec 32 := 3#32
  let v244 : Index := Scalar.indexCast c3_i32_113
  let c16_114 : Index := 16#32
  ![1, v243.toNat, 3, 16]
def k0_off127 (k0_t6 : Fin k0_t6_loop.trips) : Fin 4 → Nat :=
  let c1_i32_126 : BitVec 32 := 1#32
  let v276 : Index := Scalar.indexCast c1_i32_126
  let c0_i32_39 : BitVec 32 := 0#32
  let c1_i32_41 : BitVec 32 := 1#32
  let arg16 : BitVec 32 := Scf.iv c0_i32_39 c1_i32_41 k0_t6
  let v277 : Index := Scalar.indexCast arg16
  let c0_i32_127 : BitVec 32 := 0#32
  let v278 : Index := Scalar.indexCast c0_i32_127
  let c32 : Index := 32#32
  ![1, v277.toNat, 0, 32]
def k0_off128 (k0_t6 : Fin k0_t6_loop.trips) : Fin 4 → Nat :=
  let c1_i32_133 : BitVec 32 := 1#32
  let v294 : Index := Scalar.indexCast c1_i32_133
  let c0_i32_39 : BitVec 32 := 0#32
  let c1_i32_41 : BitVec 32 := 1#32
  let arg16 : BitVec 32 := Scf.iv c0_i32_39 c1_i32_41 k0_t6
  let v295 : Index := Scalar.indexCast arg16
  let c1_i32_134 : BitVec 32 := 1#32
  let v296 : Index := Scalar.indexCast c1_i32_134
  let c32_135 : Index := 32#32
  ![1, v295.toNat, 1, 32]
def k0_off129 (k0_t6 : Fin k0_t6_loop.trips) : Fin 4 → Nat :=
  let c1_i32_141 : BitVec 32 := 1#32
  let v313 : Index := Scalar.indexCast c1_i32_141
  let c0_i32_39 : BitVec 32 := 0#32
  let c1_i32_41 : BitVec 32 := 1#32
  let arg16 : BitVec 32 := Scf.iv c0_i32_39 c1_i32_41 k0_t6
  let v314 : Index := Scalar.indexCast arg16
  let c2_i32_142 : BitVec 32 := 2#32
  let v315 : Index := Scalar.indexCast c2_i32_142
  let c32_143 : Index := 32#32
  ![1, v314.toNat, 2, 32]
def k0_off130 (k0_t6 : Fin k0_t6_loop.trips) : Fin 4 → Nat :=
  let c1_i32_149 : BitVec 32 := 1#32
  let v332 : Index := Scalar.indexCast c1_i32_149
  let c0_i32_39 : BitVec 32 := 0#32
  let c1_i32_41 : BitVec 32 := 1#32
  let arg16 : BitVec 32 := Scf.iv c0_i32_39 c1_i32_41 k0_t6
  let v333 : Index := Scalar.indexCast arg16
  let c3_i32_150 : BitVec 32 := 3#32
  let v334 : Index := Scalar.indexCast c3_i32_150
  let c32_151 : Index := 32#32
  ![1, v333.toNat, 3, 32]
def k0_off131 (k0_t6 : Fin k0_t6_loop.trips) : Fin 4 → Nat :=
  let c1_i32_163 : BitVec 32 := 1#32
  let v366 : Index := Scalar.indexCast c1_i32_163
  let c0_i32_39 : BitVec 32 := 0#32
  let c1_i32_41 : BitVec 32 := 1#32
  let arg16 : BitVec 32 := Scf.iv c0_i32_39 c1_i32_41 k0_t6
  let v367 : Index := Scalar.indexCast arg16
  let c0_i32_164 : BitVec 32 := 0#32
  let v368 : Index := Scalar.indexCast c0_i32_164
  let c48 : Index := 48#32
  ![1, v367.toNat, 0, 48]
def k0_off132 (k0_t6 : Fin k0_t6_loop.trips) : Fin 4 → Nat :=
  let c1_i32_170 : BitVec 32 := 1#32
  let v384 : Index := Scalar.indexCast c1_i32_170
  let c0_i32_39 : BitVec 32 := 0#32
  let c1_i32_41 : BitVec 32 := 1#32
  let arg16 : BitVec 32 := Scf.iv c0_i32_39 c1_i32_41 k0_t6
  let v385 : Index := Scalar.indexCast arg16
  let c1_i32_171 : BitVec 32 := 1#32
  let v386 : Index := Scalar.indexCast c1_i32_171
  let c48_172 : Index := 48#32
  ![1, v385.toNat, 1, 48]
def k0_off133 (k0_t6 : Fin k0_t6_loop.trips) : Fin 4 → Nat :=
  let c1_i32_178 : BitVec 32 := 1#32
  let v403 : Index := Scalar.indexCast c1_i32_178
  let c0_i32_39 : BitVec 32 := 0#32
  let c1_i32_41 : BitVec 32 := 1#32
  let arg16 : BitVec 32 := Scf.iv c0_i32_39 c1_i32_41 k0_t6
  let v404 : Index := Scalar.indexCast arg16
  let c2_i32_179 : BitVec 32 := 2#32
  let v405 : Index := Scalar.indexCast c2_i32_179
  let c48_180 : Index := 48#32
  ![1, v404.toNat, 2, 48]
def k0_off134 (k0_t6 : Fin k0_t6_loop.trips) : Fin 4 → Nat :=
  let c1_i32_186 : BitVec 32 := 1#32
  let v422 : Index := Scalar.indexCast c1_i32_186
  let c0_i32_39 : BitVec 32 := 0#32
  let c1_i32_41 : BitVec 32 := 1#32
  let arg16 : BitVec 32 := Scf.iv c0_i32_39 c1_i32_41 k0_t6
  let v423 : Index := Scalar.indexCast arg16
  let c3_i32_187 : BitVec 32 := 3#32
  let v424 : Index := Scalar.indexCast c3_i32_187
  let c48_188 : Index := 48#32
  ![1, v423.toNat, 3, 48]
def k0_off135 (k0_t6 : Fin k0_t6_loop.trips) : Fin 4 → Nat :=
  let c1_i32_200 : BitVec 32 := 1#32
  let v456 : Index := Scalar.indexCast c1_i32_200
  let c0_i32_39 : BitVec 32 := 0#32
  let c1_i32_41 : BitVec 32 := 1#32
  let arg16 : BitVec 32 := Scf.iv c0_i32_39 c1_i32_41 k0_t6
  let v457 : Index := Scalar.indexCast arg16
  let c0_i32_201 : BitVec 32 := 0#32
  let v458 : Index := Scalar.indexCast c0_i32_201
  let c64 : Index := 64#32
  ![1, v457.toNat, 0, 64]
def k0_off136 (k0_t6 : Fin k0_t6_loop.trips) : Fin 4 → Nat :=
  let c1_i32_207 : BitVec 32 := 1#32
  let v474 : Index := Scalar.indexCast c1_i32_207
  let c0_i32_39 : BitVec 32 := 0#32
  let c1_i32_41 : BitVec 32 := 1#32
  let arg16 : BitVec 32 := Scf.iv c0_i32_39 c1_i32_41 k0_t6
  let v475 : Index := Scalar.indexCast arg16
  let c1_i32_208 : BitVec 32 := 1#32
  let v476 : Index := Scalar.indexCast c1_i32_208
  let c64_209 : Index := 64#32
  ![1, v475.toNat, 1, 64]
def k0_off137 (k0_t6 : Fin k0_t6_loop.trips) : Fin 4 → Nat :=
  let c1_i32_215 : BitVec 32 := 1#32
  let v493 : Index := Scalar.indexCast c1_i32_215
  let c0_i32_39 : BitVec 32 := 0#32
  let c1_i32_41 : BitVec 32 := 1#32
  let arg16 : BitVec 32 := Scf.iv c0_i32_39 c1_i32_41 k0_t6
  let v494 : Index := Scalar.indexCast arg16
  let c2_i32_216 : BitVec 32 := 2#32
  let v495 : Index := Scalar.indexCast c2_i32_216
  let c64_217 : Index := 64#32
  ![1, v494.toNat, 2, 64]
def k0_off138 (k0_t6 : Fin k0_t6_loop.trips) : Fin 4 → Nat :=
  let c1_i32_223 : BitVec 32 := 1#32
  let v512 : Index := Scalar.indexCast c1_i32_223
  let c0_i32_39 : BitVec 32 := 0#32
  let c1_i32_41 : BitVec 32 := 1#32
  let arg16 : BitVec 32 := Scf.iv c0_i32_39 c1_i32_41 k0_t6
  let v513 : Index := Scalar.indexCast arg16
  let c3_i32_224 : BitVec 32 := 3#32
  let v514 : Index := Scalar.indexCast c3_i32_224
  let c64_225 : Index := 64#32
  ![1, v513.toNat, 3, 64]
def k0_off139 (k0_t6 : Fin k0_t6_loop.trips) : Fin 4 → Nat :=
  let c1_i32_237 : BitVec 32 := 1#32
  let v546 : Index := Scalar.indexCast c1_i32_237
  let c0_i32_39 : BitVec 32 := 0#32
  let c1_i32_41 : BitVec 32 := 1#32
  let arg16 : BitVec 32 := Scf.iv c0_i32_39 c1_i32_41 k0_t6
  let v547 : Index := Scalar.indexCast arg16
  let c0_i32_238 : BitVec 32 := 0#32
  let v548 : Index := Scalar.indexCast c0_i32_238
  let c80 : Index := 80#32
  ![1, v547.toNat, 0, 80]
def k0_off140 (k0_t6 : Fin k0_t6_loop.trips) : Fin 4 → Nat :=
  let c1_i32_244 : BitVec 32 := 1#32
  let v564 : Index := Scalar.indexCast c1_i32_244
  let c0_i32_39 : BitVec 32 := 0#32
  let c1_i32_41 : BitVec 32 := 1#32
  let arg16 : BitVec 32 := Scf.iv c0_i32_39 c1_i32_41 k0_t6
  let v565 : Index := Scalar.indexCast arg16
  let c1_i32_245 : BitVec 32 := 1#32
  let v566 : Index := Scalar.indexCast c1_i32_245
  let c80_246 : Index := 80#32
  ![1, v565.toNat, 1, 80]
def k0_off141 (k0_t6 : Fin k0_t6_loop.trips) : Fin 4 → Nat :=
  let c1_i32_252 : BitVec 32 := 1#32
  let v583 : Index := Scalar.indexCast c1_i32_252
  let c0_i32_39 : BitVec 32 := 0#32
  let c1_i32_41 : BitVec 32 := 1#32
  let arg16 : BitVec 32 := Scf.iv c0_i32_39 c1_i32_41 k0_t6
  let v584 : Index := Scalar.indexCast arg16
  let c2_i32_253 : BitVec 32 := 2#32
  let v585 : Index := Scalar.indexCast c2_i32_253
  let c80_254 : Index := 80#32
  ![1, v584.toNat, 2, 80]
def k0_off142 (k0_t6 : Fin k0_t6_loop.trips) : Fin 4 → Nat :=
  let c1_i32_260 : BitVec 32 := 1#32
  let v602 : Index := Scalar.indexCast c1_i32_260
  let c0_i32_39 : BitVec 32 := 0#32
  let c1_i32_41 : BitVec 32 := 1#32
  let arg16 : BitVec 32 := Scf.iv c0_i32_39 c1_i32_41 k0_t6
  let v603 : Index := Scalar.indexCast arg16
  let c3_i32_261 : BitVec 32 := 3#32
  let v604 : Index := Scalar.indexCast c3_i32_261
  let c80_262 : Index := 80#32
  ![1, v603.toNat, 3, 80]
def k0_off143 (k0_t6 : Fin k0_t6_loop.trips) : Fin 4 → Nat :=
  let c1_i32_274 : BitVec 32 := 1#32
  let v636 : Index := Scalar.indexCast c1_i32_274
  let c0_i32_39 : BitVec 32 := 0#32
  let c1_i32_41 : BitVec 32 := 1#32
  let arg16 : BitVec 32 := Scf.iv c0_i32_39 c1_i32_41 k0_t6
  let v637 : Index := Scalar.indexCast arg16
  let c0_i32_275 : BitVec 32 := 0#32
  let v638 : Index := Scalar.indexCast c0_i32_275
  let c96 : Index := 96#32
  ![1, v637.toNat, 0, 96]
def k0_off144 (k0_t6 : Fin k0_t6_loop.trips) : Fin 4 → Nat :=
  let c1_i32_281 : BitVec 32 := 1#32
  let v654 : Index := Scalar.indexCast c1_i32_281
  let c0_i32_39 : BitVec 32 := 0#32
  let c1_i32_41 : BitVec 32 := 1#32
  let arg16 : BitVec 32 := Scf.iv c0_i32_39 c1_i32_41 k0_t6
  let v655 : Index := Scalar.indexCast arg16
  let c1_i32_282 : BitVec 32 := 1#32
  let v656 : Index := Scalar.indexCast c1_i32_282
  let c96_283 : Index := 96#32
  ![1, v655.toNat, 1, 96]
def k0_off145 (k0_t6 : Fin k0_t6_loop.trips) : Fin 4 → Nat :=
  let c1_i32_289 : BitVec 32 := 1#32
  let v673 : Index := Scalar.indexCast c1_i32_289
  let c0_i32_39 : BitVec 32 := 0#32
  let c1_i32_41 : BitVec 32 := 1#32
  let arg16 : BitVec 32 := Scf.iv c0_i32_39 c1_i32_41 k0_t6
  let v674 : Index := Scalar.indexCast arg16
  let c2_i32_290 : BitVec 32 := 2#32
  let v675 : Index := Scalar.indexCast c2_i32_290
  let c96_291 : Index := 96#32
  ![1, v674.toNat, 2, 96]
def k0_off146 (k0_t6 : Fin k0_t6_loop.trips) : Fin 4 → Nat :=
  let c1_i32_297 : BitVec 32 := 1#32
  let v692 : Index := Scalar.indexCast c1_i32_297
  let c0_i32_39 : BitVec 32 := 0#32
  let c1_i32_41 : BitVec 32 := 1#32
  let arg16 : BitVec 32 := Scf.iv c0_i32_39 c1_i32_41 k0_t6
  let v693 : Index := Scalar.indexCast arg16
  let c3_i32_298 : BitVec 32 := 3#32
  let v694 : Index := Scalar.indexCast c3_i32_298
  let c96_299 : Index := 96#32
  ![1, v693.toNat, 3, 96]
def k0_off147 (k0_t6 : Fin k0_t6_loop.trips) : Fin 4 → Nat :=
  let c1_i32_311 : BitVec 32 := 1#32
  let v726 : Index := Scalar.indexCast c1_i32_311
  let c0_i32_39 : BitVec 32 := 0#32
  let c1_i32_41 : BitVec 32 := 1#32
  let arg16 : BitVec 32 := Scf.iv c0_i32_39 c1_i32_41 k0_t6
  let v727 : Index := Scalar.indexCast arg16
  let c0_i32_312 : BitVec 32 := 0#32
  let v728 : Index := Scalar.indexCast c0_i32_312
  let c112 : Index := 112#32
  ![1, v727.toNat, 0, 112]
def k0_off148 (k0_t6 : Fin k0_t6_loop.trips) : Fin 4 → Nat :=
  let c1_i32_318 : BitVec 32 := 1#32
  let v744 : Index := Scalar.indexCast c1_i32_318
  let c0_i32_39 : BitVec 32 := 0#32
  let c1_i32_41 : BitVec 32 := 1#32
  let arg16 : BitVec 32 := Scf.iv c0_i32_39 c1_i32_41 k0_t6
  let v745 : Index := Scalar.indexCast arg16
  let c1_i32_319 : BitVec 32 := 1#32
  let v746 : Index := Scalar.indexCast c1_i32_319
  let c112_320 : Index := 112#32
  ![1, v745.toNat, 1, 112]
def k0_off149 (k0_t6 : Fin k0_t6_loop.trips) : Fin 4 → Nat :=
  let c1_i32_326 : BitVec 32 := 1#32
  let v763 : Index := Scalar.indexCast c1_i32_326
  let c0_i32_39 : BitVec 32 := 0#32
  let c1_i32_41 : BitVec 32 := 1#32
  let arg16 : BitVec 32 := Scf.iv c0_i32_39 c1_i32_41 k0_t6
  let v764 : Index := Scalar.indexCast arg16
  let c2_i32_327 : BitVec 32 := 2#32
  let v765 : Index := Scalar.indexCast c2_i32_327
  let c112_328 : Index := 112#32
  ![1, v764.toNat, 2, 112]
def k0_off150 (k0_t6 : Fin k0_t6_loop.trips) : Fin 4 → Nat :=
  let c1_i32_334 : BitVec 32 := 1#32
  let v782 : Index := Scalar.indexCast c1_i32_334
  let c0_i32_39 : BitVec 32 := 0#32
  let c1_i32_41 : BitVec 32 := 1#32
  let arg16 : BitVec 32 := Scf.iv c0_i32_39 c1_i32_41 k0_t6
  let v783 : Index := Scalar.indexCast arg16
  let c3_i32_335 : BitVec 32 := 3#32
  let v784 : Index := Scalar.indexCast c3_i32_335
  let c112_336 : Index := 112#32
  ![1, v783.toNat, 3, 112]
def k0_cond10 (i : grid0.Coords) (k0_t4 : Fin (k0_t4_loop i).trips) : BitVec 1 :=
  let c2_i32_35 : BitVec 32 := 2#32
  let c0_i32_15 : BitVec 32 := 0#32
  let c13_i32_2 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let c1_i32_7 : BitVec 32 := 1#32
  let v15 : BitVec 32 := Scalar.addi v7 c1_i32_7
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32_14 : BitVec 32 := 1#32
  let v31 : BitVec 32 := Scalar.subi v16 c1_i32_14
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg13 : BitVec 32 := Scf.iv v37 c1_i32_18 k0_t4
  let v66 : BitVec 32 := Scalar.muli c2_i32_35 arg13
  let c1_i32_36 : BitVec 32 := 1#32
  let v67 : BitVec 32 := Scalar.addi v66 c1_i32_36
  let c2_i32_45 : BitVec 32 := 2#32
  let v80 : BitVec 32 := Scalar.addi v67 c2_i32_45
  let v81 : BitVec 1 := Scalar.cmpi .slt v80 v7
  let v82 : BitVec 32 := Scalar.extui v81
  let c0_i32_46 : BitVec 32 := 0#32
  let v83 : BitVec 1 := Scalar.cmpi .ne v82 c0_i32_46
  v83

def k0_off151 (i : grid0.Coords) (k0_t4 : Fin (k0_t4_loop i).trips) : Fin 3 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c2_i32_35 : BitVec 32 := 2#32
  let c0_i32_15 : BitVec 32 := 0#32
  let c13_i32_2 : BitVec 32 := 13#32
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let c1_i32_7 : BitVec 32 := 1#32
  let v15 : BitVec 32 := Scalar.addi v7 c1_i32_7
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32_14 : BitVec 32 := 1#32
  let v31 : BitVec 32 := Scalar.subi v16 c1_i32_14
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg13 : BitVec 32 := Scf.iv v37 c1_i32_18 k0_t4
  let v66 : BitVec 32 := Scalar.muli c2_i32_35 arg13
  let c1_i32_36 : BitVec 32 := 1#32
  let v67 : BitVec 32 := Scalar.addi v66 c1_i32_36
  let c2_i32_47 : BitVec 32 := 2#32
  let v84 : BitVec 32 := Scalar.addi v67 c2_i32_47
  let v85 : BitVec 32 := Scalar.addi v4 v84
  let c50_i32_48 : BitVec 32 := 50#32
  let v86 : BitVec 32 := Scalar.muli v85 c50_i32_48
  let v87 : BitVec 32 := Scalar.addi c10400_i32 v86
  let c0_i32_54 : BitVec 32 := 0#32
  let c0_i32_55 : BitVec 32 := 0#32
  ![v87.toNat, 0, 0]
def k0_off152 (i : grid0.Coords) (k0_t4 : Fin (k0_t4_loop i).trips) : Fin 1 → Nat :=
  let c10400_i32 : BitVec 32 := 10400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c1_i32 : BitVec 32 := 1#32
  let v3 : BitVec 32 := Scalar.minsi v1 c1_i32
  let v4 : BitVec 32 := Scalar.addi v2 v3
  let c2_i32_35 : BitVec 32 := 2#32
  let c0_i32_15 : BitVec 32 := 0#32
  let c13_i32_2 : BitVec 32 := 13#32
  let c1_i32_0 : BitVec 32 := 1#32
  let v5 : BitVec 1 := Scalar.cmpi .slt v1 c1_i32_0
  let c1_i32_1 : BitVec 32 := 1#32
  let c0_i32 : BitVec 32 := 0#32
  let v6 : BitVec 32 := Scalar.select v5 c1_i32_1 c0_i32
  let v7 : BitVec 32 := Scalar.addi c13_i32_2 v6
  let c1_i32_7 : BitVec 32 := 1#32
  let v15 : BitVec 32 := Scalar.addi v7 c1_i32_7
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c2_i32_8 : BitVec 32 := 2#32
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let v16 : BitVec 32 := Scalar.divsi v15 c2_i32_8
  let c1_i32_14 : BitVec 32 := 1#32
  let v31 : BitVec 32 := Scalar.subi v16 c1_i32_14
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg13 : BitVec 32 := Scf.iv v37 c1_i32_18 k0_t4
  let v66 : BitVec 32 := Scalar.muli c2_i32_35 arg13
  let c1_i32_36 : BitVec 32 := 1#32
  let v67 : BitVec 32 := Scalar.addi v66 c1_i32_36
  let c2_i32_47 : BitVec 32 := 2#32
  let v84 : BitVec 32 := Scalar.addi v67 c2_i32_47
  let v85 : BitVec 32 := Scalar.addi v4 v84
  let c50_i32_48 : BitVec 32 := 50#32
  let v86 : BitVec 32 := Scalar.muli v85 c50_i32_48
  let v87 : BitVec 32 := Scalar.addi c10400_i32 v86
  let c128_i32 : BitVec 32 := 128#32
  let v104 : BitVec 32 := Scalar.muli v87 c128_i32
  ![v104.toNat]
def k0_off153 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_25_r0 : BitVec 32 := 0#32
  ![v1.toNat, 0]
abbrev grid1 : Pipeline.Grid := ⟨1, ![11], ![false]⟩

def k1_cond2 (i : grid1.Coords) : BitVec 1 :=
  let arg0 : BitVec 32 := BitVec.ofNat 32 (i 0).val
  let c10_i32 : BitVec 32 := 10#32
  let v106 : BitVec 1 := Scalar.cmpi .eq arg0 c10_i32
  let v107 : BitVec 32 := Scalar.extui v106
  let c0_i32_31 : BitVec 32 := 0#32
  let v108 : BitVec 1 := Scalar.cmpi .ne v107 c0_i32_31
  v108

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4000000x4 : Shape := ⟨2, ![4000000, 4]⟩
abbrev S4000000 : Shape := ⟨1, ![4000000]⟩
abbrev S4000000x1 : Shape := ⟨2, ![4000000, 1]⟩
abbrev S16000000 : Shape := ⟨1, ![16000000]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4000000x4, .f32⟩
  | .hbm, ⟨1, _⟩ => ⟨S4000000x4, .f32⟩
  | .hbm, ⟨2, _⟩ => ⟨S4000000, .i32⟩
  | .hbm, ⟨3, _⟩ => ⟨S4000000x1, .i32⟩
  | .hbm, ⟨4, _⟩ => ⟨S4000000x1, .i32⟩
  | .hbm, ⟨5, _⟩ => ⟨S4000000x1, .i32⟩
  | .hbm, ⟨6, _⟩ => ⟨S4000000x1, .i32⟩
  | .hbm, ⟨7, _⟩ => ⟨S4000000x4, .i32⟩
  | .hbm, ⟨8, _⟩ => ⟨S16000000, .f32⟩
  | .hbm, ⟨9, _⟩ => ⟨S16000000, .f32⟩
  | .hbm, ⟨10, _⟩ => ⟨S16000000, .i32⟩
  | .hbm, ⟨11, _⟩ => ⟨S_, .i32⟩
  | .hbm, ⟨12, _⟩ => ⟨S16000000, .i32⟩
  | .hbm, ⟨13, _⟩ => ⟨S16000000, .i1⟩
  | .hbm, ⟨14, _⟩ => ⟨S16000000, .f32⟩
  | .hbm, ⟨15, _⟩ => ⟨S16000000, .f32⟩
  | .hbm, ⟨16, _⟩ => ⟨S_, .f32⟩
  | .hbm, ⟨17, _⟩ => ⟨S16000000, .f32⟩
  | .hbm, ⟨18, _⟩ => ⟨S16000000, .i1⟩
  | .hbm, ⟨19, _⟩ => ⟨S_, .f32⟩
  | .hbm, ⟨20, _⟩ => ⟨S16000000, .f32⟩
  | .hbm, ⟨21, _⟩ => ⟨S16000000, .f32⟩
  | .hbm, ⟨22, _⟩ => ⟨S16000000, .f32⟩
  | .hbm, ⟨23, _⟩ => ⟨S_, .f32⟩
  | .hbm, ⟨24, _⟩ => ⟨S16000000, .f32⟩
  | .hbm, ⟨25, _⟩ => ⟨S16000000, .f32⟩
  | .hbm, ⟨26, _⟩ => ⟨S16000000, .f32⟩
  | .hbm, ⟨27, _⟩ => ⟨S16000000, .i32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16000000, .f32⟩
  | .hbm, ⟨34, _⟩ => ⟨S16000000, .f32⟩
  | .hbm, ⟨35, _⟩ => ⟨S_, .f32⟩
  | .hbm, ⟨36, _⟩ => ⟨S_, .f32⟩
  | .hbm, ⟨37, _⟩ => ⟨S_, .f32⟩
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Proof.Common.lean ====
/-
  The set-up the proof of the kernel shares: the program as the launch theorem sees it, the ghost state, the buffers, the
  shares of the three arrays every tile reads, and what the one SparseCore call takes and brings back.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Batch
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the region's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- Where the TensorCore region's rounds sit. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance
/-- Where the transfers' counters sit. -/
abbrev EC : UEmb Counters (MT nD τ sig (HIx 1) (Elt F) ℕ UU ℕ) := countersEmb (U := UU)

/-! ## The buffers -/

abbrev xLoc (d : Dev nD) : Loc nD τ sig := (SparseCore.T d).loc main_v1
abbrev tLoc (d : Dev nD) : Loc nD τ sig := (SparseCore.T d).loc main_v3
abbrev sLoc (d : Dev nD) : Loc nD τ sig := (SparseCore.T d).loc main_arg2
abbrev aLoc (d : Dev nD) : Loc nD τ sig := (SparseCore.T d).loc main_v4_0
abbrev nLoc (d : Dev nD) : Loc nD τ sig := (SparseCore.T d).loc main_v4_1

abbrev xV : Memref sig Kind.scVector Space.hbm S31250x4x128 EltTy.f32 := Memref.whole main_v1_scv
abbrev tV : Memref sig Kind.scVector Space.hbm S31250x4x128 EltTy.f32 := Memref.whole main_v3_scv
abbrev sV : Memref sig Kind.scVector Space.hbm S4000000 EltTy.i32 := Memref.whole main_arg2_scv
abbrev aV : Memref sig Kind.scVector Space.hbm S32x16 EltTy.f32 := Memref.whole main_v4_0_scv
abbrev nV : Memref sig Kind.scVector Space.hbm S32x16 EltTy.f32 := Memref.whole main_v4_1_scv
abbrev xB : Memref sig Kind.scVector Space.vmem S2x50x4x128 EltTy.f32 := Memref.whole cc0_scratch0
abbrev tB : Memref sig Kind.scVector Space.vmem S2x50x4x128 EltTy.f32 := Memref.whole cc0_scratch1
abbrev sB : Memref sig Kind.scVector Space.vmem S2x6400 EltTy.i32 := Memref.whole cc0_scratch2
abbrev oB : Memref sig Kind.scVector Space.vmem S2x16 EltTy.f32 := Memref.whole cc0_scratch3

end Cert.Proof.Loss
-- ==== Proof.RegRun.lean ====
/-
  One grid point of the TensorCore call: what its body leaves in the two running totals and, at the last point, in the
  result's staging buffer.
-/
module

public import proofs.«01_k».proof.Proof.Common
public import Idealize.ShloMosaic.Lib.Pipeline.Value
public import Idealize.ShloMosaic.Lib.VecWindow

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- A block of 512 rows of 8 by 128 entries, and one of 512 rows of 2 by 128 scores; one entry. -/
abbrev Blk8 (F : FTy → Type) : Type := S512x8x128.Idx → F .f32
abbrev Blk2 : Type := S512x2x128.Idx → BitVec 32
abbrev One (F : FTy → Type) : Type := S1x1.Idx → F .f32

/-- The running totals after a point, from the point's blocks and the totals before it. -/
def tcSum (i : grid1.Coords) (x t : Blk8 F) (s : Blk2) (a : One F) : One F :=
  k1_pay1 (k1_pay12 (k1_pay6 (F := F) x t) (k1_pay7 (F := F) i s) (k1_pay8 (F := F) i x t s) (k1_pay9 (F := F) i s) (k1_pay10 (F := F) x t)
    (k1_pay11 (F := F)) a)
def tcCnt (i : grid1.Coords) (s : Blk2) (c : One F) : One F := k1_pay2 (F := F) (k1_pay7 (F := F) i s) c

/-- A memref's buffer on core `c` held where the memref lies. -/
abbrev pt (c : Dev nD) {sp : Space} {Sh : Shape} {e : EltTy} (M : Memref sig .tc sp Sh e) (f : Buf (Elt F) (M.view.loc (T c : Thread nD τ))) : sProp 𝕄 :=
  M.view.loc (T c : Thread nD τ) ↦{fullShare} f

abbrev s0 : Memref sig .tc .vmem S1x1 .f32 := Memref.whole cc1_scratch0
abbrev s1 : Memref sig .tc .vmem S1x1 .f32 := Memref.whole cc1_scratch1

/-- Loading a rectangle as large as the shape from its start reads everything. -/
theorem readAll {sp : Space} {Sh : Shape} {e : EltTy} (v : View sig .tc sp Sh e) (off : Fin Sh.rank → ℕ) (h0 : ∀ a, off a = 0)
    (p : ∀ a, off a + Sh.size a ≤ Sh.size a) (f : v.ty.Contents (Elt F)) :
    v.readAt (Elt F) (Rect.unit off Sh.size p).toLoadRect f = v.read (Elt F) f := by
  funext j
  rw [View.readAt_apply]
  exact congrArg _ (funext fun a => Fin.ext (by
    show off a + 1 * (j a).val = (j a).val
    rw [h0 a]; omega))

/-- Reading back a store of everything gives what was stored, whatever was stored before. -/
theorem storeAll {sp : Space} {Sh : Shape} {e : EltTy} (v : View sig .tc sp Sh e) (off : Fin Sh.rank → ℕ) (h0 : ∀ a, off a = 0)
    (p : ∀ a, off a + Sh.size a ≤ Sh.size a) (f : v.ty.Contents (Elt F)) (w : Sh.Idx → Elt F e) (L : List (View.Piece (Elt F) Sh e)) :
    v.read (Elt F) (v.writes (Elt F) f (⟨Rect.unit off Sh.size p, w⟩ :: L)) = w := by
  funext j
  have hj : (Rect.unit off Sh.size p).emb j = j := funext fun a => Fin.ext (by
    rw [Rect.emb_apply]
    show off a + 1 * (j a).val = (j a).val
    rw [h0 a]; omega)
  conv_lhs => rw [← hj]
  exact View.read_writes_cons_emb ..

theorem z3 : ∀ a : Fin 3, (![0, 0, 0] : Fin 3 → ℕ) a = 0 := by decide
theorem z2 : ∀ a : Fin 2, (![0, 0] : Fin 2 → ℕ) a = 0 := by decide

/-- A running total's buffer after stores of all of it, the last of them `w`. -/
theorem scr0 (c : Dev nD) (p : ∀ a, (![0, 0] : Fin 2 → ℕ) a + S1x1.size a ≤ S1x1.size a) (f w : One F) (L : List (View.Piece (Elt F) S1x1 .f32)) :
    pt c s0 ((s0).view.writes (Elt F) f (⟨Rect.unit ![0, 0] S1x1.size p, w⟩ :: L)) ⊢ (pt c s0 w : sProp 𝕄) :=
  Entails.of_eq (congrArg (pt c s0) (storeAll (s0).view _ z2 p f w L))
theorem scr1 (c : Dev nD) (p : ∀ a, (![0, 0] : Fin 2 → ℕ) a + S1x1.size a ≤ S1x1.size a) (f w : One F) (L : List (View.Piece (Elt F) S1x1 .f32)) :
    pt c s1 ((s1).view.writes (Elt F) f (⟨Rect.unit ![0, 0] S1x1.size p, w⟩ :: L)) ⊢ (pt c s1 w : sProp 𝕄) :=
  Entails.of_eq (congrArg (pt c s1) (storeAll (s1).view _ z2 p f w L))
/-- Loading all of a running total. -/
theorem rd0 (p : ∀ a, (![0, 0] : Fin 2 → ℕ) a + S1x1.size a ≤ S1x1.size a) (f : One F) :
    (s0).view.readAt (Elt F) (Rect.unit ![0, 0] S1x1.size p).toLoadRect f = f := readAll (s0).view _ z2 p f
theorem rd1 (p : ∀ a, (![0, 0] : Fin 2 → ℕ) a + S1x1.size a ≤ S1x1.size a) (f : One F) :
    (s1).view.readAt (Elt F) (Rect.unit ![0, 0] S1x1.size p).toLoadRect f = f := readAll (s1).view _ z2 p f

set_option maxHeartbeats 4000000 in
/-- A point neither first nor last. -/
theorem tcMid (c : Dev nD) (i : grid1.Coords) (hf : ¬ (Scalar.cmpi .ne (Scalar.extui (Scalar.cmpi .eq (BitVec.ofNat 32 (i 0).val) 0#32) : BitVec 32) 0#32 = 1#1)) (hl : ¬ (k1_cond2 i = 1#1))
    (M0 : Memref sig .tc .vmem S512x8x128 .f32) (e0 : M0.IsWhole) (M1 : Memref sig .tc .vmem S512x8x128 .f32) (e1 : M1.IsWhole)
    (M2 : Memref sig .tc .vmem S512x2x128 .i32) (e2 : M2.IsWhole) (M3 : Memref sig .tc .vmem S1x2 .f32) (e3 : M3.IsWhole)
    (f0 : Buf (Elt F) (M0.view.loc (T c))) (f1 : Buf (Elt F) (M1.view.loc (T c))) (f2 : Buf (Elt F) (M2.view.loc (T c)))
    (f3 : Buf (Elt F) (M3.view.loc (T c))) (a b : One F) (W : Waits sig (HIx 1)) (Q : PUnit → sProp 𝕄) :
    iprop(pt c M0 f0 ∗ pt c M1 f1 ∗ pt c M2 f2 ∗ pt c M3 f3 ∗ pt c s0 a ∗ pt c s1 b ∗ owes (T c) 0 W
      ∗ (iprop(pt c M0 f0 ∗ pt c M1 f1 ∗ pt c M2 f2 ∗ pt c M3 f3
            ∗ pt c s0 (tcSum i (M0.view.read (Elt F) f0) (M1.view.read (Elt F) f1) (M2.view.read (Elt F) f2) a)
            ∗ pt c s1 (tcCnt i (M2.view.read (Elt F) f2) b) ∗ owes (T c) 0 W) -∗ Q ⟨⟩))
    ⊢ wp frame (wpE (defs₀ (F := F)) Variants.none (T c) none) Set.univ
        (cc1__tc_kernel i M0 e0 M1 e1 M2 e2 M3 e3 s0 (Memref.isWhole_whole _) s1 (Memref.isWhole_whole _)) Q := by
  iintro ⟨H0, H1, H2, H3, Ha, Hb, HO, Hk⟩
  rw [cc1__tc_kernel_eq_skeleton]
  unfold cc1__tc_kernel_skel
  rw [k1_part1_eq_skeleton, k1_part2_eq_skeleton]
  unfold k1_part1_skel k1_part2_skel
  sl_exec
  skip
  rw [readAll M0.view _ z3 _ f0, readAll M1.view _ z3 _ f1, readAll M2.view _ z3 _ f2]
  rw [rd0 _ a, rd1 _ b]
  sl_step
  iapply Hk
  isplitl [H0]; · iexact H0
  isplitl [H1]; · iexact H1
  isplitl [H2]; · iexact H2
  isplitl [H3]; · iexact H3
  isplitl [Ha]; · ihave Ha := (scr0 c _ _ _ _) $$ Ha; iexact Ha
  isplitl [Hb]; · ihave Hb := (scr1 c _ _ _ _) $$ Hb; iexact Hb
  iexact HO

set_option maxHeartbeats 4000000 in
/-- The first point: the totals start over. -/
theorem tcFirst (c : Dev nD) (i : grid1.Coords) (hf : Scalar.cmpi .ne (Scalar.extui (Scalar.cmpi .eq (BitVec.ofNat 32 (i 0).val) 0#32) : BitVec 32) 0#32 = 1#1) (hl : ¬ (k1_cond2 i = 1#1))
    (M0 : Memref sig .tc .vmem S512x8x128 .f32) (e0 : M0.IsWhole) (M1 : Memref sig .tc .vmem S512x8x128 .f32) (e1 : M1.IsWhole)
    (M2 : Memref sig .tc .vmem S512x2x128 .i32) (e2 : M2.IsWhole) (M3 : Memref sig .tc .vmem S1x2 .f32) (e3 : M3.IsWhole)
    (f0 : Buf (Elt F) (M0.view.loc (T c))) (f1 : Buf (Elt F) (M1.view.loc (T c))) (f2 : Buf (Elt F) (M2.view.loc (T c)))
    (f3 : Buf (Elt F) (M3.view.loc (T c))) (a b : One F) (W : Waits sig (HIx 1)) (Q : PUnit → sProp 𝕄) :
    iprop(pt c M0 f0 ∗ pt c M1 f1 ∗ pt c M2 f2 ∗ pt c M3 f3 ∗ pt c s0 a ∗ pt c s1 b ∗ owes (T c) 0 W
      ∗ (iprop(pt c M0 f0 ∗ pt c M1 f1 ∗ pt c M2 f2 ∗ pt c M3 f3
            ∗ pt c s0 (tcSum i (M0.view.read (Elt F) f0) (M1.view.read (Elt F) f1) (M2.view.read (Elt F) f2) (k1_pay4 (F := F)))
            ∗ pt c s1 (tcCnt i (M2.view.read (Elt F) f2) (k1_pay5 (F := F))) ∗ owes (T c) 0 W) -∗ Q ⟨⟩))
    ⊢ wp frame (wpE (defs₀ (F := F)) Variants.none (T c) none) Set.univ
        (cc1__tc_kernel i M0 e0 M1 e1 M2 e2 M3 e3 s0 (Memref.isWhole_whole _) s1 (Memref.isWhole_whole _)) Q := by
  iintro ⟨H0, H1, H2, H3, Ha, Hb, HO, Hk⟩
  rw [cc1__tc_kernel_eq_skeleton]
  unfold cc1__tc_kernel_skel
  rw [k1_part1_eq_skeleton, k1_part2_eq_skeleton]
  unfold k1_part1_skel k1_part2_skel
  sl_exec
  unfold tcFirst.sl.v83 tcFirst.sl.v93 tcFirst.sl.Ha_1 tcFirst.sl.Hb_1
  rw [readAll M0.view _ z3 _ f0, readAll M1.view _ z3 _ f1, readAll M2.view _ z3 _ f2]
  rw [View.readCov_full (s0).view, View.readCov_full (s1).view]
  sl_step
  iapply Hk
  isplitl [H0]; · iexact H0
  isplitl [H1]; · iexact H1
  isplitl [H2]; · iexact H2
  isplitl [H3]; · iexact H3
  isplitl [Ha]; · ihave Ha := (scr0 c _ _ _ _) $$ Ha; iexact Ha
  isplitl [Hb]; · ihave Hb := (scr1 c _ _ _ _) $$ Hb; iexact Hb
  iexact HO

set_option maxHeartbeats 4000000 in
/-- The last point: the totals go to the result's staging buffer. -/
theorem tcLast (c : Dev nD) (i : grid1.Coords) (hf : ¬ (Scalar.cmpi .ne (Scalar.extui (Scalar.cmpi .eq (BitVec.ofNat 32 (i 0).val) 0#32) : BitVec 32) 0#32 = 1#1)) (hl : k1_cond2 i = 1#1)
    (M0 : Memref sig .tc .vmem S512x8x128 .f32) (e0 : M0.IsWhole) (M1 : Memref sig .tc .vmem S512x8x128 .f32) (e1 : M1.IsWhole)
    (M2 : Memref sig .tc .vmem S512x2x128 .i32) (e2 : M2.IsWhole) (M3 : Memref sig .tc .vmem S1x2 .f32) (e3 : M3.IsWhole)
    (f0 : Buf (Elt F) (M0.view.loc (T c))) (f1 : Buf (Elt F) (M1.view.loc (T c))) (f2 : Buf (Elt F) (M2.view.loc (T c)))
    (f3 : Buf (Elt F) (M3.view.loc (T c))) (a b : One F) (W : Waits sig (HIx 1)) (Q : PUnit → sProp 𝕄) :
    iprop(pt c M0 f0 ∗ pt c M1 f1 ∗ pt c M2 f2 ∗ pt c M3 f3 ∗ pt c s0 a ∗ pt c s1 b ∗ owes (T c) 0 W
      ∗ (iprop(pt c M0 f0 ∗ pt c M1 f1 ∗ pt c M2 f2 ∗ (∃ f, ⌜M3.view.read (Elt F) f = k1_pay3 (F := F) (tcSum i (M0.view.read (Elt F) f0) (M1.view.read (Elt F) f1) (M2.view.read (Elt F) f2) a) (tcCnt i (M2.view.read (Elt F) f2) b)⌝ ∗ pt c M3 f)
            ∗ pt c s0 (tcSum i (M0.view.read (Elt F) f0) (M1.view.read (Elt F) f1) (M2.view.read (Elt F) f2) a)
            ∗ pt c s1 (tcCnt i (M2.view.read (Elt F) f2) b) ∗ owes (T c) 0 W) -∗ Q ⟨⟩))
    ⊢ wp frame (wpE (defs₀ (F := F)) Variants.none (T c) none) Set.univ
        (cc1__tc_kernel i M0 e0 M1 e1 M2 e2 M3 e3 s0 (Memref.isWhole_whole _) s1 (Memref.isWhole_whole _)) Q := by
  iintro ⟨H0, H1, H2, H3, Ha, Hb, HO, Hk⟩
  rw [cc1__tc_kernel_eq_skeleton]
  unfold cc1__tc_kernel_skel
  rw [k1_part1_eq_skeleton, k1_part2_eq_skeleton]
  unfold k1_part1_skel k1_part2_skel
  sl_exec
  unfold tcLast.sl.v109 tcLast.sl.v110 tcLast.sl.Ha_1 tcLast.sl.Hb_1
  rw [readAll M0.view _ z3 _ f0, readAll M1.view _ z3 _ f1, readAll M2.view _ z3 _ f2]
  rw [rd0 _ a, rd1 _ b, View.readCov_full (s0).view, View.readCov_full (s1).view]
  sl_step
  iapply Hk
  isplitl [H0]; · iexact H0
  isplitl [H1]; · iexact H1
  isplitl [H2]; · iexact H2
  isplitl [H3]; · iexists _; isplitr; swap; (· iexact H3); ipureintro; exact storeAll (F := F) M3.view _ z2 _ _ _ []
  isplitl [Ha]; · ihave Ha := (scr0 c _ _ _ _) $$ Ha; iexact Ha
  isplitl [Hb]; · ihave Hb := (scr1 c _ _ _ _) $$ Hb; iexact Hb
  iexact HO

end Cert.Proof.Loss
-- ==== Proof.Region.lean ====
/-
  The TensorCore call: its proof data — the blocks its windows stage, the running totals between the points, the pair it
  writes back at the last — and the body obligation at every point.
-/
module

public import proofs.«01_k».proof.Proof.RegRun
public import Idealize.ShloMosaic.Lib.Pipeline.Regions
public import Idealize.ShloMosaic.Lib.Pipeline.RegionsLoop
public import Idealize.ShloMosaic.Lib.Pipeline.ValueKit.Geometry

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (V : (c : Dev nD) → (b : Ref sig .tc) → Buf (Elt F) ((T c : Thread nD τ).loc b))

/-! ## The values -/

abbrev Arr8 (F : FTy → Type) : Type := S15625x8x128.Idx → F .f32
abbrev Arr2 : Type := S15625x2x128.Idx → BitVec 32

def j8 (r : Fin 15625) (s : Fin 8) (l : Fin 128) : S15625x8x128.Idx := fun a => match a with | 0 => r | 1 => s | 2 => l
def j2 (r : Fin 15625) (s : Fin 2) (l : Fin 128) : S15625x2x128.Idx := fun a => match a with | 0 => r | 1 => s | 2 => l

/-- The block a point stages of an array: 512 rows from row `512 * t`. -/
def blk8 (A : Arr8 F) (t : ℕ) : Blk8 F := fun j => A (j8 ⟨(512 * t + (j 0).val) % 15625, Nat.mod_lt _ (by decide)⟩ (j 1) (j 2))
def blk2 (A : Arr2) (t : ℕ) : Blk2 := fun j => A (j2 ⟨(512 * t + (j 0).val) % 15625, Nat.mod_lt _ (by decide)⟩ (j 1) (j 2))

/-- The grid point numbered `t`. -/
def co (t : ℕ) : grid1.Coords := fun a => match a with | 0 => (⟨t % 11, Nat.mod_lt _ (by decide)⟩ : Fin 11)

/-- The running totals before point `t`. -/
def tot (X Y : Arr8 F) (S : Arr2) : ℕ → One F × One F
  | 0 => (k1_pay4 (F := F), k1_pay5 (F := F))
  | t + 1 => (tcSum (co t) (blk8 X t) (blk8 Y t) (blk2 S t) (tot X Y S t).1, tcCnt (co t) (blk2 S t) (tot X Y S t).2)

/-- The pair the call writes back. -/
def tcOut (X Y : Arr8 F) (S : Arr2) : S1x2.Idx → F .f32 := k1_pay3 (F := F) (tot X Y S 11).1 (tot X Y S 11).2

abbrev totV (c : Dev nD) : ℕ → One F × One F := tot (F := F) (V c main_v7) (V c main_v10) (V c main_v11)

/-! ## The proof data -/

/-- The pairs recorded before and during the call: at or below a level the SparseCore calls wait at. -/
def recd (c : Dev nD) : Set (SemLoc sig × HIx 1) := {p | (K (F := F)).lev (T c, p.1) p.2 ≤ 8}

def dats (_ : Fin 1) (c : Dev nD) : Pipeline.Dat τ (Elt F) (HIx 1) ℕ UU ℕ cfg1 c where
  A w := V c (Pipeline.arrRef spec1 w)
  after w t := match w with
    | ⟨0, _⟩ => blk8 (F := F) (V c main_v7) t.val
    | ⟨1, _⟩ => blk8 (F := F) (V c main_v10) t.val
    | ⟨2, _⟩ => blk2 (V c main_v11) t.val
    | ⟨3, _⟩ => tcOut (F := F) (V c main_v7) (V c main_v10) (V c main_v11)
  Φ n := iprop(∃ a b, ⌜n.val = 0 ∨ (a = (totV V c n.val).1 ∧ b = (totV V c n.val).2)⌝ ∗ pt c s0 a ∗ pt c s1 b)
  q _ := fullShare
  owed _ := 0
  recorded _ := recd (F := F) c

theorem A_eq (c : Dev nD) (w : Fin cfg1.W) : (dats V 0 c).A w = V c (Pipeline.arrRef spec1 w) := by
  dsimp only [dats]

theorem coords_eq : ∀ t : Fin grid1.N, grid1.coords t = co t.val := by decide

theorem clip0 : ∀ (t : Fin grid1.N) (a : Fin 3), win1_0.clip (grid1.coords t) a = none := by decide
theorem clip1 : ∀ (t : Fin grid1.N) (a : Fin 3), win1_1.clip (grid1.coords t) a = none := by decide
theorem clip2 : ∀ (t : Fin grid1.N) (a : Fin 3), win1_2.clip (grid1.coords t) a = none := by decide
theorem off0 : ∀ (t : Fin grid1.N) (a : Fin 3), win1_0.index t a = (![t.val, 0, 0] : Fin 3 → ℕ) a := by decide
theorem off1 : ∀ (t : Fin grid1.N) (a : Fin 3), win1_1.index t a = (![t.val, 0, 0] : Fin 3 → ℕ) a := by decide
theorem off2 : ∀ (t : Fin grid1.N) (a : Fin 3), win1_2.index t a = (![t.val, 0, 0] : Fin 3 → ℕ) a := by decide

/-- What window 0 stages at a point: the point's block. -/
theorem fetched0 (c : Dev nD) (t : Fin cfg1.N) (d : (cfg1.win 0).block.Idx → Elt F (cfg1.win 0).elt) :
    (dats V 0 c).fetched 0 t d = blk8 (V c main_v7) t.val := by
  funext j
  have hm : (cfg1.win 0).moved (cfg1.grid.coords t) j = true :=
    ((cfg1.win 0).moved_iff _ j).mpr fun a => by
      have h := clip0 t a
      show (j a).val < Pipeline.Clip.extent (win1_0.clip (grid1.coords t) a) _
      rw [h]; exact (j a).isLt
  unfold Pipeline.Dat.fetched Pipeline.Window.fill
  rw [dif_pos hm]
  unfold Pipeline.Dat.blockOf
  rw [View.read_apply, A_eq]
  have ht : t.val < 11 := lt_of_lt_of_eq t.isLt N_1
  have hj : (j 0).val < 512 := (j 0).isLt
  show V c main_v7 (((cfg1.win 0).rect t).emb _) = V c main_v7 _
  refine congrArg (V c main_v7) (funext fun a => Fin.ext ?_)
  rw [Rect.emb_apply]
  show win1_0.index t a * (![512, 8, 128] : Fin 3 → ℕ) a + 1 * (j a).val = _
  rw [off0 t a]
  match a with
  | 0 => show t.val * 512 + 1 * (j 0).val = (512 * t.val + (j 0).val) % 15625; rw [Nat.mod_eq_of_lt (by omega)]; omega
  | 1 => show 0 * 8 + 1 * (j 1).val = (j 1).val; omega
  | 2 => show 0 * 128 + 1 * (j 2).val = (j 2).val; omega

theorem before0 (c : Dev nD) (t : Fin cfg1.N) (d : (cfg1.win 0).block.Idx → Elt F (cfg1.win 0).elt) :
    (dats V 0 c).before 0 t d = blk8 (V c main_v7) t.val := by
  rw [Pipeline.Dat.before_fetched _ 0 t (fetch1_0 t) d, fetched0]

/-- What window 1 stages at a point: the point's block. -/
theorem fetched1 (c : Dev nD) (t : Fin cfg1.N) (d : (cfg1.win 1).block.Idx → Elt F (cfg1.win 1).elt) :
    (dats V 0 c).fetched 1 t d = blk8 (V c main_v10) t.val := by
  funext j
  have hm : (cfg1.win 1).moved (cfg1.grid.coords t) j = true :=
    ((cfg1.win 1).moved_iff _ j).mpr fun a => by
      have h := clip1 t a
      show (j a).val < Pipeline.Clip.extent (win1_1.clip (grid1.coords t) a) _
      rw [h]; exact (j a).isLt
  unfold Pipeline.Dat.fetched Pipeline.Window.fill
  rw [dif_pos hm]
  unfold Pipeline.Dat.blockOf
  rw [View.read_apply, A_eq]
  have ht : t.val < 11 := lt_of_lt_of_eq t.isLt N_1
  have hj : (j 0).val < 512 := (j 0).isLt
  show V c main_v10 (((cfg1.win 1).rect t).emb _) = V c main_v10 _
  refine congrArg (V c main_v10) (funext fun a => Fin.ext ?_)
  rw [Rect.emb_apply]
  show win1_1.index t a * (![512, 8, 128] : Fin 3 → ℕ) a + 1 * (j a).val = _
  rw [off1 t a]
  match a with
  | 0 => show t.val * 512 + 1 * (j 0).val = (512 * t.val + (j 0).val) % 15625; rw [Nat.mod_eq_of_lt (by omega)]; omega
  | 1 => show 0 * 8 + 1 * (j 1).val = (j 1).val; omega
  | 2 => show 0 * 128 + 1 * (j 2).val = (j 2).val; omega

theorem before1 (c : Dev nD) (t : Fin cfg1.N) (d : (cfg1.win 1).block.Idx → Elt F (cfg1.win 1).elt) :
    (dats V 0 c).before 1 t d = blk8 (V c main_v10) t.val := by
  rw [Pipeline.Dat.before_fetched _ 1 t (fetch1_1 t) d, fetched1]

/-- What window 2 stages at a point: the point's block. -/
theorem fetched2 (c : Dev nD) (t : Fin cfg1.N) (d : (cfg1.win 2).block.Idx → Elt F (cfg1.win 2).elt) :
    (dats V 0 c).fetched 2 t d = blk2 (V c main_v11) t.val := by
  funext j
  have hm : (cfg1.win 2).moved (cfg1.grid.coords t) j = true :=
    ((cfg1.win 2).moved_iff _ j).mpr fun a => by
      have h := clip2 t a
      show (j a).val < Pipeline.Clip.extent (win1_2.clip (grid1.coords t) a) _
      rw [h]; exact (j a).isLt
  unfold Pipeline.Dat.fetched Pipeline.Window.fill
  rw [dif_pos hm]
  unfold Pipeline.Dat.blockOf
  rw [View.read_apply, A_eq]
  have ht : t.val < 11 := lt_of_lt_of_eq t.isLt N_1
  have hj : (j 0).val < 512 := (j 0).isLt
  show V c main_v11 (((cfg1.win 2).rect t).emb _) = V c main_v11 _
  refine congrArg (V c main_v11) (funext fun a => Fin.ext ?_)
  rw [Rect.emb_apply]
  show win1_2.index t a * (![512, 2, 128] : Fin 3 → ℕ) a + 1 * (j a).val = _
  rw [off2 t a]
  match a with
  | 0 => show t.val * 512 + 1 * (j 0).val = (512 * t.val + (j 0).val) % 15625; rw [Nat.mod_eq_of_lt (by omega)]; omega
  | 1 => show 0 * 2 + 1 * (j 1).val = (j 1).val; omega
  | 2 => show 0 * 128 + 1 * (j 2).val = (j 2).val; omega

theorem before2 (c : Dev nD) (t : Fin cfg1.N) (d : (cfg1.win 2).block.Idx → Elt F (cfg1.win 2).elt) :
    (dats V 0 c).before 2 t d = blk2 (V c main_v11) t.val := by
  rw [Pipeline.Dat.before_fetched _ 2 t (fetch1_2 t) d, fetched2]

/-- Owning a whole buffer's memref at `X` is holding the buffer at contents reading `X`. -/
theorem owns_pt (c : Dev nD) {sp : Space} {Sh : Shape} {e : EltTy} (M : Memref sig .tc sp Sh e) (h : M.IsWhole) (X : Sh.Idx → Elt F e) :
    (owns (T c : Thread nD τ) M fullShare X : sProp 𝕄) = iprop(∃ f, ⌜M.view.read (Elt F) f = X⌝ ∗ pt c M f) := by
  unfold owns
  rw [h.set_eq_univ]

theorem cond1_first : ∀ t : Fin grid1.N, t.val = 0 →
    Scalar.cmpi .ne (Scalar.extui (Scalar.cmpi .eq (BitVec.ofNat 32 (grid1.coords t 0).val) 0#32) : BitVec 32) 0#32 = 1#1 := by decide
theorem cond1_later : ∀ t : Fin grid1.N, t.val ≠ 0 →
    ¬ (Scalar.cmpi .ne (Scalar.extui (Scalar.cmpi .eq (BitVec.ofNat 32 (grid1.coords t 0).val) 0#32) : BitVec 32) 0#32 = 1#1) := by decide
theorem cond2_last : ∀ t : Fin grid1.N, t.val = 10 → k1_cond2 (grid1.coords t) = 1#1 := by decide
theorem cond2_earlier : ∀ t : Fin grid1.N, t.val ≠ 10 → ¬ (k1_cond2 (grid1.coords t) = 1#1) := by decide
theorem idle_last : ∀ t : Fin grid1.N, t.val = 10 → idle1 3 (grid1.coords t) = false := by decide
theorem idle_earlier : ∀ t : Fin grid1.N, t.val ≠ 10 → idle1 3 (grid1.coords t) = true := by decide

/-- The totals after a point, from those before it. -/
theorem totV_succ (c : Dev nD) (t : Fin grid1.N) : totV V c (t.val + 1)
    = (tcSum (grid1.coords t) (blk8 (V c main_v7) t.val) (blk8 (V c main_v10) t.val) (blk2 (V c main_v11) t.val) (totV V c t.val).1,
      tcCnt (grid1.coords t) (blk2 (V c main_v11) t.val) (totV V c t.val).2) := by rw [coords_eq]; rfl

set_option maxHeartbeats 4000000 in
/-- The body obligation at a point. -/
theorem body_at (c : Dev nD) (t : Fin grid1.N) (d0 d1 : Blk8 F) (d2 : Blk2) (X3 : S1x2.Idx → F .f32)
    (M0 : Memref sig .tc .vmem S512x8x128 .f32) (e0 : M0.IsWhole) (M1 : Memref sig .tc .vmem S512x8x128 .f32) (e1 : M1.IsWhole)
    (M2 : Memref sig .tc .vmem S512x2x128 .i32) (e2 : M2.IsWhole) (M3 : Memref sig .tc .vmem S1x2 .f32) (e3 : M3.IsWhole)
    (W : Waits sig (HIx 1)) (Q : PUnit → sProp 𝕄) :
    iprop((dats V 0 c).Φ t.castSucc ∗ owes (T c) 0 W
      ∗ owns (T c : Thread nD τ) M0 fullShare (blk8 (F := F) (V c main_v7) t.val) ∗ owns (T c : Thread nD τ) M1 fullShare (blk8 (F := F) (V c main_v10) t.val)
      ∗ owns (T c : Thread nD τ) M2 fullShare (blk2 (V c main_v11) t.val) ∗ owns (T c : Thread nD τ) M3 fullShare X3
      ∗ (iprop((dats V 0 c).Φ t.succ ∗ owes (T c) 0 W
        ∗ owns (T c : Thread nD τ) M0 fullShare (blk8 (F := F) (V c main_v7) t.val) ∗ owns (T c : Thread nD τ) M1 fullShare (blk8 (F := F) (V c main_v10) t.val)
        ∗ owns (T c : Thread nD τ) M2 fullShare (blk2 (V c main_v11) t.val)
        ∗ owns (T c : Thread nD τ) M3 fullShare (if t.val = 10 then tcOut (F := F) (V c main_v7) (V c main_v10) (V c main_v11) else X3)) -∗ Q ⟨⟩))
    ⊢ wp frame (wpE (defs₀ (F := F)) Variants.none (T c) none) Set.univ
        (cc1__tc_kernel (grid1.coords t) M0 e0 M1 e1 M2 e2 M3 e3 s0 (Memref.isWhole_whole _) s1 (Memref.isWhole_whole _)) Q := by
  rw [owns_pt c M0 e0, owns_pt c M1 e1, owns_pt c M2 e2, owns_pt c M3 e3, owns_pt c M3 e3]
  rw [show (dats V 0 c).Φ t.castSucc = iprop(∃ a b, ⌜t.val = 0 ∨ (a = (totV V c t.val).1 ∧ b = (totV V c t.val).2)⌝ ∗ pt c s0 a ∗ pt c s1 b) from rfl,
    show (dats V 0 c).Φ t.succ = iprop(∃ a b, ⌜t.val + 1 = 0 ∨ (a = (totV V c (t.val + 1)).1 ∧ b = (totV V c (t.val + 1)).2)⌝ ∗ pt c s0 a ∗ pt c s1 b) from rfl,
    totV_succ]
  iintro ⟨⟨%a, %b, %hab, Ha, Hb⟩, HO, ⟨%f0, %h0, H0⟩, ⟨%f1, %h1, H1⟩, ⟨%f2, %h2, H2⟩, ⟨%f3, %h3, H3⟩, Hk⟩
  by_cases hf : t.val = 0
  · have hl : t.val ≠ 10 := by omega
    rw [if_neg hl]
    iapply (tcFirst c (grid1.coords t) (cond1_first t hf) (cond2_earlier t hl) M0 e0 M1 e1 M2 e2 M3 e3 f0 f1 f2 f3 a b W)
    isplitl [H0]; · iexact H0
    isplitl [H1]; · iexact H1
    isplitl [H2]; · iexact H2
    isplitl [H3]; · iexact H3
    isplitl [Ha]; · iexact Ha
    isplitl [Hb]; · iexact Hb
    isplitl [HO]; · iexact HO
    iintro ⟨H0, H1, H2, H3, Ha, Hb, HO⟩
    iapply Hk
    isplitl [Ha Hb]
    · iexists _, _
      isplitr
      swap
      · isplitl [Ha]; · iexact Ha
        iexact Hb
      ipureintro
      refine Or.inr ⟨?_, ?_⟩
      · rw [h0, h1, h2, show totV V c t.val = totV V c 0 by rw [hf]]; rfl
      · rw [h2, show totV V c t.val = totV V c 0 by rw [hf]]; rfl
    isplitl [HO]; · iexact HO
    isplitl [H0]; · iexists f0; isplitr; · ipureintro; exact h0
                    iexact H0
    isplitl [H1]; · iexists f1; isplitr; · ipureintro; exact h1
                    iexact H1
    isplitl [H2]; · iexists f2; isplitr; · ipureintro; exact h2
                    iexact H2
    iexists f3; isplitr; · ipureintro; exact h3
    iexact H3
  obtain ⟨ha, hb⟩ := hab.resolve_left hf
  subst ha hb
  by_cases hl : t.val = 10
  · rw [if_pos hl]
    iapply (tcLast c (grid1.coords t) (cond1_later t hf) (cond2_last t hl) M0 e0 M1 e1 M2 e2 M3 e3 f0 f1 f2 f3 _ _ W)
    isplitl [H0]; · iexact H0
    isplitl [H1]; · iexact H1
    isplitl [H2]; · iexact H2
    isplitl [H3]; · iexact H3
    isplitl [Ha]; · iexact Ha
    isplitl [Hb]; · iexact Hb
    isplitl [HO]; · iexact HO
    iintro ⟨H0, H1, H2, ⟨%f, %hf3, H3⟩, Ha, Hb, HO⟩
    rw [h0, h1, h2] at hf3
    have hT := totV_succ V c t
    rw [show totV V c (t.val + 1) = totV V c 11 by rw [hl]] at hT
    iapply Hk
    isplitl [Ha Hb]
    · iexists _, _
      isplitr
      swap
      · isplitl [Ha]; · iexact Ha
        iexact Hb
      ipureintro
      refine Or.inr ⟨?_, ?_⟩
      · rw [h0, h1, h2]
      · rw [h2]
    isplitl [HO]; · iexact HO
    isplitl [H0]; · iexists f0; isplitr; · ipureintro; exact h0
                    iexact H0
    isplitl [H1]; · iexists f1; isplitr; · ipureintro; exact h1
                    iexact H1
    isplitl [H2]; · iexists f2; isplitr; · ipureintro; exact h2
                    iexact H2
    iexists f; isplitr
    · ipureintro
      rw [hf3]
      unfold tcOut
      rw [show tot (F := F) (V c main_v7) (V c main_v10) (V c main_v11) 11 = totV V c 11 from rfl, hT]
    iexact H3
  · rw [if_neg hl]
    iapply (tcMid c (grid1.coords t) (cond1_later t hf) (cond2_earlier t hl) M0 e0 M1 e1 M2 e2 M3 e3 f0 f1 f2 f3 _ _ W)
    isplitl [H0]; · iexact H0
    isplitl [H1]; · iexact H1
    isplitl [H2]; · iexact H2
    isplitl [H3]; · iexact H3
    isplitl [Ha]; · iexact Ha
    isplitl [Hb]; · iexact Hb
    isplitl [HO]; · iexact HO
    iintro ⟨H0, H1, H2, H3, Ha, Hb, HO⟩
    iapply Hk
    isplitl [Ha Hb]
    · iexists _, _
      isplitr
      swap
      · isplitl [Ha]; · iexact Ha
        iexact Hb
      ipureintro
      refine Or.inr ⟨?_, ?_⟩
      · rw [h0, h1, h2]
      · rw [h2]
    isplitl [HO]; · iexact HO
    isplitl [H0]; · iexists f0; isplitr; · ipureintro; exact h0
                    iexact H0
    isplitl [H1]; · iexists f1; isplitr; · ipureintro; exact h1
                    iexact H1
    isplitl [H2]; · iexists f2; isplitr; · ipureintro; exact h2
                    iexact H2
    iexists f3; isplitr; · ipureintro; exact h3
    iexact H3

set_option maxHeartbeats 4000000 in
theorem body_obligation (c : Dev nD) : Pipeline.BodyObligation (dats V 0 c) (defs₀ (F := F)) 𝒱₀ none Set.univ := fun t => by
  rw [bigSep_W1, bigSep_W1]
  unfold Pipeline.Dat.owesAt Pipeline.owesWithin
  rw [show (dats V 0 c).owed t.castSucc = 0 from rfl, show (dats V 0 c).owed t.succ = 0 from rfl]
  iintro ⟨HΦ, ⟨%W, %hW, HO⟩, ⟨%d0, H0⟩, ⟨%d1, H1⟩, ⟨%d2, H2⟩, ⟨%d3, H3⟩⟩
  rw [before0, before1, before2]
  iapply (body_at V c t d0 d1 d2 ((dats V 0 c).before 3 t d3) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) W)
  isplitl [HΦ]; · iexact HΦ
  isplitl [HO]; · iexact HO
  isplitl [H0]; · iexact H0
  isplitl [H1]; · iexact H1
  isplitl [H2]; · iexact H2
  isplitl [H3]; · iexact H3
  iintro ⟨HΦ, HO, H0, H1, H2, H3⟩
  isplitl [HΦ]; · iexact HΦ
  isplitl [HO]; · iexists W; isplitr; · ipureintro; exact hW
                  iexact HO
  isplitl [H0]; · iexact H0
  isplitl [H1]; · iexact H1
  isplitl [H2]; · iexact H2
  by_cases hl : t.val = 10
  · rw [show cfg1.idle 3 (cfg1.grid.coords t) = false from idle_last t hl, if_pos hl]
    iexact H3
  · have hfl : (cfg1.win 3).flush t = false := by
      have ht : t.val < 11 := lt_of_lt_of_eq t.isLt N_1
      have h := flush1_3 t
      rw [Nat.mod_eq_of_lt ht] at h
      exact Bool.eq_false_iff.mpr fun e => hl (h.mp e)
    rw [show cfg1.idle 3 (cfg1.grid.coords t) = true from idle_earlier t hl, hfl, if_neg hl]
    iexists d3
    iexact H3

/-! ## What the call leaves in its arrays -/

/-- An array the call only reads is as it was. -/
theorem arr0 (c : Dev nD) : (dats V 0 c).arrAt 0 cfg1.N = V c main_v7 := by
  rw [Pipeline.Dat.arrAt_in _ 0 rfl _, A_eq]
theorem arr1 (c : Dev nD) : (dats V 0 c).arrAt 1 cfg1.N = V c main_v10 := by
  rw [Pipeline.Dat.arrAt_in _ 1 rfl _, A_eq]
theorem arr2 (c : Dev nD) : (dats V 0 c).arrAt 2 cfg1.N = V c main_v11 := by
  rw [Pipeline.Dat.arrAt_in _ 2 rfl _, A_eq]

/-- The pair is written back whole. -/
theorem arr3 (c : Dev nD) : (dats V 0 c).arrAt 3 cfg1.N = tcOut (F := F) (V c main_v7) (V c main_v10) (V c main_v11) := by
  refine Pipeline.Dat.arrAt_eq_of_after_last (dats V 0 c) 3 t1_10 (by decide +kernel) _ fun j => ?_
  rfl

/-! ## The call as a region -/

abbrev adm : (p : Fin 1) → (pcfgs (F := F) p).Adm := fun p => (cfgs p).toPCfg_adm

abbrev osem : Fin 0 → SemLoc sig := fun i => i.elim0
theorem ownSemFacts : Pipeline.OwnSemFacts spec1 osem := by decide

/-- What the TensorCore owes beside the buffers: nothing, its recorded pairs bounded. -/
def owesTc (c : Dev nD) : sProp 𝕄 := iprop(∃ W, ⌜(K (F := F)).WBelow (T c) W 8⌝ ∗ owes (T c) (0 : CellTallies nD τ sig (HIx 1)) W)

/-- The buffers after the call: the result's holds the pair, every other is as before. -/
def after12 (c : Dev nD) (b : Ref sig .tc) : Buf (Elt F) ((T c : Thread nD τ).loc b) :=
  if h : b = main_v12 then h ▸ tcOut (F := F) (V c main_v7) (V c main_v10) (V c main_v11) else V c b
theorem after12_self (c : Dev nD) : after12 V c main_v12 = tcOut (F := F) (V c main_v7) (V c main_v10) (V c main_v11) := dif_pos rfl
theorem after12_ne (c : Dev nD) (b : Ref sig .tc) (h : b ≠ main_v12) : after12 V c b = V c b := dif_neg h

set_option backward.isDefEq.respectTransparency.types false in
set_option maxHeartbeats 4000000 in
def reg : Pipeline.RegionSeg (pcfgs (F := F)) adm (dats V) (none : HIx 1) defs₀ 𝒱₀ (K (F := F)).L (K (F := F)).lev 0 where
  win := launch1.win.to₀
  block_pos := launch1.block_pos
  stage_whole := launch1.stage_whole
  K := Fin 0
  osem := osem
  ho := ownSemFacts
  hbody c := (body_obligation V c).loose
  hwaits := Pipeline.hwaits_of_owed_zero _ _ _ _ (K (F := F)).L (K (F := F)).lev 0 fun _ _ => rfl
  pre c := iprop(unscopedBufs c (V c) ∗ owesTc c)
  post c := iprop(unscopedBufs c (after12 V c) ∗ owesTc c)
  X c := iprop(emp)
  Y c := iprop(emp)
  Z c := Pipeline.unscopedRest spec1 c (V c)
  hentry c := by
    have hsplit := Pipeline.arrays_of_unscopedBufs (pcfgs (F := F)) adm (dats V) launch1.win launch1.arr_whole c
      ((dats V 0 c).share_full fun _ => rfl) (V c) (A_eq V c)
    iintro ⟨⟨Hub, HO⟩, -, -⟩
    ihave H := hsplit $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold owesTc
      unfold Pipeline.Dat.owesAt Pipeline.owesWithin
      icases HO with ⟨%W, %hW, HO⟩; iexists W; isplitr; · ipureintro; exact fun p hp => Or.inl (hW p hp)
      iexact HO
    isplitr; · iempintro
    iexact HZ
  hin c := by
    rw [show (dats V 0 c).Φ 0 = iprop(∃ a b, ⌜0 = 0 ∨ (a = (totV V c 0).1 ∧ b = (totV V c 0).2)⌝ ∗ pt c s0 a ∗ pt c s1 b) from rfl, scopedRest1_eq]
    iintro ⟨-, -, ⟨%a, Ha⟩, ⟨%b, Hb⟩⟩
    iexists a, b
    isplitr; · ipureintro; exact Or.inl rfl
    isplitl [Ha] <;> iassumption
  hout c := by
    rw [show (dats V 0 c).Φ (Fin.last cfg1.N) = iprop(∃ a b, ⌜cfg1.N = 0 ∨ (a = (totV V c cfg1.N).1 ∧ b = (totV V c cfg1.N).2)⌝ ∗ pt c s0 a ∗ pt c s1 b) from rfl,
      scopedRest1_eq]
    iintro ⟨%a, %b, -, Ha, Hb⟩
    isplitr; · iempintro
    isplitr
    · unfold Pipeline.ownSems0; rw [show (Finset.univ : Finset (Fin 0)) = ∅ from rfl, BI.bigSep_empty]; iempintro
    isplitl [Ha]
    · iexists a; iexact Ha
    · iexists b; iexact Hb
  hexit c := by
    have hjoin := Pipeline.unscopedBufs_of_arrays (pcfgs (F := F)) adm (Ix := HIx 1) (Name := ℕ) (U := UU) (Lvl := ℕ) (p := 0)
      launch1.win launch1.arr_whole c (dats V) ((dats V 0 c).share_full fun _ => rfl) (V c) (after12 V c) ((dats V 0 c).arrAt · cfg1.N)
      (fun w => match w with
        | ⟨0, _⟩ => (arr0 V c).trans (after12_ne V c main_v7 (by decide)).symm
        | ⟨1, _⟩ => (arr1 V c).trans (after12_ne V c main_v10 (by decide)).symm
        | ⟨2, _⟩ => (arr2 V c).trans (after12_ne V c main_v11 (by decide)).symm
        | ⟨3, _⟩ => (arr3 V c).trans (after12_self V c).symm)
      (fun b hb => after12_ne V c b fun e => hb (e ▸ Finset.mem_image.mpr ⟨3, Finset.mem_univ _, rfl⟩))
    iintro ⟨Ha, HO, -, HZ⟩
    imodintro
    isplitl [Ha HZ]
    · iapply hjoin
      isplitl [Ha]; · iexact Ha
      iexact HZ
    · unfold owesTc
      unfold Pipeline.Dat.owesAt Pipeline.owesWithin
      icases HO with ⟨%W, %hW, HO⟩; iexists W; isplitr
      · ipureintro
        intro p hp
        rcases hW hp with h | ⟨w, s, h⟩
        · exact h
        · rw [h]; exact Nat.zero_le 8
      iexact HO

end Cert.Proof.Loss
-- ==== Proof.RegCall.lean ====
/-
  The TensorCore call as the program makes it: its weakest precondition from the region's proof.
-/
module

public import proofs.«01_k».proof.Proof.Region

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (V : (c : Dev nD) → (b : Ref sig .tc) → Buf (Elt F) ((T c : Thread nD τ).loc b))

/-- The call's ghost state on one device: its cells' rounds and its tokens. -/
def callGhost (c : Dev nD) : sProp 𝕄 :=
  iprop(Pipeline.cellsGhost (Pipeline.pin (pcfgs (F := F)) adm) EP 0 c ∗ Pipeline.toksInit (Pipeline.pin (pcfgs (F := F)) adm) EP 0 c)

theorem reg_wp (c : Dev nD) (Q : PUnit.{1} → sProp 𝕄) :
    iprop((iprop(boundary (T c : Thread nD τ) ∗ (reg V).post c) -∗ wp frame (wpE D 𝒱 (T c) none) Set.univ (Prog.ret (⟨⟩ : PUnit.{1})) Q)
        ∗ boundary (T c : Thread nD τ) ∗ (reg V).pre c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE D 𝒱 (T c) none) Set.univ (Prog.op (.customCall (Pipeline.entry 0) ()) fun _ => Prog.ret (⟨⟩ : PUnit.{1})) Q :=
  Pipeline.RegionSeg.wp (pcfgs (F := F)) adm (dats V) (none : HIx 1) cellOf_inj (EP (F := F)) defs₀ 𝒱₀ (K (F := F)).L (K (F := F)).lev
    (reg V) c none (fun u hu => nomatch hu) (fun _ => Prog.ret (⟨⟩ : PUnit.{1})) Q

theorem reg_pre (c : Dev nD) : (reg V).pre c = iprop(unscopedBufs c (V c) ∗ owesTc c) := rfl
theorem reg_post (c : Dev nD) : (reg V).post c = iprop(unscopedBufs c (after12 V c) ∗ owesTc c) := rfl

/-- The call as the lifted program makes it. -/
theorem lifted_call : (SparseCore.liftProg (Prog.op (.customCall (Pipeline.entry 0) ()) fun _ => Prog.ret ⟨⟩ : Prog (TpuEff nD τ sig (Elt F) ΛP .tc) PUnit.{1})
      : Prog (TpuEff nD τ sig (Elt F) (SparseCore.Sig (Pipeline.Sig Λ₀ (Fin 1) fun p => (pcfgs (F := F) p).Adm) 1) .tc) PUnit.{1})
    = Prog.lift (.customCall (SparseCore.inner (Pipeline.entry 0)) ()) := rfl

theorem lift_call (c : Dev nD) (Q : PUnit.{1} → sProp 𝕄) :
    wp frame (wpE D 𝒱 (T c : Thread nD τ) none) Set.univ (Prog.op (.customCall (Pipeline.entry 0) ()) fun _ => Prog.ret (⟨⟩ : PUnit.{1})) Q
      ⊢ wp frame (wpE ((K (F := F)).defs D) 𝒱 (T c) none) Set.univ
          (Prog.lift (.customCall (SparseCore.inner (Pipeline.entry 0)) ())) Q := by
  have h := (K (F := F)).wp_liftProg D 𝒱 (T c) Set.univ none
    (Prog.op (.customCall (Pipeline.entry 0) ()) fun _ => Prog.ret (⟨⟩ : PUnit.{1}) : Prog (TpuEff nD τ sig (Elt F) ΛP .tc) PUnit.{1}) Q
  rw [lifted_call] at h
  exact h

/-- The call, as the program makes it. -/
theorem tc_call (c : Dev nD) (Q : PUnit.{1} → sProp 𝕄) :
    iprop((iprop(boundary (T c : Thread nD τ) ∗ unscopedBufs c (after12 V c) ∗ owesTc c) -∗ Q ⟨⟩)
        ∗ boundary (T c : Thread nD τ) ∗ (unscopedBufs c (V c) ∗ owesTc c) ∗ levAts (K (F := F)).L (K (F := F)).lev
        ∗ callGhost c)
      ⊢ wp frame (wpE ((K (F := F)).defs D) 𝒱 (T c) none) Set.univ
          (Prog.lift (.customCall (SparseCore.inner (Pipeline.entry 0)) ())) Q := by
  refine BIBase.Entails.trans ?_ (lift_call c Q)
  refine BIBase.Entails.trans ?_ (reg_wp V c Q)
  rw [reg_pre, reg_post, wp_ret]
  unfold callGhost
  iintro ⟨Hk, Hb, Hpre, Hl, Hc, Ht⟩
  isplitl [Hk]
  · iintro ⟨Hb, Hp⟩
    imodintro
    iapply Hk
    isplitl [Hb]; · iexact Hb
    iexact Hp
  isplitl [Hb]; · iexact Hb
  isplitl [Hpre]; · iexact Hpre
  isplitl [Hl]; · iexact Hl
  isplitl [Hc]; · iexact Hc
  iexact Ht

end Cert.Proof.Loss
-- ==== Proof.Trip.lean ====
/-
  One step of the two inner loops: a tile of 128 rows read from the staged chunk, its losses and its counted rows added to
  the sixteen running sums and counts.
-/
module

public import proofs.«01_k».proof.Proof.Common
public import Idealize.ShloMosaic.Lib.Pipeline.Value

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The SparseCore and the subcore of a grid point. -/
abbrev cV (L : grid0.Coords) : Fin τ.nSC := (L 0).castLE hcore0
abbrev jV (L : grid0.Coords) : Fin τ.nSub := (L 1).castLE hsub0

/-! ## The values of one step over a tile of 128 rows -/

/-- Sixteen losses of one component. -/
def peV (x t : FVec F S16 .f32) : FVec F S16 .f32 :=
  mulf (minimumf (absf (subf x t)) (broadcast S16 (Scalar.ofBits .f32 0x3F800000#32)))
    (subf (absf (subf x t)) (mulf (broadcast S16 (Scalar.ofBits .f32 0x3F000000#32))
      (minimumf (absf (subf x t)) (broadcast S16 (Scalar.ofBits .f32 0x3F800000#32)))))
/-- The sixteen scores that count. -/
def actV (s : IVec S16 32) : IVec S16 1 := cmpi .eq s (broadcast S16 1#32)
/-- Sixteen rows added to the running sums, where their score counts. -/
def grpV (s : IVec S16 32) (x t : Fin 4 → FVec F S16 .f32) (a : FVec F S16 .f32) : FVec F S16 .f32 :=
  addf a (select (actV s) (addf (addf (addf (peV (x 0) (t 0)) (peV (x 1) (t 1))) (peV (x 2) (t 2))) (peV (x 3) (t 3)))
    (broadcast S16 (Scalar.ofBits .f32 0x00000000#32)))
/-- Sixteen rows counted, where their score counts. -/
def cntG (s : IVec S16 32) (a : FVec F S16 .f32) : FVec F S16 .f32 :=
  addf a (select (actV s) (broadcast S16 (Scalar.ofBits .f32 0x3F800000#32)) (broadcast S16 (Scalar.ofBits .f32 0x00000000#32)))
/-- The eight groups of sixteen rows of a tile, in order. -/
def sweep {α : Type} (f : Fin 8 → α → α) (a : α) : α := f 7 (f 6 (f 5 (f 4 (f 3 (f 2 (f 1 (f 0 a)))))))

/-! ## The staged elements -/

def ix4 (b : Fin 2) (k : Fin 50) (c : Fin 4) (p : Fin 128) : S2x50x4x128.Idx := fun a => match a with
  | 0 => b | 1 => k | 2 => c | 3 => p
def ix2 (b : Fin 2) (p : Fin 6400) : S2x6400.Idx := fun a => match a with
  | 0 => b | 1 => p
/-- Lane `l` of group `g`. -/
def lane (g : Fin 8) (l : S16.Idx) : Fin 128 := ⟨16 * g.val + (l 0).val, by have h : (l 0).val < 16 := (l 0).isLt; omega⟩
/-- The staged score of row `p` of tile `k`. -/
def srow (k : Fin 50) (p : Fin 128) : Fin 6400 := ⟨128 * k.val + p.val, by omega⟩

abbrev XBuf (F : FTy → Type) : Type := S2x50x4x128.Idx → F .f32
abbrev SBuf : Type := S2x6400.Idx → BitVec 32

def trip (b : Fin 2) (k : Fin 50) (fx ft : XBuf F) (fs : SBuf) (a : FVec F S16 .f32 × FVec F S16 .f32) : FVec F S16 .f32 × FVec F S16 .f32 :=
  (sweep (fun g => grpV (fun l => fs (ix2 b (srow k (lane g l)))) (fun c l => fx (ix4 b k c (lane g l))) (fun c l => ft (ix4 b k c (lane g l)))) a.1,
    sweep (fun g => cntG (fun l => fs (ix2 b (srow k (lane g l))))) a.2)

/-- The 50 tiles of a chunk, in order: the running sums and counts after `k` of them. -/
def chunkV (b : Fin 2) (fx ft : XBuf F) (fs : SBuf) : (k : Nat) → FVec F S16 .f32 × FVec F S16 .f32
  | 0 => (broadcast S16 (Scalar.ofBits .f32 0x00000000#32), broadcast S16 (Scalar.ofBits .f32 0x00000000#32))
  | k + 1 => if h : k < 50 then trip b ⟨k, h⟩ fx ft fs (chunkV b fx ft fs k) else chunkV b fx ft fs k

/-! ## The loads -/

omit [FloatOps F] in
theorem load4 (off : Fin 4 → Nat) (hin : ∀ a, off a + S1x1x1x16.size a ≤ S2x50x4x128.size a) (b : Fin 2) (k : Fin 50) (c : Fin 4) (g : Fin 8)
    (hb : off 0 = b.val) (hk : off 1 = k.val) (hc : off 2 = c.val) (hg : off 3 = 16 * g.val) (f : XBuf F) :
    shapeCast S16 (((xB).view.readAt (Elt F) (Rect.unit (s := S2x50x4x128) off S1x1x1x16.size hin).toLoadRect f : S1x1x1x16.Idx → F .f32)) shapeCasts_S1x1x1x16_S16
      = fun l => f (ix4 b k c (lane g l)) := by
  funext l
  let j : S1x1x1x16.Idx := fun a => match a with
    | 0 => (0 : Fin 1) | 1 => (0 : Fin 1) | 2 => (0 : Fin 1) | 3 => (l 0 : Fin 16)
  rw [shapeCast_apply _ _ l j (by
    rw [Shape.rowMajor_val_four, Shape.rowMajor_val_one]
    show ((0 * 1 + 0) * 1 + 0) * 16 + (l 0).val = (l 0).val
    omega)]
  show f _ = f _
  congr 1
  funext a
  match a with
  | 0 => exact Fin.ext (show off 0 + 0 * 1 = b.val by omega)
  | 1 => exact Fin.ext (show off 1 + 0 * 1 = k.val by omega)
  | 2 => exact Fin.ext (show off 2 + 0 * 1 = c.val by omega)
  | 3 => exact Fin.ext (show off 3 + 1 * (l 0).val = 16 * g.val + (l 0).val by omega)

theorem load2 (off : Fin 2 → Nat) (hin : ∀ a, off a + S1x16.size a ≤ S2x6400.size a) (b : Fin 2) (k : Fin 50) (g : Fin 8)
    (hb : off 0 = b.val) (hk : off 1 = 128 * k.val + 16 * g.val) (f : SBuf) :
    shapeCast S16 (((sB).view.readAt (Elt F) (Rect.unit (s := S2x6400) off S1x16.size hin).toLoadRect f : S1x16.Idx → BitVec 32)) shapeCasts_S1x16_S16
      = fun l => f (ix2 b (srow k (lane g l))) := by
  funext l
  let j : S1x16.Idx := fun a => match a with
    | 0 => (0 : Fin 1) | 1 => (l 0 : Fin 16)
  rw [shapeCast_apply _ _ l j (by
    rw [Shape.rowMajor_val_two, Shape.rowMajor_val_one]
    show 0 * 16 + (l 0).val = (l 0).val
    omega)]
  show f _ = f _
  congr 1
  funext a
  match a with
  | 0 => exact Fin.ext (show off 0 + 0 * 1 = b.val by omega)
  | 1 => exact Fin.ext (show off 1 + 1 * (l 0).val = 128 * k.val + (16 * g.val + (l 0).val) by omega)

/-! ## The slots of the staging buffers -/

abbrev xS0 : Memref sig .scVector .vmem S50x4x128 .f32 := ((xB).slice (Rect.unit (s := S2x50x4x128) ![0, 0, 0, 0] S1x50x4x128.size inb_S2x50x4x128_S1x50x4x128_0_0_0_0) (fun _ => rfl)).squeeze S50x4x128 squeezes_S1x50x4x128_S50x4x128
abbrev tS0 : Memref sig .scVector .vmem S50x4x128 .f32 := ((tB).slice (Rect.unit (s := S2x50x4x128) ![0, 0, 0, 0] S1x50x4x128.size inb_S2x50x4x128_S1x50x4x128_0_0_0_0) (fun _ => rfl)).squeeze S50x4x128 squeezes_S1x50x4x128_S50x4x128
abbrev sS0 : Memref sig .scVector .vmem S6400 .i32 := ((sB).slice (Rect.unit (s := S2x6400) ![0, 0] S1x6400.size inb_S2x6400_S1x6400_0_0) (fun _ => rfl)).squeeze S6400 squeezes_S1x6400_S6400

abbrev xS1 : Memref sig .scVector .vmem S50x4x128 .f32 := ((xB).slice (Rect.unit (s := S2x50x4x128) ![1, 0, 0, 0] S1x50x4x128.size inb_S2x50x4x128_S1x50x4x128_1_0_0_0) (fun _ => rfl)).squeeze S50x4x128 squeezes_S1x50x4x128_S50x4x128
abbrev tS1 : Memref sig .scVector .vmem S50x4x128 .f32 := ((tB).slice (Rect.unit (s := S2x50x4x128) ![1, 0, 0, 0] S1x50x4x128.size inb_S2x50x4x128_S1x50x4x128_1_0_0_0) (fun _ => rfl)).squeeze S50x4x128 squeezes_S1x50x4x128_S50x4x128
abbrev sS1 : Memref sig .scVector .vmem S6400 .i32 := ((sB).slice (Rect.unit (s := S2x6400) ![1, 0] S1x6400.size inb_S2x6400_S1x6400_1_0) (fun _ => rfl)).squeeze S6400 squeezes_S1x6400_S6400

/-- Where slot 0's loads read. -/
def offX0 (k : Fin k0_t2_loop.trips) (g : Fin 8) (c : Fin 4) : Fin 4 → Nat := (![![k0_off8 k, k0_off9 k, k0_off10 k, k0_off11 k], ![k0_off12 k, k0_off13 k, k0_off14 k, k0_off15 k], ![k0_off16 k, k0_off17 k, k0_off18 k, k0_off19 k], ![k0_off20 k, k0_off21 k, k0_off22 k, k0_off23 k], ![k0_off24 k, k0_off25 k, k0_off26 k, k0_off27 k], ![k0_off28 k, k0_off29 k, k0_off30 k, k0_off31 k], ![k0_off32 k, k0_off33 k, k0_off34 k, k0_off35 k], ![k0_off36 k, k0_off37 k, k0_off38 k, k0_off39 k]] : Fin 8 → Fin 4 → Fin 4 → Nat) g c
def offS0 (k : Fin k0_t2_loop.trips) (g : Fin 8) : Fin 2 → Nat := (![k0_off7 k 0#32, k0_off7 k 16#32, k0_off7 k 32#32, k0_off7 k 48#32, k0_off7 k 64#32, k0_off7 k 80#32, k0_off7 k 96#32, k0_off7 k 112#32] : Fin 8 → Fin 2 → Nat) g
theorem offX0_at : ∀ (k : Fin k0_t2_loop.trips) (g : Fin 8) (c : Fin 4), offX0 k g c 0 = 0 ∧ offX0 k g c 1 = k.val ∧ offX0 k g c 2 = c.val ∧ offX0 k g c 3 = 16 * g.val := by decide +kernel
theorem offS0_at : ∀ (k : Fin k0_t2_loop.trips) (g : Fin 8), offS0 k g 0 = 0 ∧ offS0 k g 1 = 128 * k.val + 16 * g.val := by decide +kernel
theorem offX0_inb : ∀ (k : Fin k0_t2_loop.trips) (g : Fin 8) (c : Fin 4), ∀ a, offX0 k g c a + S1x1x1x16.size a ≤ S2x50x4x128.size a := by decide +kernel
theorem offS0_inb : ∀ (k : Fin k0_t2_loop.trips) (g : Fin 8), ∀ a, offS0 k g a + S1x16.size a ≤ S2x6400.size a := by decide +kernel
def rawX0 (k : Fin k0_t2_loop.trips) (f : XBuf F) (g : Fin 8) (c : Fin 4) : FVec F S16 .f32 :=
  shapeCast S16 (((xB).view.readAt (Elt F) (Rect.unit (s := S2x50x4x128) (offX0 k g c) S1x1x1x16.size (offX0_inb k g c)).toLoadRect f : S1x1x1x16.Idx → F .f32)) shapeCasts_S1x1x1x16_S16
def rawS0 (k : Fin k0_t2_loop.trips) (f : SBuf) (g : Fin 8) : IVec S16 32 :=
  shapeCast S16 (((sB).view.readAt (Elt F) (Rect.unit (s := S2x6400) (offS0 k g) S1x16.size (offS0_inb k g)).toLoadRect f : S1x16.Idx → BitVec 32)) shapeCasts_S1x16_S16

theorem raw0_eq (k : Fin k0_t2_loop.trips) (fx ft : XBuf F) (fs : SBuf) (a : FVec F S16 .f32 × FVec F S16 .f32) :
    (sweep (fun g => grpV (rawS0 (F := F) k fs g) (rawX0 k fx g) (rawX0 k ft g)) a.1, sweep (fun g => cntG (rawS0 (F := F) k fs g)) a.2)
      = trip 0 k fx ft fs a := by
  have hx : ∀ (f : XBuf F) g, rawX0 k f g = fun c l => f (ix4 0 k c (lane g l)) := fun f g => funext fun c =>
    load4 _ _ 0 k c g (offX0_at k g c).1 (offX0_at k g c).2.1 (offX0_at k g c).2.2.1 (offX0_at k g c).2.2.2 f
  have hs : ∀ g, rawS0 (F := F) k fs g = fun l => fs (ix2 0 (srow k (lane g l))) := fun g =>
    load2 _ _ 0 k g (offS0_at k g).1 (offS0_at k g).2 fs
  unfold trip
  simp only [hx, hs]

/-- One step of the loop over slot 0's tiles. -/
theorem step0 (d : Dev nD) (L : grid0.Coords) (a b c e : BitVec 32) (k1 : Fin (k0_t1_loop L).trips) (u v : FVec F S16 .f32)
    (k : Fin k0_t2_loop.trips) (acc : FVec F S16 .f32 × FVec F S16 .f32)
    (fx : Buf (Elt F) ((xS0).view.loc (V d (cV L) (jV L)))) (ft : Buf (Elt F) ((tS0).view.loc (V d (cV L) (jV L))))
    (fs : Buf (Elt F) ((sS0).view.loc (V d (cV L) (jV L)))) :
    (iprop(((xS0).view.loc (V d (cV L) (jV L)) ↦[(xS0).view.set]{fullShare} fx) ∗ ((tS0).view.loc (V d (cV L) (jV L)) ↦[(tS0).view.set]{fullShare} ft)
      ∗ ((sS0).view.loc (V d (cV L) (jV L)) ↦[(sS0).view.set]{fullShare} fs)) : sProp 𝕄)
     ⊢ wp frame (wpE defs₀ 𝒱₀ (V d (cV L) (jV L)) none) Set.univ
        (k0_t2_body (F := F) L xV (Memref.isWhole_whole _) tV (Memref.isWhole_whole _) sV (Memref.isWhole_whole _) aV (Memref.isWhole_whole _) nV (Memref.isWhole_whole _) xB (Memref.isWhole_whole _) tB (Memref.isWhole_whole _) sB (Memref.isWhole_whole _) oB (Memref.isWhole_whole _) cc0_scratch4 cc0_scratch5 cc0_scoped0 cc0_scoped1 a b c e k1 u v k acc)
        fun r => iprop(⌜r = trip 0 k fx ft fs acc⌝ ∗ ((xS0).view.loc (V d (cV L) (jV L)) ↦[(xS0).view.set]{fullShare} fx)
          ∗ ((tS0).view.loc (V d (cV L) (jV L)) ↦[(tS0).view.set]{fullShare} ft)
          ∗ ((sS0).view.loc (V d (cV L) (jV L)) ↦[(sS0).view.set]{fullShare} fs)) := by
  obtain ⟨a17, a18⟩ := acc
  have hk : k.val < 50 := k.isLt
  iintro ⟨Hx, Ht, Hs⟩
  unfold k0_t2_body
  sl_exec
  sl_step
  isplitr
  · ipureintro
    refine Eq.trans ?_ (raw0_eq k fx ft fs (a17, a18))
    rfl
  isplitl [Hx]; · iexact Hx
  isplitl [Ht]; · iexact Ht
  iexact Hs

/-- Where slot 1's loads read. -/
def offX1 (k : Fin k0_t3_loop.trips) (g : Fin 8) (c : Fin 4) : Fin 4 → Nat := (![![k0_off45 k, k0_off46 k, k0_off47 k, k0_off48 k], ![k0_off49 k, k0_off50 k, k0_off51 k, k0_off52 k], ![k0_off53 k, k0_off54 k, k0_off55 k, k0_off56 k], ![k0_off57 k, k0_off58 k, k0_off59 k, k0_off60 k], ![k0_off61 k, k0_off62 k, k0_off63 k, k0_off64 k], ![k0_off65 k, k0_off66 k, k0_off67 k, k0_off68 k], ![k0_off69 k, k0_off70 k, k0_off71 k, k0_off72 k], ![k0_off73 k, k0_off74 k, k0_off75 k, k0_off76 k]] : Fin 8 → Fin 4 → Fin 4 → Nat) g c
def offS1 (k : Fin k0_t3_loop.trips) (g : Fin 8) : Fin 2 → Nat := (![k0_off44 k 0#32, k0_off44 k 16#32, k0_off44 k 32#32, k0_off44 k 48#32, k0_off44 k 64#32, k0_off44 k 80#32, k0_off44 k 96#32, k0_off44 k 112#32] : Fin 8 → Fin 2 → Nat) g
theorem offX1_at : ∀ (k : Fin k0_t3_loop.trips) (g : Fin 8) (c : Fin 4), offX1 k g c 0 = 1 ∧ offX1 k g c 1 = k.val ∧ offX1 k g c 2 = c.val ∧ offX1 k g c 3 = 16 * g.val := by decide +kernel
theorem offS1_at : ∀ (k : Fin k0_t3_loop.trips) (g : Fin 8), offS1 k g 0 = 1 ∧ offS1 k g 1 = 128 * k.val + 16 * g.val := by decide +kernel
theorem offX1_inb : ∀ (k : Fin k0_t3_loop.trips) (g : Fin 8) (c : Fin 4), ∀ a, offX1 k g c a + S1x1x1x16.size a ≤ S2x50x4x128.size a := by decide +kernel
theorem offS1_inb : ∀ (k : Fin k0_t3_loop.trips) (g : Fin 8), ∀ a, offS1 k g a + S1x16.size a ≤ S2x6400.size a := by decide +kernel
def rawX1 (k : Fin k0_t3_loop.trips) (f : XBuf F) (g : Fin 8) (c : Fin 4) : FVec F S16 .f32 :=
  shapeCast S16 (((xB).view.readAt (Elt F) (Rect.unit (s := S2x50x4x128) (offX1 k g c) S1x1x1x16.size (offX1_inb k g c)).toLoadRect f : S1x1x1x16.Idx → F .f32)) shapeCasts_S1x1x1x16_S16
def rawS1 (k : Fin k0_t3_loop.trips) (f : SBuf) (g : Fin 8) : IVec S16 32 :=
  shapeCast S16 (((sB).view.readAt (Elt F) (Rect.unit (s := S2x6400) (offS1 k g) S1x16.size (offS1_inb k g)).toLoadRect f : S1x16.Idx → BitVec 32)) shapeCasts_S1x16_S16

theorem raw1_eq (k : Fin k0_t3_loop.trips) (fx ft : XBuf F) (fs : SBuf) (a : FVec F S16 .f32 × FVec F S16 .f32) :
    (sweep (fun g => grpV (rawS1 (F := F) k fs g) (rawX1 k fx g) (rawX1 k ft g)) a.1, sweep (fun g => cntG (rawS1 (F := F) k fs g)) a.2)
      = trip 1 k fx ft fs a := by
  have hx : ∀ (f : XBuf F) g, rawX1 k f g = fun c l => f (ix4 1 k c (lane g l)) := fun f g => funext fun c =>
    load4 _ _ 1 k c g (offX1_at k g c).1 (offX1_at k g c).2.1 (offX1_at k g c).2.2.1 (offX1_at k g c).2.2.2 f
  have hs : ∀ g, rawS1 (F := F) k fs g = fun l => fs (ix2 1 (srow k (lane g l))) := fun g =>
    load2 _ _ 1 k g (offS1_at k g).1 (offS1_at k g).2 fs
  unfold trip
  simp only [hx, hs]

/-- One step of the loop over slot 1's tiles. -/
theorem step1 (d : Dev nD) (L : grid0.Coords) (a b c e : BitVec 32) (k1 : Fin (k0_t1_loop L).trips) (u v : FVec F S16 .f32)
    (k : Fin k0_t3_loop.trips) (acc : FVec F S16 .f32 × FVec F S16 .f32)
    (fx : Buf (Elt F) ((xS1).view.loc (V d (cV L) (jV L)))) (ft : Buf (Elt F) ((tS1).view.loc (V d (cV L) (jV L))))
    (fs : Buf (Elt F) ((sS1).view.loc (V d (cV L) (jV L)))) :
    (iprop(((xS1).view.loc (V d (cV L) (jV L)) ↦[(xS1).view.set]{fullShare} fx) ∗ ((tS1).view.loc (V d (cV L) (jV L)) ↦[(tS1).view.set]{fullShare} ft)
      ∗ ((sS1).view.loc (V d (cV L) (jV L)) ↦[(sS1).view.set]{fullShare} fs)) : sProp 𝕄)
     ⊢ wp frame (wpE defs₀ 𝒱₀ (V d (cV L) (jV L)) none) Set.univ
        (k0_t3_body (F := F) L xV (Memref.isWhole_whole _) tV (Memref.isWhole_whole _) sV (Memref.isWhole_whole _) aV (Memref.isWhole_whole _) nV (Memref.isWhole_whole _) xB (Memref.isWhole_whole _) tB (Memref.isWhole_whole _) sB (Memref.isWhole_whole _) oB (Memref.isWhole_whole _) cc0_scratch4 cc0_scratch5 cc0_scoped0 cc0_scoped1 a b c e k1 u v k acc)
        fun r => iprop(⌜r = trip 1 k fx ft fs acc⌝ ∗ ((xS1).view.loc (V d (cV L) (jV L)) ↦[(xS1).view.set]{fullShare} fx)
          ∗ ((tS1).view.loc (V d (cV L) (jV L)) ↦[(tS1).view.set]{fullShare} ft)
          ∗ ((sS1).view.loc (V d (cV L) (jV L)) ↦[(sS1).view.set]{fullShare} fs)) := by
  obtain ⟨a17, a18⟩ := acc
  have hk : k.val < 50 := k.isLt
  iintro ⟨Hx, Ht, Hs⟩
  unfold k0_t3_body
  sl_exec
  sl_step
  isplitr
  · ipureintro
    refine Eq.trans ?_ (raw1_eq k fx ft fs (a17, a18))
    rfl
  isplitl [Hx]; · iexact Hx
  isplitl [Ht]; · iexact Ht
  iexact Hs

end Cert.Proof.Loss
-- ==== Proof.Slots.lean ====
/-
  The two slots of the staging buffers: the chunks a tile takes, their copies started and waited for.
-/
module

public import proofs.«01_k».proof.Proof.Trip

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The chunks of a tile -/

/-- The tile's number, the number of its chunks and its first chunk. -/
def wid (L : grid0.Coords) : Nat := 2 * (L 1).val + (L 0).val
def cnt (w : Nat) : Nat := if w = 0 then 14 else 13
def fst0 (w : Nat) : Nat := 13 * w + min w 1
/-- The first of the 50 tiles of rows of chunk `n`. -/
def base (w n : Nat) : Nat := 10400 + 50 * (fst0 w + n)
def cX (L : grid0.Coords) (n : Nat) : Fin 3 → Nat := ![base (wid L) n, 0, 0]
def cS (L : grid0.Coords) (n : Nat) : Fin 1 → Nat := ![128 * base (wid L) n]

theorem wid_lt (L : grid0.Coords) : wid L < 32 := by
  have h0 : (L 0).val < 2 := (L 0).isLt
  have h1 : (L 1).val < 16 := (L 1).isLt
  unfold wid; omega
theorem base_le {w n : Nat} (hw : w < 32) (hn : n < cnt w) : base w n + 50 ≤ 31250 := by
  unfold base fst0; unfold cnt at hn; split at hn <;> omega
theorem cX_inb (L : grid0.Coords) (n : Nat) (hn : n < cnt (wid L)) : ∀ a, cX L n a + S50x4x128.size a ≤ S31250x4x128.size a := fun a => match a with
  | 0 => base_le (wid_lt L) hn
  | 1 => by show 0 + 4 ≤ 4; decide
  | 2 => by show 0 + 128 ≤ 128; decide
theorem cS_inb (L : grid0.Coords) (n : Nat) (hn : n < cnt (wid L)) : ∀ a, cS L n a + S6400.size a ≤ S4000000.size a := fun a => match a with
  | 0 => by
    have h := base_le (wid_lt L) hn
    show 128 * base (wid L) n + 6400 ≤ 4000000
    omega

def ix3 (r : Fin 31250) (c : Fin 4) (p : Fin 128) : S31250x4x128.Idx := fun a => match a with
  | 0 => r | 1 => c | 2 => p
def ix1 (r : Fin 4000000) : S4000000.Idx := fun a => match a with
  | 0 => r

abbrev XArr (F : FTy → Type) : Type := S31250x4x128.Idx → F .f32
abbrev SArr : Type := S4000000.Idx → BitVec 32

/-- What a staging buffer's slot holds of the 50 tiles from tile `p` on. -/
def chX (X : XArr F) (p : Nat) : XBuf F := fun i => X (ix3 ⟨(p + (i 1).val) % 31250, Nat.mod_lt _ (by decide)⟩ (i 2) (i 3))
def chS (S : SArr) (p : Nat) : SBuf := fun i => S (ix1 ⟨(128 * p + (i 1).val) % 4000000, Nat.mod_lt _ (by decide)⟩)

abbrev xP (L : grid0.Coords) (n : Nat) (h : n < cnt (wid L)) : Memref sig .scVector .hbm S50x4x128 .f32 :=
  (xV).slice (Rect.unit (s := S31250x4x128) (cX L n) S50x4x128.size (cX_inb L n h)) (fun _ => rfl)
abbrev tP (L : grid0.Coords) (n : Nat) (h : n < cnt (wid L)) : Memref sig .scVector .hbm S50x4x128 .f32 :=
  (tV).slice (Rect.unit (s := S31250x4x128) (cX L n) S50x4x128.size (cX_inb L n h)) (fun _ => rfl)
abbrev sP (L : grid0.Coords) (n : Nat) (h : n < cnt (wid L)) : Memref sig .scVector .hbm S6400 .i32 :=
  (sV).slice (Rect.unit (s := S4000000) (cS L n) S6400.size (cS_inb L n h)) (fun _ => rfl)

omit [FloatOps F] in
theorem sq4 (j : S50x4x128.Idx) : Shape.reshapeEquiv (s' := S50x4x128) (s := S1x50x4x128) (by decide) j = (fun a => match a with | 0 => (0 : Fin 1) | 1 => (j 0 : Fin 50) | 2 => (j 1 : Fin 4) | 3 => (j 2 : Fin 128) : S1x50x4x128.Idx) := by
  apply Shape.reshapeEquiv_eq_of_rowMajor
  rw [Shape.rowMajor_val_four, Shape.rowMajor_val_three]
  show ((0 * 50 + (j 0).val) * 4 + (j 1).val) * 128 + (j 2).val = ((j 0).val * 4 + (j 1).val) * 128 + (j 2).val
  omega
omit [FloatOps F] in
theorem sq2 (j : S6400.Idx) : Shape.reshapeEquiv (s' := S6400) (s := S1x6400) (by decide) j = (fun a => match a with | 0 => (0 : Fin 1) | 1 => (j 0 : Fin 6400) : S1x6400.Idx) := by
  apply Shape.reshapeEquiv_eq_of_rowMajor
  rw [Shape.rowMajor_val_two, Shape.rowMajor_val_one]
  show 0 * 6400 + (j 0).val = (j 0).val
  omega

theorem wa_lt (N : Nat) (h : 0 < N) : 0 + N < N * 2 := by omega
theorem wa_eq (N : Nat) : 0 + N + N = N * 2 := by omega
theorem wa_one (N : Nat) : 0 + N = N * 1 := by omega

theorem wa_rec {W W' : Waits sig (HIx 1)} {a b c : SemLoc sig} (h : ∀ p ∈ W', p ∈ W ∨ p.2 = none) :
    ∀ p ∈ (insert (a, none) (insert (b, none) (insert (c, none) W')) : Waits sig (HIx 1)), p ∈ W ∨ p.2 = none := by
  intro p hp
  rcases Finset.mem_insert.mp hp with rfl | hp
  · exact .inr rfl
  rcases Finset.mem_insert.mp hp with rfl | hp
  · exact .inr rfl
  rcases Finset.mem_insert.mp hp with rfl | hp
  · exact .inr rfl
  exact h p hp

abbrev tid (d : Dev nD) (L : grid0.Coords) : Thread nD τ := V d (cV L) (jV L)

omit [FloatOps F] in
theorem emb_xS0 (j : S50x4x128.Idx) : (xS0).view.emb j = ix4 0 (j 0) (j 1) (j 2) := by
  show (((xB).view.slice (Rect.unit (s := S2x50x4x128) ![0, 0, 0, 0] S1x50x4x128.size inb_S2x50x4x128_S1x50x4x128_0_0_0_0)).reshape S50x4x128 _).emb j = _
  rw [View.emb_reshape]
  show ((Rect.unit (s := S2x50x4x128) ![0, 0, 0, 0] S1x50x4x128.size inb_S2x50x4x128_S1x50x4x128_0_0_0_0)).emb (Shape.reshapeEquiv _ j) = _
  rw [sq4]
  funext a
  match a with
  | 0 => rfl
  | 1 => exact Fin.ext (show 0 + 1 * (j 0).val = (j 0).val by omega)
  | 2 => exact Fin.ext (show 0 + 1 * (j 1).val = (j 1).val by omega)
  | 3 => exact Fin.ext (show 0 + 1 * (j 2).val = (j 2).val by omega)
omit [FloatOps F] in
theorem land_x0 (d : Dev nD) (L : grid0.Coords) (n : Nat) (h : n < cnt (wid L)) (X : XArr F) (fd : Buf (Elt F) ((xS0).view.loc (tid d L))) :
    ((xS0).view.loc (tid d L) ↦[(xS0).view.set]{fullShare} ((xS0).view.write (Elt F) fd (ReadAs.same.apply ((xP L n h).view.read (Elt F) X)) Finset.univ) : sProp 𝕄)
      = ((xS0).view.loc (tid d L) ↦[(xS0).view.set]{fullShare} (chX X (base (wid L) n))) := by
  refine pointsTo_congr fun i hi => ?_
  obtain ⟨j, -, rfl⟩ := Finset.mem_map.mp hi
  rw [View.write_emb_of_mem _ _ (Finset.mem_univ j), emb_xS0]
  show X _ = X _
  have hb := base_le (wid_lt L) h
  have h0 : (j 0).val < 50 := (j 0).isLt
  congr 1
  funext a
  match a with
  | 0 => exact Fin.ext (show base (wid L) n + 1 * (j 0).val = (base (wid L) n + (j 0).val) % 31250 by rw [Nat.mod_eq_of_lt (by omega)]; omega)
  | 1 => exact Fin.ext (show 0 + 1 * (j 1).val = (j 1).val by omega)
  | 2 => exact Fin.ext (show 0 + 1 * (j 2).val = (j 2).val by omega)

omit [FloatOps F] in
theorem emb_tS0 (j : S50x4x128.Idx) : (tS0).view.emb j = ix4 0 (j 0) (j 1) (j 2) := by
  show (((tB).view.slice (Rect.unit (s := S2x50x4x128) ![0, 0, 0, 0] S1x50x4x128.size inb_S2x50x4x128_S1x50x4x128_0_0_0_0)).reshape S50x4x128 _).emb j = _
  rw [View.emb_reshape]
  show ((Rect.unit (s := S2x50x4x128) ![0, 0, 0, 0] S1x50x4x128.size inb_S2x50x4x128_S1x50x4x128_0_0_0_0)).emb (Shape.reshapeEquiv _ j) = _
  rw [sq4]
  funext a
  match a with
  | 0 => rfl
  | 1 => exact Fin.ext (show 0 + 1 * (j 0).val = (j 0).val by omega)
  | 2 => exact Fin.ext (show 0 + 1 * (j 1).val = (j 1).val by omega)
  | 3 => exact Fin.ext (show 0 + 1 * (j 2).val = (j 2).val by omega)
omit [FloatOps F] in
theorem land_t0 (d : Dev nD) (L : grid0.Coords) (n : Nat) (h : n < cnt (wid L)) (X : XArr F) (fd : Buf (Elt F) ((tS0).view.loc (tid d L))) :
    ((tS0).view.loc (tid d L) ↦[(tS0).view.set]{fullShare} ((tS0).view.write (Elt F) fd (ReadAs.same.apply ((tP L n h).view.read (Elt F) X)) Finset.univ) : sProp 𝕄)
      = ((tS0).view.loc (tid d L) ↦[(tS0).view.set]{fullShare} (chX X (base (wid L) n))) := by
  refine pointsTo_congr fun i hi => ?_
  obtain ⟨j, -, rfl⟩ := Finset.mem_map.mp hi
  rw [View.write_emb_of_mem _ _ (Finset.mem_univ j), emb_tS0]
  show X _ = X _
  have hb := base_le (wid_lt L) h
  have h0 : (j 0).val < 50 := (j 0).isLt
  congr 1
  funext a
  match a with
  | 0 => exact Fin.ext (show base (wid L) n + 1 * (j 0).val = (base (wid L) n + (j 0).val) % 31250 by rw [Nat.mod_eq_of_lt (by omega)]; omega)
  | 1 => exact Fin.ext (show 0 + 1 * (j 1).val = (j 1).val by omega)
  | 2 => exact Fin.ext (show 0 + 1 * (j 2).val = (j 2).val by omega)

omit [FloatOps F] in
theorem emb_sS0 (j : S6400.Idx) : (sS0).view.emb j = ix2 0 (j 0) := by
  show (((sB).view.slice (Rect.unit (s := S2x6400) ![0, 0] S1x6400.size inb_S2x6400_S1x6400_0_0)).reshape S6400 _).emb j = _
  rw [View.emb_reshape]
  show ((Rect.unit (s := S2x6400) ![0, 0] S1x6400.size inb_S2x6400_S1x6400_0_0)).emb (Shape.reshapeEquiv _ j) = _
  rw [sq2]
  funext a
  match a with
  | 0 => rfl
  | 1 => exact Fin.ext (show 0 + 1 * (j 0).val = (j 0).val by omega)
omit [FloatOps F] in
theorem land_s0 (d : Dev nD) (L : grid0.Coords) (n : Nat) (h : n < cnt (wid L)) (S : SArr) (fd : Buf (Elt F) ((sS0).view.loc (tid d L))) :
    ((sS0).view.loc (tid d L) ↦[(sS0).view.set]{fullShare} ((sS0).view.write (Elt F) fd (ReadAs.same.apply ((sP L n h).view.read (Elt F) S)) Finset.univ) : sProp 𝕄)
      = ((sS0).view.loc (tid d L) ↦[(sS0).view.set]{fullShare} (chS S (base (wid L) n))) := by
  refine pointsTo_congr fun i hi => ?_
  obtain ⟨j, -, rfl⟩ := Finset.mem_map.mp hi
  rw [View.write_emb_of_mem _ _ (Finset.mem_univ j), emb_sS0]
  show S _ = S _
  have hb := base_le (wid_lt L) h
  have h0 : (j 0).val < 6400 := (j 0).isLt
  congr 1
  funext a
  match a with
  | 0 => exact Fin.ext (show 128 * base (wid L) n + 1 * (j 0).val = (128 * base (wid L) n + (j 0).val) % 4000000 by rw [Nat.mod_eq_of_lt (by omega)]; omega)

/-! ## The states of slot 0 -/

abbrev sem4_0 : DmaSem sig := ((cc0_scratch4.slice (Rect.unit (s := S2) ![0] S1.size inb_S2_S1_0)).squeeze S_ squeezes_S1_S_).sem
abbrev sem5_0 : DmaSem sig := ((cc0_scratch5.slice (Rect.unit (s := S2) ![0] S1.size inb_S2_S1_0)).squeeze S_ squeezes_S1_S_).sem

section Slot0
variable (d : Dev nD) (L : grid0.Coords) (q : PosShare TreeShare) (X T : XArr F) (S : SArr)

/-- The slot at rest: nothing in flight, the slot's share of the three arrays and its three pieces of the buffers. -/
def Slot0 (fx ft : XBuf F) (fs : SBuf) : sProp 𝕄 :=
  iprop(semVal (tid d L, SemLoc.dma sem4_0) 0 ∗ semVal (tid d L, SemLoc.dma sem5_0) 0
    ∗ ((xV).view.loc (tid d L) ↦{q} X) ∗ ((tV).view.loc (tid d L) ↦{q} T) ∗ ((sV).view.loc (tid d L) ↦{q} S)
    ∗ ((xS0).view.loc (tid d L) ↦[(xS0).view.set]{fullShare} fx) ∗ ((tS0).view.loc (tid d L) ↦[(tS0).view.set]{fullShare} ft)
    ∗ ((sS0).view.loc (tid d L) ↦[(sS0).view.set]{fullShare} fs))

/-- What the two float copies of chunk `n` hand over: the staged rows, and the piece of the array back. -/
def dXT0 (n : Nat) (h : n < cnt (wid L)) : Fin 2 → sProp 𝕄
  | ⟨0, _⟩ => iprop(((xS0).view.loc (tid d L) ↦[(xS0).view.set]{fullShare} chX X (base (wid L) n)) ∗ ((xP L n h).view.loc (tid d L) ↦[(xP L n h).view.set]{q} X))
  | ⟨1, _⟩ => iprop(((tS0).view.loc (tid d L) ↦[(tS0).view.set]{fullShare} chX T (base (wid L) n)) ∗ ((tP L n h).view.loc (tid d L) ↦[(tP L n h).view.set]{q} T))
def dS0 (n : Nat) (h : n < cnt (wid L)) : Fin 1 → sProp 𝕄
  | ⟨0, _⟩ => iprop(((sS0).view.loc (tid d L) ↦[(sS0).view.set]{fullShare} chS S (base (wid L) n)) ∗ ((sP L n h).view.loc (tid d L) ↦[(sP L n h).view.set]{q} S))
instance dXT0_storable (n : Nat) (h : n < cnt (wid L)) : ∀ t, BI.Storable (upEmb : UEmb _ 𝕄) (dXT0 d L q X T n h t)
  | ⟨0, _⟩ => by unfold dXT0; infer_instance
  | ⟨1, _⟩ => by unfold dXT0; infer_instance
instance dS0_storable (n : Nat) (h : n < cnt (wid L)) : ∀ t, BI.Storable (upEmb : UEmb _ 𝕄) (dS0 (F := F) d L q S n h t)
  | ⟨0, _⟩ => by unfold dS0; infer_instance

abbrev nXT0 : Nat := (xS0).view.amount (SemLoc.dma (sig := sig) sem4_0)
abbrev nS0 : Nat := (sS0).view.amount (SemLoc.dma (sig := sig) sem5_0)

omit [FloatOps F] in
theorem nX0_w : (xS0).view.dmaCredit = nXT0 := rfl
omit [FloatOps F] in
theorem nT0_a : (tS0).view.amount (SemLoc.dma (sig := sig) sem4_0) = nXT0 := rfl
omit [FloatOps F] in
theorem nT0_w : (tS0).view.dmaCredit = nXT0 := rfl
omit [FloatOps F] in
theorem nS0_w : (sS0).view.dmaCredit = nS0 := rfl
omit [FloatOps F] in
theorem nXT0_pos : 0 < nXT0 := View.amount_pos _ _ (by decide)
omit [FloatOps F] in
theorem nS0_pos : 0 < nS0 := View.amount_pos _ _ (by decide)

/-- Chunk `n` in flight into the slot. -/
def Fly0 (n : Nat) (h : n < cnt (wid L)) : sProp 𝕄 :=
  iprop(Transfers.Batch EC (tid d L) (.dma sem4_0) none nXT0 (dXT0 d L q X T n h) 2 0
    ∗ Transfers.Batch EC (tid d L) (.dma sem5_0) none nS0 (dS0 (F := F) d L q S n h) 1 0
    ∗ ((xP L n h).view.loc (tid d L) ↦[Finset.univ \ (xP L n h).view.set]{q} X)
    ∗ ((tP L n h).view.loc (tid d L) ↦[Finset.univ \ (tP L n h).view.set]{q} T)
    ∗ ((sP L n h).view.loc (tid d L) ↦[Finset.univ \ (sP L n h).view.set]{q} S))

/-- The three copies of chunk `n` started. -/
theorem issue0 {α : Type} (n : Nat) (h : n < cnt (wid L)) (off : Fin 3 → Nat) (offS : Fin 1 → Nat)
    (hin : ∀ a, off a + S50x4x128.size a ≤ S31250x4x128.size a) (hinS : ∀ a, offS a + S6400.size a ≤ S4000000.size a)
    (ho : off = cX L n) (hoS : offS = cS L n) {g10 g11 g12 g1 g2 g3 g4 g5 g6 g7 g8 g9}
    (R : Prog (TpuEff nD τ sig (Elt F) Λ₀ (.scVector (cV L) (jV L))) α) (Q : α → sProp 𝕄) (fx ft : XBuf F) (fs : SBuf) :
    iprop(Slot0 d L q X T S fx ft fs ∗ (Fly0 d L q X T S n h -∗ wp frame (wpE defs₀ 𝒱₀ (tid d L) none) Set.univ R Q))
      ⊢ wp frame (wpE defs₀ 𝒱₀ (tid d L) none) Set.univ
        (.op (.enqueueDma ((xV).slice (Rect.unit (s := S31250x4x128) off S50x4x128.size hin) g10) (.here xS0) (.dma sem4_0) g1 g2 g3) fun _ =>
          .op (.enqueueDma ((tV).slice (Rect.unit (s := S31250x4x128) off S50x4x128.size hin) g11) (.here tS0) (.dma sem4_0) g4 g5 g6) fun _ =>
          .op (.enqueueDma ((sV).slice (Rect.unit (s := S4000000) offS S6400.size hinS) g12) (.here sS0) (.dma sem5_0) g7 g8 g9) fun _ => R) Q := by
  subst ho hoS
  unfold Slot0
  iintro ⟨⟨Hz4, Hz5, HX, HT, HS, Hx, Ht, Hs⟩, Hk⟩
  ihave HX' := (pointsTo_split_subset (Finset.subset_univ (xP L n h).view.set)).1 $$ HX
  icases HX' with ⟨HXp, HXr⟩
  ihave HT' := (pointsTo_split_subset (Finset.subset_univ (tP L n h).view.set)).1 $$ HT
  icases HT' with ⟨HTp, HTr⟩
  ihave HS' := (pointsTo_split_subset (Finset.subset_univ (sP L n h).view.set)).1 $$ HS
  icases HS' with ⟨HSp, HSr⟩
  imod (Transfers.batch_alloc' (Lvl := ℕ) EC (tid d L) none nXT0 (dXT0 d L q X T n h) (sm := .dma sem4_0) (E := Set.univ)) $$ Hz4 with HB
  imod (Transfers.batch_alloc' (Lvl := ℕ) EC (tid d L) none nS0 (dS0 (F := F) d L q S n h) (sm := .dma sem5_0) (E := Set.univ)) $$ Hz5 with HC
  iapply (Transfers.wp_dmaBatch EC 𝒱₀ (tid d L) none (src := xP L n h) (dst := xS0) none nXT0 rfl subset_rfl
    (D := dXT0 d L q X T n h) (j := 0) (u := 0) (by decide) (Nat.zero_le _) (by rw [land_x0 d L n h X fx]; unfold dXT0; exact .rfl)) $$ [HXp Hx HB]
  · isplitl [HXp]; · iexact HXp
    isplitl [Hx]; · iexact Hx
    iexact HB
  iintro HB
  iapply (Transfers.wp_dmaBatch EC 𝒱₀ (tid d L) none (src := tP L n h) (dst := tS0) none nXT0 nT0_a subset_rfl
    (D := dXT0 d L q X T n h) (j := 1) (u := 0) (by decide) (Nat.zero_le _) (by rw [land_t0 d L n h T ft]; unfold dXT0; exact .rfl)) $$ [HTp Ht HB]
  · isplitl [HTp]; · iexact HTp
    isplitl [Ht]; · iexact Ht
    iexact HB
  iintro HB
  iapply (Transfers.wp_dmaBatch EC 𝒱₀ (tid d L) none (src := sP L n h) (dst := sS0) none nS0 rfl subset_rfl
    (D := dS0 (F := F) d L q S n h) (j := 0) (u := 0) (by decide) (Nat.zero_le _) (by rw [land_s0 d L n h S fs]; unfold dS0; exact .rfl)) $$ [HSp Hs HC]
  · isplitl [HSp]; · iexact HSp
    isplitl [Hs]; · iexact Hs
    iexact HC
  iintro HC
  iapply Hk
  unfold Fly0
  isplitl [HB]; · iexact HB
  isplitl [HC]; · iexact HC
  isplitl [HXr]; · iexact HXr
  isplitl [HTr]; · iexact HTr
  iexact HSr

/-- The three copies of chunk `n` waited for. -/
theorem await0 {α : Type} (n : Nat) (h : n < cnt (wid L)) {O : CellTallies nD τ sig (HIx 1)} {W : Waits sig (HIx 1)}
    {s1 s2 : Memref sig .scVector .hbm S50x4x128 .f32} {s3 : Memref sig .scVector .hbm S6400 .i32} {g1 g2 g3 g4 g5 g6}
    (R : Prog (TpuEff nD τ sig (Elt F) Λ₀ (.scVector (cV L) (jV L))) α) (Q : α → sProp 𝕄) :
    iprop(Fly0 d L q X T S n h ∗ Transfers.MayWaits (tid d L) (none : HIx 1) O ∗ (∃ W', ⌜∀ p ∈ W', p ∈ W ∨ p.2 = none⌝ ∗ owes (tid d L) O W')
        ∗ ((Slot0 d L q X T S (chX X (base (wid L) n)) (chX T (base (wid L) n)) (chS S (base (wid L) n)) ∗ (∃ W', ⌜∀ p ∈ W', p ∈ W ∨ p.2 = none⌝ ∗ owes (tid d L) O W'))
          -∗ wp frame (wpE defs₀ 𝒱₀ (tid d L) none) Set.univ R Q))
      ⊢ wp frame (wpE defs₀ 𝒱₀ (tid d L) none) Set.univ
        (.op (.waitDma2 sem4_0 s1 xS0 g1 g2) fun _ => .op (.waitDma2 sem4_0 s2 tS0 g3 g4) fun _ => .op (.waitDma2 sem5_0 s3 sS0 g5 g6) fun _ => R) Q := by
  unfold Fly0 Slot0
  iintro ⟨⟨HB, HC, HXr, HTr, HSr⟩, #Hmw, ⟨%W', %hW', HO⟩, Hk⟩
  ihave Hm4 := (Transfers.MayWaits.elim (SemLoc.dma sem4_0)) $$ Hmw
  ihave Hm4' := (Transfers.MayWaits.elim (SemLoc.dma sem4_0)) $$ Hmw
  ihave Hm5 := (Transfers.MayWaits.elim (SemLoc.dma sem5_0)) $$ Hmw
  iapply (Transfers.wp_waitBatchO EC 𝒱₀ (tid d L) none none (N := nXT0) nX0_w (D := dXT0 d L q X T n h) (u := 0) (wa_lt _ nXT0_pos)) $$ [HB HO Hm4]
  · isplitl [HB]; · iexact HB
    isplitl [HO]; · iexact HO
    iexact Hm4
  iintro ⟨HB, HO⟩
  iapply (Transfers.wp_waitBatchLastO EC 𝒱₀ (tid d L) none none (N := nXT0) nT0_w nXT0_pos (D := dXT0 d L q X T n h) (u := 0 + nXT0) (wa_eq _)) $$ [HB HO Hm4']
  · isplitl [HB]; · iexact HB
    isplitl [HO]; · iexact HO
    iexact Hm4'
  iintro ⟨HD, Hz4, HO⟩
  iapply (Transfers.wp_waitBatchLastO EC 𝒱₀ (tid d L) none none (N := nS0) nS0_w nS0_pos (D := dS0 (F := F) d L q S n h) (u := 0) (wa_one _)) $$ [HC HO Hm5]
  · isplitl [HC]; · iexact HC
    isplitl [HO]; · iexact HO
    iexact Hm5
  iintro ⟨HE, Hz5, HO⟩
  ihave HD' := (show bigSep Finset.univ (dXT0 d L q X T n h) ⊢ iprop((((xS0).view.loc (tid d L) ↦[(xS0).view.set]{fullShare} chX X (base (wid L) n)) ∗ ((xP L n h).view.loc (tid d L) ↦[(xP L n h).view.set]{q} X))
      ∗ (((tS0).view.loc (tid d L) ↦[(tS0).view.set]{fullShare} chX T (base (wid L) n)) ∗ ((tP L n h).view.loc (tid d L) ↦[(tP L n h).view.set]{q} T))) from by
    rw [Idealize.SL.BI.bigSep_univ_eq_bigSepL [0, 1] (by decide) (by decide) _]; exact .rfl) $$ HD
  icases HD' with ⟨⟨Hx, HXp⟩, Ht, HTp⟩
  ihave HE' := (show bigSep Finset.univ (dS0 (F := F) d L q S n h) ⊢ iprop(((sS0).view.loc (tid d L) ↦[(sS0).view.set]{fullShare} chS S (base (wid L) n)) ∗ ((sP L n h).view.loc (tid d L) ↦[(sP L n h).view.set]{q} S)) from by
    rw [Idealize.SL.BI.bigSep_univ_eq_bigSepL [0] (by decide) (by decide) _]; exact .rfl) $$ HE
  icases HE' with ⟨Hs, HSp⟩
  iapply Hk
  isplitr [HO]
  · isplitl [Hz4]; · iexact Hz4
    isplitl [Hz5]; · iexact Hz5
    isplitl [HXp HXr]
    · iapply (pointsTo_split_subset (Finset.subset_univ (xP L n h).view.set)).2; isplitl [HXp]; · iexact HXp
      iexact HXr
    isplitl [HTp HTr]
    · iapply (pointsTo_split_subset (Finset.subset_univ (tP L n h).view.set)).2; isplitl [HTp]; · iexact HTp
      iexact HTr
    isplitl [HSp HSr]
    · iapply (pointsTo_split_subset (Finset.subset_univ (sP L n h).view.set)).2; isplitl [HSp]; · iexact HSp
      iexact HSr
    isplitl [Hx]; · iexact Hx
    isplitl [Ht]; · iexact Ht
    iexact Hs
  iexists (insert (SemLoc.dma sem5_0, none) (insert (SemLoc.dma sem4_0, none) (insert (SemLoc.dma sem4_0, none) W'))); isplitr
  · ipureintro; exact wa_rec hW'
  iexact HO

end Slot0

omit [FloatOps F] in
theorem emb_xS1 (j : S50x4x128.Idx) : (xS1).view.emb j = ix4 1 (j 0) (j 1) (j 2) := by
  show (((xB).view.slice (Rect.unit (s := S2x50x4x128) ![1, 0, 0, 0] S1x50x4x128.size inb_S2x50x4x128_S1x50x4x128_1_0_0_0)).reshape S50x4x128 _).emb j = _
  rw [View.emb_reshape]
  show ((Rect.unit (s := S2x50x4x128) ![1, 0, 0, 0] S1x50x4x128.size inb_S2x50x4x128_S1x50x4x128_1_0_0_0)).emb (Shape.reshapeEquiv _ j) = _
  rw [sq4]
  funext a
  match a with
  | 0 => rfl
  | 1 => exact Fin.ext (show 0 + 1 * (j 0).val = (j 0).val by omega)
  | 2 => exact Fin.ext (show 0 + 1 * (j 1).val = (j 1).val by omega)
  | 3 => exact Fin.ext (show 0 + 1 * (j 2).val = (j 2).val by omega)
omit [FloatOps F] in
theorem land_x1 (d : Dev nD) (L : grid0.Coords) (n : Nat) (h : n < cnt (wid L)) (X : XArr F) (fd : Buf (Elt F) ((xS1).view.loc (tid d L))) :
    ((xS1).view.loc (tid d L) ↦[(xS1).view.set]{fullShare} ((xS1).view.write (Elt F) fd (ReadAs.same.apply ((xP L n h).view.read (Elt F) X)) Finset.univ) : sProp 𝕄)
      = ((xS1).view.loc (tid d L) ↦[(xS1).view.set]{fullShare} (chX X (base (wid L) n))) := by
  refine pointsTo_congr fun i hi => ?_
  obtain ⟨j, -, rfl⟩ := Finset.mem_map.mp hi
  rw [View.write_emb_of_mem _ _ (Finset.mem_univ j), emb_xS1]
  show X _ = X _
  have hb := base_le (wid_lt L) h
  have h0 : (j 0).val < 50 := (j 0).isLt
  congr 1
  funext a
  match a with
  | 0 => exact Fin.ext (show base (wid L) n + 1 * (j 0).val = (base (wid L) n + (j 0).val) % 31250 by rw [Nat.mod_eq_of_lt (by omega)]; omega)
  | 1 => exact Fin.ext (show 0 + 1 * (j 1).val = (j 1).val by omega)
  | 2 => exact Fin.ext (show 0 + 1 * (j 2).val = (j 2).val by omega)

omit [FloatOps F] in
theorem emb_tS1 (j : S50x4x128.Idx) : (tS1).view.emb j = ix4 1 (j 0) (j 1) (j 2) := by
  show (((tB).view.slice (Rect.unit (s := S2x50x4x128) ![1, 0, 0, 0] S1x50x4x128.size inb_S2x50x4x128_S1x50x4x128_1_0_0_0)).reshape S50x4x128 _).emb j = _
  rw [View.emb_reshape]
  show ((Rect.unit (s := S2x50x4x128) ![1, 0, 0, 0] S1x50x4x128.size inb_S2x50x4x128_S1x50x4x128_1_0_0_0)).emb (Shape.reshapeEquiv _ j) = _
  rw [sq4]
  funext a
  match a with
  | 0 => rfl
  | 1 => exact Fin.ext (show 0 + 1 * (j 0).val = (j 0).val by omega)
  | 2 => exact Fin.ext (show 0 + 1 * (j 1).val = (j 1).val by omega)
  | 3 => exact Fin.ext (show 0 + 1 * (j 2).val = (j 2).val by omega)
omit [FloatOps F] in
theorem land_t1 (d : Dev nD) (L : grid0.Coords) (n : Nat) (h : n < cnt (wid L)) (X : XArr F) (fd : Buf (Elt F) ((tS1).view.loc (tid d L))) :
    ((tS1).view.loc (tid d L) ↦[(tS1).view.set]{fullShare} ((tS1).view.write (Elt F) fd (ReadAs.same.apply ((tP L n h).view.read (Elt F) X)) Finset.univ) : sProp 𝕄)
      = ((tS1).view.loc (tid d L) ↦[(tS1).view.set]{fullShare} (chX X (base (wid L) n))) := by
  refine pointsTo_congr fun i hi => ?_
  obtain ⟨j, -, rfl⟩ := Finset.mem_map.mp hi
  rw [View.write_emb_of_mem _ _ (Finset.mem_univ j), emb_tS1]
  show X _ = X _
  have hb := base_le (wid_lt L) h
  have h0 : (j 0).val < 50 := (j 0).isLt
  congr 1
  funext a
  match a with
  | 0 => exact Fin.ext (show base (wid L) n + 1 * (j 0).val = (base (wid L) n + (j 0).val) % 31250 by rw [Nat.mod_eq_of_lt (by omega)]; omega)
  | 1 => exact Fin.ext (show 0 + 1 * (j 1).val = (j 1).val by omega)
  | 2 => exact Fin.ext (show 0 + 1 * (j 2).val = (j 2).val by omega)

omit [FloatOps F] in
theorem emb_sS1 (j : S6400.Idx) : (sS1).view.emb j = ix2 1 (j 0) := by
  show (((sB).view.slice (Rect.unit (s := S2x6400) ![1, 0] S1x6400.size inb_S2x6400_S1x6400_1_0)).reshape S6400 _).emb j = _
  rw [View.emb_reshape]
  show ((Rect.unit (s := S2x6400) ![1, 0] S1x6400.size inb_S2x6400_S1x6400_1_0)).emb (Shape.reshapeEquiv _ j) = _
  rw [sq2]
  funext a
  match a with
  | 0 => rfl
  | 1 => exact Fin.ext (show 0 + 1 * (j 0).val = (j 0).val by omega)
omit [FloatOps F] in
theorem land_s1 (d : Dev nD) (L : grid0.Coords) (n : Nat) (h : n < cnt (wid L)) (S : SArr) (fd : Buf (Elt F) ((sS1).view.loc (tid d L))) :
    ((sS1).view.loc (tid d L) ↦[(sS1).view.set]{fullShare} ((sS1).view.write (Elt F) fd (ReadAs.same.apply ((sP L n h).view.read (Elt F) S)) Finset.univ) : sProp 𝕄)
      = ((sS1).view.loc (tid d L) ↦[(sS1).view.set]{fullShare} (chS S (base (wid L) n))) := by
  refine pointsTo_congr fun i hi => ?_
  obtain ⟨j, -, rfl⟩ := Finset.mem_map.mp hi
  rw [View.write_emb_of_mem _ _ (Finset.mem_univ j), emb_sS1]
  show S _ = S _
  have hb := base_le (wid_lt L) h
  have h0 : (j 0).val < 6400 := (j 0).isLt
  congr 1
  funext a
  match a with
  | 0 => exact Fin.ext (show 128 * base (wid L) n + 1 * (j 0).val = (128 * base (wid L) n + (j 0).val) % 4000000 by rw [Nat.mod_eq_of_lt (by omega)]; omega)

/-! ## The states of slot 1 -/

abbrev sem4_1 : DmaSem sig := ((cc0_scratch4.slice (Rect.unit (s := S2) ![1] S1.size inb_S2_S1_1)).squeeze S_ squeezes_S1_S_).sem
abbrev sem5_1 : DmaSem sig := ((cc0_scratch5.slice (Rect.unit (s := S2) ![1] S1.size inb_S2_S1_1)).squeeze S_ squeezes_S1_S_).sem

section Slot1
variable (d : Dev nD) (L : grid0.Coords) (q : PosShare TreeShare) (X T : XArr F) (S : SArr)

/-- The slot at rest: nothing in flight, the slot's share of the three arrays and its three pieces of the buffers. -/
def Slot1 (fx ft : XBuf F) (fs : SBuf) : sProp 𝕄 :=
  iprop(semVal (tid d L, SemLoc.dma sem4_1) 0 ∗ semVal (tid d L, SemLoc.dma sem5_1) 0
    ∗ ((xV).view.loc (tid d L) ↦{q} X) ∗ ((tV).view.loc (tid d L) ↦{q} T) ∗ ((sV).view.loc (tid d L) ↦{q} S)
    ∗ ((xS1).view.loc (tid d L) ↦[(xS1).view.set]{fullShare} fx) ∗ ((tS1).view.loc (tid d L) ↦[(tS1).view.set]{fullShare} ft)
    ∗ ((sS1).view.loc (tid d L) ↦[(sS1).view.set]{fullShare} fs))

/-- What the two float copies of chunk `n` hand over: the staged rows, and the piece of the array back. -/
def dXT1 (n : Nat) (h : n < cnt (wid L)) : Fin 2 → sProp 𝕄
  | ⟨0, _⟩ => iprop(((xS1).view.loc (tid d L) ↦[(xS1).view.set]{fullShare} chX X (base (wid L) n)) ∗ ((xP L n h).view.loc (tid d L) ↦[(xP L n h).view.set]{q} X))
  | ⟨1, _⟩ => iprop(((tS1).view.loc (tid d L) ↦[(tS1).view.set]{fullShare} chX T (base (wid L) n)) ∗ ((tP L n h).view.loc (tid d L) ↦[(tP L n h).view.set]{q} T))
def dS1 (n : Nat) (h : n < cnt (wid L)) : Fin 1 → sProp 𝕄
  | ⟨0, _⟩ => iprop(((sS1).view.loc (tid d L) ↦[(sS1).view.set]{fullShare} chS S (base (wid L) n)) ∗ ((sP L n h).view.loc (tid d L) ↦[(sP L n h).view.set]{q} S))
instance dXT1_storable (n : Nat) (h : n < cnt (wid L)) : ∀ t, BI.Storable (upEmb : UEmb _ 𝕄) (dXT1 d L q X T n h t)
  | ⟨0, _⟩ => by unfold dXT1; infer_instance
  | ⟨1, _⟩ => by unfold dXT1; infer_instance
instance dS1_storable (n : Nat) (h : n < cnt (wid L)) : ∀ t, BI.Storable (upEmb : UEmb _ 𝕄) (dS1 (F := F) d L q S n h t)
  | ⟨0, _⟩ => by unfold dS1; infer_instance

abbrev nXT1 : Nat := (xS1).view.amount (SemLoc.dma (sig := sig) sem4_1)
abbrev nS1 : Nat := (sS1).view.amount (SemLoc.dma (sig := sig) sem5_1)

omit [FloatOps F] in
theorem nX1_w : (xS1).view.dmaCredit = nXT1 := rfl
omit [FloatOps F] in
theorem nT1_a : (tS1).view.amount (SemLoc.dma (sig := sig) sem4_1) = nXT1 := rfl
omit [FloatOps F] in
theorem nT1_w : (tS1).view.dmaCredit = nXT1 := rfl
omit [FloatOps F] in
theorem nS1_w : (sS1).view.dmaCredit = nS1 := rfl
omit [FloatOps F] in
theorem nXT1_pos : 0 < nXT1 := View.amount_pos _ _ (by decide)
omit [FloatOps F] in
theorem nS1_pos : 0 < nS1 := View.amount_pos _ _ (by decide)

/-- Chunk `n` in flight into the slot. -/
def Fly1 (n : Nat) (h : n < cnt (wid L)) : sProp 𝕄 :=
  iprop(Transfers.Batch EC (tid d L) (.dma sem4_1) none nXT1 (dXT1 d L q X T n h) 2 0
    ∗ Transfers.Batch EC (tid d L) (.dma sem5_1) none nS1 (dS1 (F := F) d L q S n h) 1 0
    ∗ ((xP L n h).view.loc (tid d L) ↦[Finset.univ \ (xP L n h).view.set]{q} X)
    ∗ ((tP L n h).view.loc (tid d L) ↦[Finset.univ \ (tP L n h).view.set]{q} T)
    ∗ ((sP L n h).view.loc (tid d L) ↦[Finset.univ \ (sP L n h).view.set]{q} S))

/-- The three copies of chunk `n` started. -/
theorem issue1 {α : Type} (n : Nat) (h : n < cnt (wid L)) (off : Fin 3 → Nat) (offS : Fin 1 → Nat)
    (hin : ∀ a, off a + S50x4x128.size a ≤ S31250x4x128.size a) (hinS : ∀ a, offS a + S6400.size a ≤ S4000000.size a)
    (ho : off = cX L n) (hoS : offS = cS L n) {g10 g11 g12 g1 g2 g3 g4 g5 g6 g7 g8 g9}
    (R : Prog (TpuEff nD τ sig (Elt F) Λ₀ (.scVector (cV L) (jV L))) α) (Q : α → sProp 𝕄) (fx ft : XBuf F) (fs : SBuf) :
    iprop(Slot1 d L q X T S fx ft fs ∗ (Fly1 d L q X T S n h -∗ wp frame (wpE defs₀ 𝒱₀ (tid d L) none) Set.univ R Q))
      ⊢ wp frame (wpE defs₀ 𝒱₀ (tid d L) none) Set.univ
        (.op (.enqueueDma ((xV).slice (Rect.unit (s := S31250x4x128) off S50x4x128.size hin) g10) (.here xS1) (.dma sem4_1) g1 g2 g3) fun _ =>
          .op (.enqueueDma ((tV).slice (Rect.unit (s := S31250x4x128) off S50x4x128.size hin) g11) (.here tS1) (.dma sem4_1) g4 g5 g6) fun _ =>
          .op (.enqueueDma ((sV).slice (Rect.unit (s := S4000000) offS S6400.size hinS) g12) (.here sS1) (.dma sem5_1) g7 g8 g9) fun _ => R) Q := by
  subst ho hoS
  unfold Slot1
  iintro ⟨⟨Hz4, Hz5, HX, HT, HS, Hx, Ht, Hs⟩, Hk⟩
  ihave HX' := (pointsTo_split_subset (Finset.subset_univ (xP L n h).view.set)).1 $$ HX
  icases HX' with ⟨HXp, HXr⟩
  ihave HT' := (pointsTo_split_subset (Finset.subset_univ (tP L n h).view.set)).1 $$ HT
  icases HT' with ⟨HTp, HTr⟩
  ihave HS' := (pointsTo_split_subset (Finset.subset_univ (sP L n h).view.set)).1 $$ HS
  icases HS' with ⟨HSp, HSr⟩
  imod (Transfers.batch_alloc' (Lvl := ℕ) EC (tid d L) none nXT1 (dXT1 d L q X T n h) (sm := .dma sem4_1) (E := Set.univ)) $$ Hz4 with HB
  imod (Transfers.batch_alloc' (Lvl := ℕ) EC (tid d L) none nS1 (dS1 (F := F) d L q S n h) (sm := .dma sem5_1) (E := Set.univ)) $$ Hz5 with HC
  iapply (Transfers.wp_dmaBatch EC 𝒱₀ (tid d L) none (src := xP L n h) (dst := xS1) none nXT1 rfl subset_rfl
    (D := dXT1 d L q X T n h) (j := 0) (u := 0) (by decide) (Nat.zero_le _) (by rw [land_x1 d L n h X fx]; unfold dXT1; exact .rfl)) $$ [HXp Hx HB]
  · isplitl [HXp]; · iexact HXp
    isplitl [Hx]; · iexact Hx
    iexact HB
  iintro HB
  iapply (Transfers.wp_dmaBatch EC 𝒱₀ (tid d L) none (src := tP L n h) (dst := tS1) none nXT1 nT1_a subset_rfl
    (D := dXT1 d L q X T n h) (j := 1) (u := 0) (by decide) (Nat.zero_le _) (by rw [land_t1 d L n h T ft]; unfold dXT1; exact .rfl)) $$ [HTp Ht HB]
  · isplitl [HTp]; · iexact HTp
    isplitl [Ht]; · iexact Ht
    iexact HB
  iintro HB
  iapply (Transfers.wp_dmaBatch EC 𝒱₀ (tid d L) none (src := sP L n h) (dst := sS1) none nS1 rfl subset_rfl
    (D := dS1 (F := F) d L q S n h) (j := 0) (u := 0) (by decide) (Nat.zero_le _) (by rw [land_s1 d L n h S fs]; unfold dS1; exact .rfl)) $$ [HSp Hs HC]
  · isplitl [HSp]; · iexact HSp
    isplitl [Hs]; · iexact Hs
    iexact HC
  iintro HC
  iapply Hk
  unfold Fly1
  isplitl [HB]; · iexact HB
  isplitl [HC]; · iexact HC
  isplitl [HXr]; · iexact HXr
  isplitl [HTr]; · iexact HTr
  iexact HSr

/-- The three copies of chunk `n` waited for. -/
theorem await1 {α : Type} (n : Nat) (h : n < cnt (wid L)) {O : CellTallies nD τ sig (HIx 1)} {W : Waits sig (HIx 1)}
    {s1 s2 : Memref sig .scVector .hbm S50x4x128 .f32} {s3 : Memref sig .scVector .hbm S6400 .i32} {g1 g2 g3 g4 g5 g6}
    (R : Prog (TpuEff nD τ sig (Elt F) Λ₀ (.scVector (cV L) (jV L))) α) (Q : α → sProp 𝕄) :
    iprop(Fly1 d L q X T S n h ∗ Transfers.MayWaits (tid d L) (none : HIx 1) O ∗ (∃ W', ⌜∀ p ∈ W', p ∈ W ∨ p.2 = none⌝ ∗ owes (tid d L) O W')
        ∗ ((Slot1 d L q X T S (chX X (base (wid L) n)) (chX T (base (wid L) n)) (chS S (base (wid L) n)) ∗ (∃ W', ⌜∀ p ∈ W', p ∈ W ∨ p.2 = none⌝ ∗ owes (tid d L) O W'))
          -∗ wp frame (wpE defs₀ 𝒱₀ (tid d L) none) Set.univ R Q))
      ⊢ wp frame (wpE defs₀ 𝒱₀ (tid d L) none) Set.univ
        (.op (.waitDma2 sem4_1 s1 xS1 g1 g2) fun _ => .op (.waitDma2 sem4_1 s2 tS1 g3 g4) fun _ => .op (.waitDma2 sem5_1 s3 sS1 g5 g6) fun _ => R) Q := by
  unfold Fly1 Slot1
  iintro ⟨⟨HB, HC, HXr, HTr, HSr⟩, #Hmw, ⟨%W', %hW', HO⟩, Hk⟩
  ihave Hm4 := (Transfers.MayWaits.elim (SemLoc.dma sem4_1)) $$ Hmw
  ihave Hm4' := (Transfers.MayWaits.elim (SemLoc.dma sem4_1)) $$ Hmw
  ihave Hm5 := (Transfers.MayWaits.elim (SemLoc.dma sem5_1)) $$ Hmw
  iapply (Transfers.wp_waitBatchO EC 𝒱₀ (tid d L) none none (N := nXT1) nX1_w (D := dXT1 d L q X T n h) (u := 0) (wa_lt _ nXT1_pos)) $$ [HB HO Hm4]
  · isplitl [HB]; · iexact HB
    isplitl [HO]; · iexact HO
    iexact Hm4
  iintro ⟨HB, HO⟩
  iapply (Transfers.wp_waitBatchLastO EC 𝒱₀ (tid d L) none none (N := nXT1) nT1_w nXT1_pos (D := dXT1 d L q X T n h) (u := 0 + nXT1) (wa_eq _)) $$ [HB HO Hm4']
  · isplitl [HB]; · iexact HB
    isplitl [HO]; · iexact HO
    iexact Hm4'
  iintro ⟨HD, Hz4, HO⟩
  iapply (Transfers.wp_waitBatchLastO EC 𝒱₀ (tid d L) none none (N := nS1) nS1_w nS1_pos (D := dS1 (F := F) d L q S n h) (u := 0) (wa_one _)) $$ [HC HO Hm5]
  · isplitl [HC]; · iexact HC
    isplitl [HO]; · iexact HO
    iexact Hm5
  iintro ⟨HE, Hz5, HO⟩
  ihave HD' := (show bigSep Finset.univ (dXT1 d L q X T n h) ⊢ iprop((((xS1).view.loc (tid d L) ↦[(xS1).view.set]{fullShare} chX X (base (wid L) n)) ∗ ((xP L n h).view.loc (tid d L) ↦[(xP L n h).view.set]{q} X))
      ∗ (((tS1).view.loc (tid d L) ↦[(tS1).view.set]{fullShare} chX T (base (wid L) n)) ∗ ((tP L n h).view.loc (tid d L) ↦[(tP L n h).view.set]{q} T))) from by
    rw [Idealize.SL.BI.bigSep_univ_eq_bigSepL [0, 1] (by decide) (by decide) _]; exact .rfl) $$ HD
  icases HD' with ⟨⟨Hx, HXp⟩, Ht, HTp⟩
  ihave HE' := (show bigSep Finset.univ (dS1 (F := F) d L q S n h) ⊢ iprop(((sS1).view.loc (tid d L) ↦[(sS1).view.set]{fullShare} chS S (base (wid L) n)) ∗ ((sP L n h).view.loc (tid d L) ↦[(sP L n h).view.set]{q} S)) from by
    rw [Idealize.SL.BI.bigSep_univ_eq_bigSepL [0] (by decide) (by decide) _]; exact .rfl) $$ HE
  icases HE' with ⟨Hs, HSp⟩
  iapply Hk
  isplitr [HO]
  · isplitl [Hz4]; · iexact Hz4
    isplitl [Hz5]; · iexact Hz5
    isplitl [HXp HXr]
    · iapply (pointsTo_split_subset (Finset.subset_univ (xP L n h).view.set)).2; isplitl [HXp]; · iexact HXp
      iexact HXr
    isplitl [HTp HTr]
    · iapply (pointsTo_split_subset (Finset.subset_univ (tP L n h).view.set)).2; isplitl [HTp]; · iexact HTp
      iexact HTr
    isplitl [HSp HSr]
    · iapply (pointsTo_split_subset (Finset.subset_univ (sP L n h).view.set)).2; isplitl [HSp]; · iexact HSp
      iexact HSr
    isplitl [Hx]; · iexact Hx
    isplitl [Ht]; · iexact Ht
    iexact Hs
  iexists (insert (SemLoc.dma sem5_1, none) (insert (SemLoc.dma sem4_1, none) (insert (SemLoc.dma sem4_1, none) W'))); isplitr
  · ipureintro; exact wa_rec hW'
  iexact HO

end Slot1

end Cert.Proof.Loss
-- ==== Proof.Stage.lean ====
/-
  The conditional starts and waits of a group of two chunks, and the loops over a slot's tiles.
-/
module

public import proofs.«01_k».proof.Proof.Slots

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The program's conditions and offsets -/

abbrev cW (i : grid0.Coords) : BitVec 32 :=
  Scalar.addi 13#32 (Scalar.select (Scalar.cmpi .slt (Scalar.addi (Scalar.muli (BitVec.ofNat 32 (i 1).val) 2#32) (BitVec.ofNat 32 (i 0).val)) 1#32) 1#32 0#32)

theorem cond1_at : ∀ i : grid0.Coords, k0_cond1 i = 1#1 := by decide +kernel
theorem cond2_at : ∀ i : grid0.Coords, k0_cond2 i = 1#1 := by decide +kernel
theorem cond3_at : ∀ (i : grid0.Coords) (k : Fin (k0_t1_loop i).trips), k0_cond3 i k = 1#1 ↔ 2 * k.val < cnt (wid i) := by decide +kernel
theorem cond4_at : ∀ (i : grid0.Coords) (k : Fin (k0_t1_loop i).trips), k0_cond4 i k = 1#1 ↔ 2 * (k.val + 1) < cnt (wid i) := by decide +kernel
theorem cond5_at : ∀ (i : grid0.Coords) (k : Fin (k0_t1_loop i).trips), k0_cond5 i k = 1#1 ↔ 2 * k.val + 1 < cnt (wid i) := by decide +kernel
theorem cond6_at : ∀ (i : grid0.Coords) (k : Fin (k0_t1_loop i).trips), k0_cond6 i k = 1#1 ↔ 2 * (k.val + 1) + 1 < cnt (wid i) := by decide +kernel
theorem trips_at : ∀ i : grid0.Coords, (k0_t1_loop i).trips = 7 := by decide +kernel
theorem trips4_at : ∀ i : grid0.Coords, (k0_t4_loop i).trips = 0 := by decide +kernel
theorem off1_at : ∀ i : grid0.Coords, k0_off1 i = cX i 0 := by decide +kernel
theorem off2_at : ∀ i : grid0.Coords, k0_off2 i = cS i 0 := by decide +kernel
theorem off3_at : ∀ i : grid0.Coords, k0_off3 i = cX i 1 := by decide +kernel
theorem off4_at : ∀ i : grid0.Coords, k0_off4 i = cS i 1 := by decide +kernel
theorem off40_at : ∀ (i : grid0.Coords) (k : Fin (k0_t1_loop i).trips), k0_off40 i k = cX i (2 * (k.val + 1)) := by decide +kernel
theorem off41_at : ∀ (i : grid0.Coords) (k : Fin (k0_t1_loop i).trips), k0_off41 i k = cS i (2 * (k.val + 1)) := by decide +kernel
theorem off77_at : ∀ (i : grid0.Coords) (k : Fin (k0_t1_loop i).trips), k0_off77 i k = cX i (2 * (k.val + 1) + 1) := by decide +kernel
theorem off78_at : ∀ (i : grid0.Coords) (k : Fin (k0_t1_loop i).trips), k0_off78 i k = cS i (2 * (k.val + 1) + 1) := by decide +kernel
theorem sel0_at : ∀ (i : grid0.Coords) (k : Fin (k0_t1_loop i).trips), Scalar.cmpi .slt (Scalar.addi (Scalar.muli 2#32 (Scf.iv (0#32) 1#32 k)) 0#32) (cW i) = if 2 * k.val < cnt (wid i) then 1#1 else 0#1 := by decide +kernel
theorem sel1_at : ∀ (i : grid0.Coords) (k : Fin (k0_t1_loop i).trips), Scalar.cmpi .slt (Scalar.addi (Scalar.muli 2#32 (Scf.iv (0#32) 1#32 k)) 1#32) (cW i) = if 2 * k.val + 1 < cnt (wid i) then 1#1 else 0#1 := by decide +kernel

/-! ## The values -/

/-- A chunk's sums and counts, from its first tile. -/
def partV (b : Fin 2) (X T : XArr F) (S : SArr) (p : Nat) : FVec F S16 .f32 × FVec F S16 .f32 :=
  chunkV b (chX X p) (chX T p) (chS S p) 50
abbrev zV : FVec F S16 .f32 := broadcast S16 (Scalar.ofBits .f32 0x00000000#32)
/-- Two chunks added to the tile's sums and counts. -/
def accStep (X T : XArr F) (S : SArr) (w k : Nat) (a : FVec F S16 .f32 × FVec F S16 .f32) : FVec F S16 .f32 × FVec F S16 .f32 :=
  (addf (addf a.1 (if 2 * k < cnt w then (partV 0 X T S (base w (2 * k))).1 else zV)) (if 2 * k + 1 < cnt w then (partV 1 X T S (base w (2 * k + 1))).1 else zV),
    addf (addf a.2 (if 2 * k < cnt w then (partV 0 X T S (base w (2 * k))).2 else zV)) (if 2 * k + 1 < cnt w then (partV 1 X T S (base w (2 * k + 1))).2 else zV))
def accV (X T : XArr F) (S : SArr) (w : Nat) : Nat → FVec F S16 .f32 × FVec F S16 .f32
  | 0 => (zV, zV)
  | k + 1 => accStep X T S w k (accV X T S w k)

theorem sel_if {α : Type} (c : Prop) [Decidable c] (a b : α) (e : BitVec 1) (he : e = if c then 1#1 else 0#1) : Scalar.select e a b = if c then a else b := by
  subst he; unfold Scalar.select; split <;> simp

theorem pay_step (i : grid0.Coords) (k : Fin (k0_t1_loop i).trips) (X T : XArr F) (S : SArr) (a14 a15 : FVec F S16 .f32) (r0 r1 : FVec F S16 .f32 × FVec F S16 .f32)
    (h0 : 2 * k.val < cnt (wid i) → r0 = partV 0 X T S (base (wid i) (2 * k.val))) (h1 : 2 * k.val + 1 < cnt (wid i) → r1 = partV 1 X T S (base (wid i) (2 * k.val + 1))) :
    (k0_pay105 i (cW i) 0#32 1#32 k a14 r0.1 r1.1, k0_pay106 i (cW i) 0#32 1#32 k a15 r0.2 r1.2) = accStep X T S (wid i) k.val (a14, a15) := by
  unfold k0_pay105 k0_pay106 accStep
  simp only [sel_if _ _ _ _ (sel0_at i k), sel_if _ _ _ _ (sel1_at i k)]
  have e0 : ∀ f : FVec F S16 .f32 × FVec F S16 .f32 → FVec F S16 .f32, (if 2 * k.val < cnt (wid i) then f r0 else zV) = (if 2 * k.val < cnt (wid i) then f (partV 0 X T S (base (wid i) (2 * k.val))) else zV) := fun f => by
    split
    · next h => rw [h0 h]
    · rfl
  have e1 : ∀ f : FVec F S16 .f32 × FVec F S16 .f32 → FVec F S16 .f32, (if 2 * k.val + 1 < cnt (wid i) then f r1 else zV) = (if 2 * k.val + 1 < cnt (wid i) then f (partV 1 X T S (base (wid i) (2 * k.val + 1))) else zV) := fun f => by
    split
    · next h => rw [h1 h]
    · rfl
  rw [e0 Prod.fst, e0 Prod.snd, e1 Prod.fst, e1 Prod.snd]

/-! ## Slot 0, with or without a chunk -/

section Stage0
variable (d : Dev nD) (L : grid0.Coords) (q : PosShare TreeShare) (X T : XArr F) (S : SArr)

/-- The slot before it is read for chunk `n`: in flight when there is such a chunk, at rest otherwise. -/
def St0 (n : Nat) : sProp 𝕄 := if h : n < cnt (wid L) then Fly0 d L q X T S n h else iprop(∃ fx ft fs, Slot0 d L q X T S fx ft fs)

theorem St0_pos {n : Nat} (h : n < cnt (wid L)) : St0 d L q X T S n = Fly0 d L q X T S n h := dif_pos h
theorem St0_neg {n : Nat} (h : ¬ n < cnt (wid L)) : St0 d L q X T S n = iprop(∃ fx ft fs, Slot0 d L q X T S fx ft fs) := dif_neg h

theorem issueIf0 {α : Type} (n : Nat) (c : Prop) [Decidable c] (hc : c ↔ n < cnt (wid L)) (off : Fin 3 → Nat) (offS : Fin 1 → Nat)
    (hin : c → ∀ a, off a + S50x4x128.size a ≤ S31250x4x128.size a) (hinS : c → ∀ a, offS a + S6400.size a ≤ S4000000.size a)
    (ho : off = cX L n) (hoS : offS = cS L n) {g10 : (h : c) → _} {g11 : (h : c) → _} {g12 : (h : c) → _} {g1 : (h : c) → _} {g2 : (h : c) → _} {g3 : (h : c) → _} {g4 : (h : c) → _} {g5 : (h : c) → _} {g6 : (h : c) → _} {g7 : (h : c) → _} {g8 : (h : c) → _} {g9 : (h : c) → _}
    (R : Prog (TpuEff nD τ sig (Elt F) Λ₀ (.scVector (cV L) (jV L))) α) (Q : α → sProp 𝕄) (fx ft : XBuf F) (fs : SBuf) :
    iprop(Slot0 d L q X T S fx ft fs ∗ (St0 d L q X T S n -∗ wp frame (wpE defs₀ 𝒱₀ (tid d L) none) Set.univ R Q))
      ⊢ wp frame (wpE defs₀ 𝒱₀ (tid d L) none) Set.univ
        (if h : c then
          .op (.enqueueDma ((xV).slice (Rect.unit (s := S31250x4x128) off S50x4x128.size (hin h)) (g10 h)) (.here xS0) (.dma sem4_0) (g1 h) (g2 h) (g3 h)) fun _ =>
          .op (.enqueueDma ((tV).slice (Rect.unit (s := S31250x4x128) off S50x4x128.size (hin h)) (g11 h)) (.here tS0) (.dma sem4_0) (g4 h) (g5 h) (g6 h)) fun _ =>
          .op (.enqueueDma ((sV).slice (Rect.unit (s := S4000000) offS S6400.size (hinS h)) (g12 h)) (.here sS0) (.dma sem5_0) (g7 h) (g8 h) (g9 h)) fun _ => R
         else R) Q := by
  iintro ⟨HS, Hk⟩
  by_cases h : c
  · rw [dif_pos h]
    iapply (issue0 d L q X T S n (hc.1 h) off offS _ _ ho hoS R Q fx ft fs)
    isplitl [HS]; · iexact HS
    iintro HF
    iapply Hk
    unfold St0; rw [dif_pos (hc.1 h)]; iexact HF
  · rw [dif_neg h]
    iapply Hk
    unfold St0; rw [dif_neg (fun h' => h (hc.2 h'))]
    iexists fx, ft, fs; iexact HS

theorem awaitIf0 {α : Type} (n : Nat) (c : Prop) [Decidable c] (hc : c ↔ n < cnt (wid L)) {O : CellTallies nD τ sig (HIx 1)} {W : Waits sig (HIx 1)}
    {s1 s2 : c → Memref sig .scVector .hbm S50x4x128 .f32} {s3 : c → Memref sig .scVector .hbm S6400 .i32} {g1 : (h : c) → _} {g2 : (h : c) → _} {g3 : (h : c) → _} {g4 : (h : c) → _} {g5 : (h : c) → _} {g6 : (h : c) → _}
    (R : Prog (TpuEff nD τ sig (Elt F) Λ₀ (.scVector (cV L) (jV L))) α) (Q : α → sProp 𝕄) :
    iprop(St0 d L q X T S n ∗ Transfers.MayWaits (tid d L) (none : HIx 1) O ∗ (∃ W', ⌜∀ p ∈ W', p ∈ W ∨ p.2 = none⌝ ∗ owes (tid d L) O W')
        ∗ (∀ fx, ∀ ft, ∀ fs, (⌜n < cnt (wid L) → chunkV 0 fx ft fs 50 = partV 0 X T S (base (wid L) n)⌝ ∗ Slot0 d L q X T S fx ft fs
            ∗ (∃ W', ⌜∀ p ∈ W', p ∈ W ∨ p.2 = none⌝ ∗ owes (tid d L) O W'))
          -∗ wp frame (wpE defs₀ 𝒱₀ (tid d L) none) Set.univ R Q))
      ⊢ wp frame (wpE defs₀ 𝒱₀ (tid d L) none) Set.univ
        (if h : c then
          .op (.waitDma2 sem4_0 (s1 h) xS0 (g1 h) (g2 h)) fun _ => .op (.waitDma2 sem4_0 (s2 h) tS0 (g3 h) (g4 h)) fun _ => .op (.waitDma2 sem5_0 (s3 h) sS0 (g5 h) (g6 h)) fun _ => R
         else R) Q := by
  iintro ⟨HS, #Hmw, HO, Hk⟩
  by_cases h : c
  · rw [dif_pos h]
    ihave HS := (Entails.of_eq (St0_pos d L q X T S (hc.1 h))) $$ HS
    iapply (await0 d L q X T S n (hc.1 h) (O := O) (W := W) R Q)
    isplitl [HS]; · iexact HS
    isplitr; · iexact Hmw
    isplitl [HO]; · iexact HO
    iintro ⟨HF, HO⟩
    iapply Hk $$ [HF HO]
    isplitr; · ipureintro; exact fun _ => rfl
    isplitl [HF]; · iexact HF
    iexact HO
  · rw [dif_neg h]
    ihave HS := (Entails.of_eq (St0_neg d L q X T S (fun h' => h (hc.2 h')))) $$ HS
    icases HS with ⟨%fx, %ft, %fs, HS⟩
    iapply Hk $$ %fx %ft %fs [HS HO]
    isplitr; · ipureintro; exact fun h' => absurd (hc.2 h') h
    isplitl [HS]; · iexact HS
    iexact HO

/-- The loop over the slot's 50 tiles. -/
theorem sweep0 {α : Type} (x1 x2 x3 x4 : BitVec 32) (k1 : Fin (k0_t1_loop L).trips) (u v : FVec F S16 .f32) (a0 : FVec F S16 .f32 × FVec F S16 .f32)
    (fx ft : XBuf F) (fs : SBuf) (ha : a0 = chunkV 0 fx ft fs 0)
    (kk : FVec F S16 .f32 × FVec F S16 .f32 → Prog (TpuEff nD τ sig (Elt F) Λ₀ (.scVector (cV L) (jV L))) α) (Q : α → sProp 𝕄) :
    iprop(Slot0 d L q X T S fx ft fs ∗ (Slot0 d L q X T S fx ft fs -∗ wp frame (wpE defs₀ 𝒱₀ (tid d L) none) Set.univ (kk (chunkV 0 fx ft fs 50)) Q))
      ⊢ wp frame (wpE defs₀ 𝒱₀ (tid d L) none) Set.univ
        (Scf.Loop.for k0_t2_loop k0_t2_ok a0 (k0_t2_body (F := F) L xV (Memref.isWhole_whole _) tV (Memref.isWhole_whole _) sV (Memref.isWhole_whole _) aV (Memref.isWhole_whole _) nV (Memref.isWhole_whole _) xB (Memref.isWhole_whole _) tB (Memref.isWhole_whole _) sB (Memref.isWhole_whole _) oB (Memref.isWhole_whole _) cc0_scratch4 cc0_scratch5 cc0_scoped0 cc0_scoped1 x1 x2 x3 x4 k1 u v) >>= kk) Q := by
  subst ha
  unfold Slot0
  iintro ⟨⟨Hz4, Hz5, HX, HT, HS, Hx, Ht, Hs⟩, Hk⟩
  sl_for (fun k acc => iprop(⌜acc = chunkV 0 fx ft fs k⌝ ∗ ((xS0).view.loc (tid d L) ↦[(xS0).view.set]{fullShare} fx) ∗ ((tS0).view.loc (tid d L) ↦[(tS0).view.set]{fullShare} ft)
    ∗ ((sS0).view.loc (tid d L) ↦[(sS0).view.set]{fullShare} fs))) $$ [Hx Ht Hs]
  case region =>
    intro k acc
    iintro ⟨%ha, Hb⟩
    subst ha
    have hk : k.val < 50 := k.isLt
    have e : chunkV 0 fx ft fs (k.val + 1) = trip 0 k fx ft fs (chunkV 0 fx ft fs k.val) := by
      show (if h : k.val < 50 then _ else _) = _
      rw [dif_pos hk]; rfl
    rw [e]
    iapply (step0 d L x1 x2 x3 x4 k1 u v k _ fx ft fs); iexact Hb
  · isplitr; · ipureintro; rfl
    isplitl [Hx]; · iexact Hx
    isplitl [Ht]; · iexact Ht
    iexact Hs
  iintro %r ⟨%hr, Hx, Ht, Hs⟩
  have hr' : r = chunkV 0 fx ft fs 50 := hr
  subst hr'
  iapply Hk
  isplitl [Hz4]; · iexact Hz4
  isplitl [Hz5]; · iexact Hz5
  isplitl [HX]; · iexact HX
  isplitl [HT]; · iexact HT
  isplitl [HS]; · iexact HS
  isplitl [Hx]; · iexact Hx
  isplitl [Ht]; · iexact Ht
  iexact Hs

end Stage0

/-! ## Slot 1, with or without a chunk -/

section Stage1
variable (d : Dev nD) (L : grid0.Coords) (q : PosShare TreeShare) (X T : XArr F) (S : SArr)

/-- The slot before it is read for chunk `n`: in flight when there is such a chunk, at rest otherwise. -/
def St1 (n : Nat) : sProp 𝕄 := if h : n < cnt (wid L) then Fly1 d L q X T S n h else iprop(∃ fx ft fs, Slot1 d L q X T S fx ft fs)

theorem St1_pos {n : Nat} (h : n < cnt (wid L)) : St1 d L q X T S n = Fly1 d L q X T S n h := dif_pos h
theorem St1_neg {n : Nat} (h : ¬ n < cnt (wid L)) : St1 d L q X T S n = iprop(∃ fx ft fs, Slot1 d L q X T S fx ft fs) := dif_neg h

theorem issueIf1 {α : Type} (n : Nat) (c : Prop) [Decidable c] (hc : c ↔ n < cnt (wid L)) (off : Fin 3 → Nat) (offS : Fin 1 → Nat)
    (hin : c → ∀ a, off a + S50x4x128.size a ≤ S31250x4x128.size a) (hinS : c → ∀ a, offS a + S6400.size a ≤ S4000000.size a)
    (ho : off = cX L n) (hoS : offS = cS L n) {g10 : (h : c) → _} {g11 : (h : c) → _} {g12 : (h : c) → _} {g1 : (h : c) → _} {g2 : (h : c) → _} {g3 : (h : c) → _} {g4 : (h : c) → _} {g5 : (h : c) → _} {g6 : (h : c) → _} {g7 : (h : c) → _} {g8 : (h : c) → _} {g9 : (h : c) → _}
    (R : Prog (TpuEff nD τ sig (Elt F) Λ₀ (.scVector (cV L) (jV L))) α) (Q : α → sProp 𝕄) (fx ft : XBuf F) (fs : SBuf) :
    iprop(Slot1 d L q X T S fx ft fs ∗ (St1 d L q X T S n -∗ wp frame (wpE defs₀ 𝒱₀ (tid d L) none) Set.univ R Q))
      ⊢ wp frame (wpE defs₀ 𝒱₀ (tid d L) none) Set.univ
        (if h : c then
          .op (.enqueueDma ((xV).slice (Rect.unit (s := S31250x4x128) off S50x4x128.size (hin h)) (g10 h)) (.here xS1) (.dma sem4_1) (g1 h) (g2 h) (g3 h)) fun _ =>
          .op (.enqueueDma ((tV).slice (Rect.unit (s := S31250x4x128) off S50x4x128.size (hin h)) (g11 h)) (.here tS1) (.dma sem4_1) (g4 h) (g5 h) (g6 h)) fun _ =>
          .op (.enqueueDma ((sV).slice (Rect.unit (s := S4000000) offS S6400.size (hinS h)) (g12 h)) (.here sS1) (.dma sem5_1) (g7 h) (g8 h) (g9 h)) fun _ => R
         else R) Q := by
  iintro ⟨HS, Hk⟩
  by_cases h : c
  · rw [dif_pos h]
    iapply (issue1 d L q X T S n (hc.1 h) off offS _ _ ho hoS R Q fx ft fs)
    isplitl [HS]; · iexact HS
    iintro HF
    iapply Hk
    unfold St1; rw [dif_pos (hc.1 h)]; iexact HF
  · rw [dif_neg h]
    iapply Hk
    unfold St1; rw [dif_neg (fun h' => h (hc.2 h'))]
    iexists fx, ft, fs; iexact HS

theorem awaitIf1 {α : Type} (n : Nat) (c : Prop) [Decidable c] (hc : c ↔ n < cnt (wid L)) {O : CellTallies nD τ sig (HIx 1)} {W : Waits sig (HIx 1)}
    {s1 s2 : c → Memref sig .scVector .hbm S50x4x128 .f32} {s3 : c → Memref sig .scVector .hbm S6400 .i32} {g1 : (h : c) → _} {g2 : (h : c) → _} {g3 : (h : c) → _} {g4 : (h : c) → _} {g5 : (h : c) → _} {g6 : (h : c) → _}
    (R : Prog (TpuEff nD τ sig (Elt F) Λ₀ (.scVector (cV L) (jV L))) α) (Q : α → sProp 𝕄) :
    iprop(St1 d L q X T S n ∗ Transfers.MayWaits (tid d L) (none : HIx 1) O ∗ (∃ W', ⌜∀ p ∈ W', p ∈ W ∨ p.2 = none⌝ ∗ owes (tid d L) O W')
        ∗ (∀ fx, ∀ ft, ∀ fs, (⌜n < cnt (wid L) → chunkV 1 fx ft fs 50 = partV 1 X T S (base (wid L) n)⌝ ∗ Slot1 d L q X T S fx ft fs
            ∗ (∃ W', ⌜∀ p ∈ W', p ∈ W ∨ p.2 = none⌝ ∗ owes (tid d L) O W'))
          -∗ wp frame (wpE defs₀ 𝒱₀ (tid d L) none) Set.univ R Q))
      ⊢ wp frame (wpE defs₀ 𝒱₀ (tid d L) none) Set.univ
        (if h : c then
          .op (.waitDma2 sem4_1 (s1 h) xS1 (g1 h) (g2 h)) fun _ => .op (.waitDma2 sem4_1 (s2 h) tS1 (g3 h) (g4 h)) fun _ => .op (.waitDma2 sem5_1 (s3 h) sS1 (g5 h) (g6 h)) fun _ => R
         else R) Q := by
  iintro ⟨HS, #Hmw, HO, Hk⟩
  by_cases h : c
  · rw [dif_pos h]
    ihave HS := (Entails.of_eq (St1_pos d L q X T S (hc.1 h))) $$ HS
    iapply (await1 d L q X T S n (hc.1 h) (O := O) (W := W) R Q)
    isplitl [HS]; · iexact HS
    isplitr; · iexact Hmw
    isplitl [HO]; · iexact HO
    iintro ⟨HF, HO⟩
    iapply Hk $$ [HF HO]
    isplitr; · ipureintro; exact fun _ => rfl
    isplitl [HF]; · iexact HF
    iexact HO
  · rw [dif_neg h]
    ihave HS := (Entails.of_eq (St1_neg d L q X T S (fun h' => h (hc.2 h')))) $$ HS
    icases HS with ⟨%fx, %ft, %fs, HS⟩
    iapply Hk $$ %fx %ft %fs [HS HO]
    isplitr; · ipureintro; exact fun h' => absurd (hc.2 h') h
    isplitl [HS]; · iexact HS
    iexact HO

/-- The loop over the slot's 50 tiles. -/
theorem sweep1 {α : Type} (x1 x2 x3 x4 : BitVec 32) (k1 : Fin (k0_t1_loop L).trips) (u v : FVec F S16 .f32) (a0 : FVec F S16 .f32 × FVec F S16 .f32)
    (fx ft : XBuf F) (fs : SBuf) (ha : a0 = chunkV 1 fx ft fs 0)
    (kk : FVec F S16 .f32 × FVec F S16 .f32 → Prog (TpuEff nD τ sig (Elt F) Λ₀ (.scVector (cV L) (jV L))) α) (Q : α → sProp 𝕄) :
    iprop(Slot1 d L q X T S fx ft fs ∗ (Slot1 d L q X T S fx ft fs -∗ wp frame (wpE defs₀ 𝒱₀ (tid d L) none) Set.univ (kk (chunkV 1 fx ft fs 50)) Q))
      ⊢ wp frame (wpE defs₀ 𝒱₀ (tid d L) none) Set.univ
        (Scf.Loop.for k0_t3_loop k0_t3_ok a0 (k0_t3_body (F := F) L xV (Memref.isWhole_whole _) tV (Memref.isWhole_whole _) sV (Memref.isWhole_whole _) aV (Memref.isWhole_whole _) nV (Memref.isWhole_whole _) xB (Memref.isWhole_whole _) tB (Memref.isWhole_whole _) sB (Memref.isWhole_whole _) oB (Memref.isWhole_whole _) cc0_scratch4 cc0_scratch5 cc0_scoped0 cc0_scoped1 x1 x2 x3 x4 k1 u v) >>= kk) Q := by
  subst ha
  unfold Slot1
  iintro ⟨⟨Hz4, Hz5, HX, HT, HS, Hx, Ht, Hs⟩, Hk⟩
  sl_for (fun k acc => iprop(⌜acc = chunkV 1 fx ft fs k⌝ ∗ ((xS1).view.loc (tid d L) ↦[(xS1).view.set]{fullShare} fx) ∗ ((tS1).view.loc (tid d L) ↦[(tS1).view.set]{fullShare} ft)
    ∗ ((sS1).view.loc (tid d L) ↦[(sS1).view.set]{fullShare} fs))) $$ [Hx Ht Hs]
  case region =>
    intro k acc
    iintro ⟨%ha, Hb⟩
    subst ha
    have hk : k.val < 50 := k.isLt
    have e : chunkV 1 fx ft fs (k.val + 1) = trip 1 k fx ft fs (chunkV 1 fx ft fs k.val) := by
      show (if h : k.val < 50 then _ else _) = _
      rw [dif_pos hk]; rfl
    rw [e]
    iapply (step1 d L x1 x2 x3 x4 k1 u v k _ fx ft fs); iexact Hb
  · isplitr; · ipureintro; rfl
    isplitl [Hx]; · iexact Hx
    isplitl [Ht]; · iexact Ht
    iexact Hs
  iintro %r ⟨%hr, Hx, Ht, Hs⟩
  have hr' : r = chunkV 1 fx ft fs 50 := hr
  subst hr'
  iapply Hk
  isplitl [Hz4]; · iexact Hz4
  isplitl [Hz5]; · iexact Hz5
  isplitl [HX]; · iexact HX
  isplitl [HT]; · iexact HT
  isplitl [HS]; · iexact HS
  isplitl [Hx]; · iexact Hx
  isplitl [Ht]; · iexact Ht
  iexact Hs

end Stage1

end Cert.Proof.Loss
-- ==== Proof.Group.lean ====
/-
  One trip of a tile's outer loop: its two chunks waited for, summed, and the next two started.
-/
module

public import proofs.«01_k».proof.Proof.Stage

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Group
variable (d : Dev nD) (L : grid0.Coords) (q0 q1 : PosShare TreeShare) (X T : XArr F) (S : SArr)

/-- The waits a tile has recorded since `W`, with what it owes. -/
def owesT (O : CellTallies nD τ sig (HIx 1)) (W : Waits sig (HIx 1)) : sProp 𝕄 := iprop(∃ W', ⌜∀ p ∈ W', p ∈ W ∨ p.2 = none⌝ ∗ owes (tid d L) O W')

set_option maxHeartbeats 4000000 in
theorem part41_run (v4 c7 : BitVec 32) (c0 : BitVec 32) (k : Fin (k0_t1_loop L).trips) (a14 a15 : FVec F S16 .f32) (h7 : c7 = cW L) (h0 : c0 = 0#32)
    (O : CellTallies nD τ sig (HIx 1)) (W : Waits sig (HIx 1)) :
    (iprop(St0 d L q0 X T S (2 * k.val) ∗ St1 d L q1 X T S (2 * k.val + 1) ∗ Transfers.MayWaits (tid d L) (none : HIx 1) O ∗ owesT d L O W) : sProp 𝕄)
      ⊢ wp frame (wpE defs₀ 𝒱₀ (tid d L) none) Set.univ
        (k0_part41 (F := F) L xV (Memref.isWhole_whole _) tV (Memref.isWhole_whole _) sV (Memref.isWhole_whole _) aV (Memref.isWhole_whole _) nV (Memref.isWhole_whole _) xB (Memref.isWhole_whole _) tB (Memref.isWhole_whole _) sB (Memref.isWhole_whole _) oB (Memref.isWhole_whole _) cc0_scratch4 cc0_scratch5 cc0_scoped0 cc0_scoped1 v4 c7 c0 1#32 k a14 a15)
        fun r => iprop(⌜(r.2.1, r.2.2.1) = accStep X T S (wid L) k.val (a14, a15)⌝ ∗ St0 d L q0 X T S (2 * (k.val + 1))
          ∗ (∃ fx ft fs, Slot1 d L q1 X T S fx ft fs) ∗ owesT d L O W) := by
  subst h7 h0
  simp only [k0_part41_eq_skeleton]; unfold k0_part41_skel
  simp only [k0_part3_eq_skeleton, k0_part21_eq_skeleton, k0_part22_eq_skeleton]
  unfold k0_part3_skel k0_part21_skel k0_part22_skel
  simp only [Prog.lift, Prog.bind_op, Prog.bind_ret, Prog.pure_eq_ret, Prog.bind_assoc]
  unfold owesT
  iintro ⟨HS0, HS1, #Hmw, HO⟩
  iapply (awaitIf0 d L q0 X T S (2 * k.val) _ (cond3_at L k) (O := O) (W := W))
  isplitl [HS0]; · iexact HS0
  isplitr; · iexact Hmw
  isplitl [HO]; · iexact HO
  iintro %fx %ft %fs ⟨%hv0, HS0, HO⟩
  iapply (sweep0 d L q0 X T S _ _ _ _ _ _ _ _ fx ft fs rfl)
  isplitl [HS0]; · iexact HS0
  iintro HS0
  iapply (issueIf0 d L q0 X T S (2 * (k.val + 1)) _ (cond4_at L k) _ _ _ _ (off40_at L k) (off41_at L k) _ _ fx ft fs)
  isplitl [HS0]; · iexact HS0
  iintro HS0
  iapply (awaitIf1 d L q1 X T S (2 * k.val + 1) _ (cond5_at L k) (O := O) (W := W))
  isplitl [HS1]; · iexact HS1
  isplitr; · iexact Hmw
  isplitl [HO]; · iexact HO
  iintro %gx %gt %gs ⟨%hv1, HS1, HO⟩
  iapply (sweep1 d L q1 X T S _ _ _ _ _ _ _ _ gx gt gs rfl)
  isplitl [HS1]; · iexact HS1
  iintro HS1
  sl_step
  isplitr; · ipureintro; exact pay_step L k X T S a14 a15 _ _ hv0 hv1
  isplitl [HS0]; · iexact HS0
  isplitl [HS1]
  · iexists gx, gt, gs; iexact HS1
  iexact HO

set_option maxHeartbeats 4000000 in
/-- One trip of the outer loop: two chunks added to the sums. -/
theorem group_run (v4 c7 : BitVec 32) (v14 : FVec F S16 .f32) (c0 v33 : BitVec 32) (k : Fin (k0_t1_loop L).trips) (acc : FVec F S16 .f32 × FVec F S16 .f32) (h7 : c7 = cW L) (h0 : c0 = 0#32)
    (O : CellTallies nD τ sig (HIx 1)) (W : Waits sig (HIx 1)) :
    (iprop(St0 d L q0 X T S (2 * k.val) ∗ St1 d L q1 X T S (2 * k.val + 1) ∗ Transfers.MayWaits (tid d L) (none : HIx 1) O ∗ owesT d L O W) : sProp 𝕄)
      ⊢ wp frame (wpE defs₀ 𝒱₀ (tid d L) none) Set.univ
        (k0_t1_body (F := F) L xV (Memref.isWhole_whole _) tV (Memref.isWhole_whole _) sV (Memref.isWhole_whole _) aV (Memref.isWhole_whole _) nV (Memref.isWhole_whole _) xB (Memref.isWhole_whole _) tB (Memref.isWhole_whole _) sB (Memref.isWhole_whole _) oB (Memref.isWhole_whole _) cc0_scratch4 cc0_scratch5 cc0_scoped0 cc0_scoped1 v4 c7 v14 c0 v33 k acc)
        fun r => iprop(⌜r = accStep X T S (wid L) k.val acc⌝ ∗ St0 d L q0 X T S (2 * (k.val + 1))
          ∗ St1 d L q1 X T S (2 * (k.val + 1) + 1) ∗ owesT d L O W) := by
  obtain ⟨a14, a15⟩ := acc
  unfold k0_t1_body
  simp only [k0_part40_eq_skeleton]
  unfold k0_part40_skel
  simp only [Prog.lift, Prog.bind_op, Prog.bind_ret, Prog.pure_eq_ret, Prog.bind_assoc]
  rw [wp_bind]
  refine (part41_run d L q0 q1 X T S v4 c7 c0 k a14 a15 h7 h0 O W).trans (wp_mono _ _ _ fun r => ?_)
  obtain ⟨v67, v76, v79, v80⟩ := r
  iintro ⟨%hr, HS0, ⟨%fx, %ft, %fs, HS1⟩, HO⟩
  iapply (issueIf1 d L q1 X T S (2 * (k.val + 1) + 1) _ (cond6_at L k) _ _ _ _ (off77_at L k) (off78_at L k) _ _ fx ft fs)
  isplitl [HS1]; · iexact HS1
  iintro HS1
  sl_step
  isplitr; · ipureintro; exact hr
  isplitl [HS0]; · iexact HS0
  isplitl [HS1]; · iexact HS1
  iexact HO

end Group

end Cert.Proof.Loss
-- ==== Proof.Loop.lean ====
/-
  A tile's own cells and buffers, its first starts and its outer loop.
-/
module

public import proofs.«01_k».proof.Proof.Group

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Picking cells and buffers out of a tile's own -/

def pick {ι : Type} (Φ : ι → sProp 𝕄) (R : sProp 𝕄) : List ι → sProp 𝕄
  | [] => R
  | a :: l => iprop(Φ a ∗ pick Φ R l)
def dropAll {ι : Type} [DecidableEq ι] : List ι → Finset ι → Finset ι
  | [], s => s
  | a :: l, s => dropAll l (s.erase a)
theorem bigSep_pick {ι : Type} [DecidableEq ι] (Φ : ι → sProp 𝕄) : ∀ (l : List ι) (s : Finset ι), l.Nodup → (∀ x ∈ l, x ∈ s) →
    bigSep s Φ = pick Φ (bigSep (dropAll l s) Φ) l
  | [], _, _, _ => rfl
  | a :: l, s, hn, hs => by
    rw [SparseCore.bigSep_erase' (hs a List.mem_cons_self), bigSep_pick Φ l (s.erase a) (List.nodup_cons.mp hn).2 (fun x hx =>
      Finset.mem_erase.mpr ⟨fun e => (List.nodup_cons.mp hn).1 (e ▸ hx), hs x (List.mem_cons_of_mem _ hx)⟩)]
    rfl

/-- A buffer cut into two disjoint pieces and what is left; -/
theorem cut3 {ℓ : Loc nD τ sig} (A B : Finset (Idx ℓ)) (hd : Disjoint A B) (f : Buf (Elt F) ℓ) :
    (ℓ ↦{fullShare} f : sProp 𝕄) ⊢ iprop((ℓ ↦[A]{fullShare} f) ∗ (ℓ ↦[B]{fullShare} f) ∗ (ℓ ↦[(Finset.univ \ A) \ B]{fullShare} f)) := by
  iintro H
  ihave H := (pointsTo_split_subset (Finset.subset_univ A)).1 $$ H
  icases H with ⟨HA, HR⟩
  ihave HR := (pointsTo_split_subset (show B ⊆ Finset.univ \ A from fun x hx => Finset.mem_sdiff.mpr ⟨Finset.mem_univ x, fun h => Finset.disjoint_left.mp hd h hx⟩)).1 $$ HR
  icases HR with ⟨HB, HR⟩
  isplitl [HA]; · iexact HA
  isplitl [HB]; · iexact HB
  iexact HR
/-- and put together again, each piece at its own contents. -/
theorem glue3 {ℓ : Loc nD τ sig} (A B : Finset (Idx ℓ)) (hd : Disjoint A B) (f g h : Buf (Elt F) ℓ) :
    (iprop((ℓ ↦[A]{fullShare} f) ∗ (ℓ ↦[B]{fullShare} g) ∗ (ℓ ↦[(Finset.univ \ A) \ B]{fullShare} h)) : sProp 𝕄) ⊢ iprop(∃ f, ℓ ↦{fullShare} f) := by
  have ef : (ℓ ↦[A]{fullShare} f : sProp 𝕄) = (ℓ ↦[A]{fullShare} (fun i => if i ∈ A then f i else if i ∈ B then g i else h i)) :=
    pointsTo_congr fun i hi => (if_pos hi).symm
  have eg : (ℓ ↦[B]{fullShare} g : sProp 𝕄) = (ℓ ↦[B]{fullShare} (fun i => if i ∈ A then f i else if i ∈ B then g i else h i)) :=
    pointsTo_congr fun i hi => by rw [if_neg (fun h => Finset.disjoint_left.mp hd h hi), if_pos hi]
  have eh : (ℓ ↦[(Finset.univ \ A) \ B]{fullShare} h : sProp 𝕄) = (ℓ ↦[(Finset.univ \ A) \ B]{fullShare} (fun i => if i ∈ A then f i else if i ∈ B then g i else h i)) :=
    pointsTo_congr fun i hi => by
      have h1 := Finset.mem_sdiff.mp hi
      have h2 := Finset.mem_sdiff.mp h1.1
      rw [if_neg h2.2, if_neg h1.2]
  rw [ef, eg, eh]
  iintro ⟨HA, HB, HR⟩
  iexists _
  iapply (pointsTo_split_subset (Finset.subset_univ A)).2
  isplitl [HA]; · iexact HA
  iapply (pointsTo_split_subset (show B ⊆ Finset.univ \ A from fun x hx => Finset.mem_sdiff.mpr ⟨Finset.mem_univ x, fun h => Finset.disjoint_left.mp hd h hx⟩)).2
  isplitl [HB]; · iexact HB
  iexact HR

theorem xS_disj : Disjoint (xS0).view.set (xS1).view.set := Finset.disjoint_left.mpr fun x h0 h1 => by
  obtain ⟨j, -, rfl⟩ := Finset.mem_map.mp h0
  obtain ⟨j', -, e⟩ := Finset.mem_map.mp h1
  rw [emb_xS0, emb_xS1] at e
  exact absurd (congrFun e 0) (show (1 : Fin 2) ≠ 0 by decide)
theorem tS_disj : Disjoint (tS0).view.set (tS1).view.set := Finset.disjoint_left.mpr fun x h0 h1 => by
  obtain ⟨j, -, rfl⟩ := Finset.mem_map.mp h0
  obtain ⟨j', -, e⟩ := Finset.mem_map.mp h1
  rw [emb_tS0, emb_tS1] at e
  exact absurd (congrFun e 0) (show (1 : Fin 2) ≠ 0 by decide)
theorem sS_disj : Disjoint (sS0).view.set (sS1).view.set := Finset.disjoint_left.mpr fun x h0 h1 => by
  obtain ⟨j, -, rfl⟩ := Finset.mem_map.mp h0
  obtain ⟨j', -, e⟩ := Finset.mem_map.mp h1
  rw [emb_sS0, emb_sS1] at e
  exact absurd (congrFun e 0) (show (1 : Fin 2) ≠ 0 by decide)

def tileSems : List (SemLoc sig) := [.dma sem4_0, .dma sem4_1, .dma sem5_0, .dma sem5_1, .dma cc0_scoped0.sem, .dma cc0_scoped1.sem]
theorem tileSems_nodup : tileSems.Nodup := by decide
theorem tileSems_scoped : ∀ s ∈ tileSems, s.isScoped .scVector = true := by decide
def tileBufs : List (Ref sig .scVector) := [cc0_scratch0, cc0_scratch1, cc0_scratch2, cc0_scratch3]
theorem tileBufs_nodup : tileBufs.Nodup := by decide

theorem sems_V (d : Dev nD) (L : grid0.Coords) :
    (ownSems0 (tid d L) : sProp 𝕄) = pick (fun g => semVal g 0) (bigSep (dropAll (tileSems.map fun s => (tid d L, s)) (ownCells (tid d L))) fun g => semVal g 0) (tileSems.map fun s => (tid d L, s)) := by
  unfold SparseCore.Cfg.ownSems0
  refine bigSep_pick _ _ _ (List.Nodup.map (fun a b e => (Prod.mk.inj e).2) tileSems_nodup) fun x hx => ?_
  obtain ⟨s, hs, rfl⟩ := List.mem_map.mp hx
  exact mem_ownCells.mpr ⟨rfl, tileSems_scoped s hs⟩
theorem bufs_V (d : Dev nD) (L : grid0.Coords) :
    (ownBufs (tid d L) : sProp 𝕄) = pick (fun b => iprop(∃ f, ((d, b) : Loc nD τ sig) ↦{fullShare} f))
      (bigSep (dropAll (tileBufs.map (Proc.scVector (cV L) (jV L)).devRef) (ownRefs (τ := τ) (.scVector (cV L) (jV L)))) fun b => iprop(∃ f, ((d, b) : Loc nD τ sig) ↦{fullShare} f))
      (tileBufs.map (Proc.scVector (cV L) (jV L)).devRef) := by
  unfold SparseCore.Cfg.ownBufs
  refine bigSep_pick _ _ _ (List.Nodup.map (Proc.devRef_injective _) tileBufs_nodup) fun x hx => ?_
  obtain ⟨s, hs, rfl⟩ := List.mem_map.mp hx
  refine SparseCore.Cfg.mem_ownRefs_of_owner (p := Proc.scVector (cV L) (jV L)) ?_
  clear hx; revert s; unfold tileBufs; simp only [List.mem_cons, List.not_mem_nil, or_false]
  rintro s (rfl | rfl | rfl | rfl) <;> rfl

variable [FloatOps F]

/-! ## The two outputs -/

abbrev aRow (L : grid0.Coords) : Memref sig .scVector .hbm S16 .f32 := ((aV).slice (Rect.unit (s := S32x16) (k0_off153 L) S1x16.size (k0_off153_inb L)) (fun _ => rfl)).squeeze S16 squeezes_S1x16_S16
abbrev nRow (L : grid0.Coords) : Memref sig .scVector .hbm S16 .f32 := ((nV).slice (Rect.unit (s := S32x16) (k0_off153 L) S1x16.size (k0_off153_inb L)) (fun _ => rfl)).squeeze S16 squeezes_S1x16_S16
def l16 (l : Fin 16) : S16.Idx := fun a => match a with | 0 => l
/-- What the tiles leave in the two outputs. -/
def accOut (X T : XArr F) (S : SArr) : S32x16.Idx → F .f32 := fun i => (accV X T S (i 0).val 7).1 (l16 (i 1))
def cntOut (X T : XArr F) (S : SArr) : S32x16.Idx → F .f32 := fun i => (accV X T S (i 0).val 7).2 (l16 (i 1))

theorem off153_at : ∀ i : grid0.Coords, k0_off153 i 0 = wid i ∧ k0_off153 i 1 = 0 := by decide +kernel

section Tile
variable (d : Dev nD) (L : grid0.Coords) (q0 q1 : PosShare TreeShare) (X T : XArr F) (S : SArr)

set_option maxHeartbeats 4000000 in
theorem part81_run (fx ft gx gt : XBuf F) (fs gs : SBuf) :
    (iprop(Slot0 d L q0 X T S fx ft fs ∗ Slot1 d L q1 X T S gx gt gs) : sProp 𝕄)
      ⊢ wp frame (wpE defs₀ 𝒱₀ (tid d L) none) Set.univ (k0_part81 (F := F) L xV (Memref.isWhole_whole _) tV (Memref.isWhole_whole _) sV (Memref.isWhole_whole _) aV (Memref.isWhole_whole _) nV (Memref.isWhole_whole _) xB (Memref.isWhole_whole _) tB (Memref.isWhole_whole _) sB (Memref.isWhole_whole _) oB (Memref.isWhole_whole _) cc0_scratch4 cc0_scratch5 cc0_scoped0 cc0_scoped1)
        fun r => iprop(⌜r.2.1 = cW L ∧ r.2.2.1 = zV ∧ r.2.2.2.1 = 0#32⌝ ∗ St0 d L q0 X T S 0 ∗ St1 d L q1 X T S 1) := by
  simp only [k0_part81_eq_skeleton]; unfold k0_part81_skel
  simp only [k0_part1_eq_skeleton, k0_part2_eq_skeleton]
  unfold k0_part1_skel k0_part2_skel
  simp only [Prog.lift, Prog.bind_op, Prog.bind_ret, Prog.pure_eq_ret, Prog.bind_assoc]
  iintro ⟨HS0, HS1⟩
  iapply (issueIf0 d L q0 X T S 0 _ (iff_of_true (cond1_at L) (by unfold cnt; split <;> decide)) _ _ _ _ (off1_at L) (off2_at L) _ _ fx ft fs)
  isplitl [HS0]; · iexact HS0
  iintro HS0
  iapply (issueIf1 d L q1 X T S 1 _ (iff_of_true (cond2_at L) (by unfold cnt; split <;> decide)) _ _ _ _ (off3_at L) (off4_at L) _ _ gx gt gs)
  isplitl [HS1]; · iexact HS1
  iintro HS1
  sl_step
  isplitr; · ipureintro; exact ⟨rfl, rfl, rfl⟩
  isplitl [HS0]; · iexact HS0
  iexact HS1

set_option maxHeartbeats 4000000 in
theorem loop_run {α : Type} (v4 c7 : BitVec 32) (v14 : FVec F S16 .f32) (c0 v33 : BitVec 32) (h7 : c7 = cW L) (h0 : c0 = 0#32) (h14 : v14 = zV)
    (O : CellTallies nD τ sig (HIx 1)) (W : Waits sig (HIx 1))
    (kk : FVec F S16 .f32 × FVec F S16 .f32 → Prog (TpuEff nD τ sig (Elt F) Λ₀ (.scVector (cV L) (jV L))) α) (Q : α → sProp 𝕄) :
    (iprop(St0 d L q0 X T S 0 ∗ St1 d L q1 X T S 1 ∗ Transfers.MayWaits (tid d L) (none : HIx 1) O ∗ owesT d L O W
        ∗ (((∃ fx ft fs, Slot0 d L q0 X T S fx ft fs) ∗ (∃ fx ft fs, Slot1 d L q1 X T S fx ft fs) ∗ owesT d L O W)
          -∗ wp frame (wpE defs₀ 𝒱₀ (tid d L) none) Set.univ (kk (accV X T S (wid L) 7)) Q)) : sProp 𝕄)
      ⊢ wp frame (wpE defs₀ 𝒱₀ (tid d L) none) Set.univ
        (Scf.Loop.for (k0_t1_loop L) (k0_t1_ok L) (v14, v14) (k0_t1_body (F := F) L xV (Memref.isWhole_whole _) tV (Memref.isWhole_whole _) sV (Memref.isWhole_whole _) aV (Memref.isWhole_whole _) nV (Memref.isWhole_whole _) xB (Memref.isWhole_whole _) tB (Memref.isWhole_whole _) sB (Memref.isWhole_whole _) oB (Memref.isWhole_whole _) cc0_scratch4 cc0_scratch5 cc0_scoped0 cc0_scoped1 v4 c7 v14 c0 v33) >>= kk) Q := by
  iintro ⟨HS0, HS1, #Hmw, HO, Hk⟩
  sl_for (fun k acc => iprop(⌜acc = accV X T S (wid L) k⌝ ∗ St0 d L q0 X T S (2 * k) ∗ St1 d L q1 X T S (2 * k + 1) ∗ Transfers.MayWaits (tid d L) (none : HIx 1) O ∗ owesT d L O W)) $$ [HS0 HS1 HO]
  case region =>
    intro k acc
    iintro ⟨%ha, HS0, HS1, #Hmw, HO⟩
    subst ha
    iapply (wp_wand _ _ _) $$ [HS0 HS1 HO]
    · iapply (group_run d L q0 q1 X T S v4 c7 v14 c0 v33 k _ h7 h0 O W)
      isplitl [HS0]; · iexact HS0
      isplitl [HS1]; · iexact HS1
      isplitr; · iexact Hmw
      iexact HO
    iintro %r ⟨%hr, HS0, HS1, HO⟩
    isplitr; · ipureintro; exact hr
    isplitl [HS0]; · iexact HS0
    isplitl [HS1]; · iexact HS1
    isplitr; · iexact Hmw
    iexact HO
  · isplitr; · ipureintro; subst h14; rfl
    isplitl [HS0]; · iexact HS0
    isplitl [HS1]; · iexact HS1
    isplitr; · iexact Hmw
    iexact HO
  iintro %r HI
  ihave HI := (Entails.of_eq (show iprop(⌜r = accV X T S (wid L) (k0_t1_loop L).trips⌝ ∗ St0 d L q0 X T S (2 * (k0_t1_loop L).trips) ∗ St1 d L q1 X T S (2 * (k0_t1_loop L).trips + 1) ∗ Transfers.MayWaits (tid d L) (none : HIx 1) O ∗ owesT d L O W)
    = (iprop(⌜r = accV X T S (wid L) 7⌝ ∗ St0 d L q0 X T S (2 * 7) ∗ St1 d L q1 X T S (2 * 7 + 1) ∗ Transfers.MayWaits (tid d L) (none : HIx 1) O ∗ owesT d L O W) : sProp 𝕄) by rw [trips_at])) $$ HI
  icases HI with ⟨%hr, HS0, HS1, -, HO⟩
  subst hr
  iapply Hk
  isplitl [HS0]
  · iapply (Entails.of_eq (St0_neg d L q0 X T S (n := 2 * 7) (by unfold cnt; split <;> decide))); iexact HS0
  isplitl [HS1]
  · iapply (Entails.of_eq (St1_neg d L q1 X T S (n := 2 * 7 + 1) (by unfold cnt; split <;> decide))); iexact HS1
  iexact HO
end Tile

end Cert.Proof.Loss
-- ==== Proof.Tile.lean ====
/-
  A tile's whole task.
-/
module

public import proofs.«01_k».proof.Proof.Loop

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid0.Coords) (q0 q1 : PosShare TreeShare) (X T : XArr F) (S : SArr)

/-- Row `w` of an output. -/
def rowSet (w : Nat) : Finset S32x16.Idx := Finset.univ.filter fun i => (i 0).val = w

/-- What a tile takes: its two shares of each array and its rows of the two outputs. -/
def goT (w : Nat) : sProp 𝕄 :=
  iprop((xLoc d ↦{q0} X) ∗ (tLoc d ↦{q0} T) ∗ (sLoc d ↦{q0} S) ∗ (xLoc d ↦{q1} X) ∗ (tLoc d ↦{q1} T) ∗ (sLoc d ↦{q1} S)
    ∗ (∃ f, aLoc d ↦[rowSet w]{fullShare} f) ∗ (∃ f, nLoc d ↦[rowSet w]{fullShare} f))
/-- What it brings back: the rows hold its sums and its counts. -/
def tdT (w : Nat) : sProp 𝕄 :=
  iprop((xLoc d ↦{q0} X) ∗ (tLoc d ↦{q0} T) ∗ (sLoc d ↦{q0} S) ∗ (xLoc d ↦{q1} X) ∗ (tLoc d ↦{q1} T) ∗ (sLoc d ↦{q1} S)
    ∗ (aLoc d ↦[rowSet w]{fullShare} accOut X T S) ∗ (nLoc d ↦[rowSet w]{fullShare} cntOut X T S))

omit [FloatOps F] in
theorem sqR (j : S16.Idx) : Shape.reshapeEquiv (s' := S16) (s := S1x16) (by decide) j = (fun a => match a with | 0 => (0 : Fin 1) | 1 => (j 0 : Fin 16) : S1x16.Idx) := by
  apply Shape.reshapeEquiv_eq_of_rowMajor
  rw [Shape.rowMajor_val_two, Shape.rowMajor_val_one]
  show 0 * 16 + (j 0).val = (j 0).val
  omega
def ix32 (w : Fin 32) (l : Fin 16) : S32x16.Idx := fun a => match a with | 0 => w | 1 => l
omit [FloatOps F] in
theorem emb_aRow (j : S16.Idx) : (aRow L).view.emb j = ix32 ⟨wid L, wid_lt L⟩ (j 0) := by
  show (((aV).view.slice (Rect.unit (s := S32x16) (k0_off153 L) S1x16.size (k0_off153_inb L))).reshape S16 _).emb j = _
  rw [View.emb_reshape]
  show ((Rect.unit (s := S32x16) (k0_off153 L) S1x16.size (k0_off153_inb L))).emb (Shape.reshapeEquiv _ j) = _
  rw [sqR]
  have h := off153_at L
  funext a
  match a with
  | 0 => exact Fin.ext (show k0_off153 L 0 + 1 * 0 = wid L by omega)
  | 1 => exact Fin.ext (show k0_off153 L 1 + 1 * (j 0).val = (j 0).val by omega)
omit [FloatOps F] in
theorem set_aRow : (aRow L).view.set = rowSet (wid L) := by
  ext i
  constructor
  · intro hi
    obtain ⟨j, -, rfl⟩ := Finset.mem_map.mp hi
    rw [emb_aRow]
    exact Finset.mem_filter.mpr ⟨Finset.mem_univ _, rfl⟩
  · intro hi
    refine Finset.mem_map.mpr ⟨l16 (i 1), Finset.mem_univ _, ?_⟩
    rw [emb_aRow]
    funext a
    match a with
    | 0 => exact Fin.ext (Finset.mem_filter.mp hi).2.symm
    | 1 => rfl
omit [FloatOps F] in
theorem emb_nRow (j : S16.Idx) : (nRow L).view.emb j = ix32 ⟨wid L, wid_lt L⟩ (j 0) := emb_aRow L j
omit [FloatOps F] in
theorem set_nRow : (nRow L).view.set = rowSet (wid L) := set_aRow L

theorem cast16 (v : FVec F S16 .f32) (j : S16.Idx) : shapeCast S1x16 v shapeCasts_S16_S1x16 (Shape.reshapeEquiv (s' := S16) (s := S1x16) (by decide) j) = v j := by
  rw [sqR]
  exact shapeCast_apply _ _ _ j (by
    rw [Shape.rowMajor_val_two, Shape.rowMajor_val_one]
    show (j 0).val = 0 * 16 + (j 0).val
    omega)
theorem wa_rec2 {W W' : Waits sig (HIx 1)} {a b : SemLoc sig} (h : ∀ p ∈ W', p ∈ W ∨ p.2 = none) :
    ∀ p ∈ (insert (a, none) (insert (b, none) W') : Waits sig (HIx 1)), p ∈ W ∨ p.2 = none := by
  intro p hp
  rcases Finset.mem_insert.mp hp with rfl | hp
  · exact .inr rfl
  rcases Finset.mem_insert.mp hp with rfl | hp
  · exact .inr rfl
  exact h p hp
theorem row_a (fa : Buf (Elt F) (aLoc d)) (p : S16.Idx → F .f32) (hp : ∀ j, p j = (accV X T S (wid L) 7).1 j) :
    ((aRow L).view.loc (tid d L) ↦[(aRow L).view.set]{fullShare} (aRow L).view.writes (Elt F) fa [⟨Rect.whole S16, p⟩] : sProp 𝕄)
      = (aLoc d ↦[rowSet (wid L)]{fullShare} accOut X T S) := by
  rw [← set_aRow]
  refine pointsTo_congr fun i hi => ?_
  obtain ⟨j, -, rfl⟩ := Finset.mem_map.mp hi
  rw [← View.write_univ_eq_writes_whole (aRow L).view fa [] p, View.writes_nil, View.write_emb_of_mem _ _ (Finset.mem_univ j), emb_aRow]
  show p j = (accV X T S (wid L) 7).1 (l16 (j 0))
  rw [hp]
  exact congrArg _ (show j = l16 (j 0) from funext fun a => match a with | 0 => rfl)
theorem row_n (fa : Buf (Elt F) (nLoc d)) (p : S16.Idx → F .f32) (hp : ∀ j, p j = (accV X T S (wid L) 7).2 j) :
    ((nRow L).view.loc (tid d L) ↦[(nRow L).view.set]{fullShare} (nRow L).view.writes (Elt F) fa [⟨Rect.whole S16, p⟩] : sProp 𝕄)
      = (nLoc d ↦[rowSet (wid L)]{fullShare} cntOut X T S) := by
  rw [← set_nRow]
  refine pointsTo_congr fun i hi => ?_
  obtain ⟨j, -, rfl⟩ := Finset.mem_map.mp hi
  rw [← View.write_univ_eq_writes_whole (nRow L).view fa [] p, View.writes_nil, View.write_emb_of_mem _ _ (Finset.mem_univ j), emb_nRow]
  show p j = (accV X T S (wid L) 7).2 (l16 (j 0))
  rw [hp]
  exact congrArg _ (show j = l16 (j 0) from funext fun a => match a with | 0 => rfl)
abbrev oR0 : Rect S2x16 := Rect.unit (s := S2x16) ![0, 0] S1x16.size inb_S2x16_S1x16_0_0
abbrev oR1 : Rect S2x16 := Rect.unit (s := S2x16) ![1, 0] S1x16.size inb_S2x16_S1x16_1_0
theorem out_one (fo : S2x16.Idx → F .f32) (v w : FVec F S16 .f32) (j : S16.Idx) :
    View.read (Elt F) (((oB).slice oR1 (fun _ => rfl)).squeeze S16 squeezes_S1x16_S16).view
      ((oB).view.writes (Elt F) fo [⟨oR1, k0_pay215 w⟩, ⟨oR0, k0_pay214 v⟩]) j = w j := by
  show (oB).view.read (Elt F) ((oB).view.writes (Elt F) fo [⟨oR1, k0_pay215 w⟩, ⟨oR0, k0_pay214 v⟩]) (oR1.emb (Shape.reshapeEquiv (s' := S16) (s := S1x16) (by decide) j)) = w j
  rw [View.read_writes_cons_emb]
  exact cast16 w j
theorem out_zero (fo : S2x16.Idx → F .f32) (v w : FVec F S16 .f32) (j : S16.Idx) :
    View.read (Elt F) (((oB).slice oR0 (fun _ => rfl)).squeeze S16 squeezes_S1x16_S16).view
      ((oB).view.writes (Elt F) fo [⟨oR1, k0_pay215 w⟩, ⟨oR0, k0_pay214 v⟩]) j = v j := by
  show (oB).view.read (Elt F) ((oB).view.writes (Elt F) ((oB).view.writes (Elt F) fo [⟨oR0, k0_pay214 v⟩]) [⟨oR1, k0_pay215 w⟩]) (oR0.emb (Shape.reshapeEquiv (s' := S16) (s := S1x16) (by decide) j)) = v j
  rw [View.read_writes_apply_of_forall_not_mem, View.read_writes_cons_emb]
  · exact cast16 v j
  · intro p hp
    obtain rfl := List.mem_singleton.mp hp
    intro hm
    rw [← Rect.map_emb_univ] at hm
    obtain ⟨x, -, e⟩ := Finset.mem_map.mp hm
    have e0 := congrArg Fin.val (congrFun e 0)
    have e1 : 1 + 1 * (x 0).val = 0 + 1 * ((Shape.reshapeEquiv (s' := S16) (s := S1x16) (by decide) j) 0).val := e0
    have e2 : ((Shape.reshapeEquiv (s' := S16) (s := S1x16) (by decide) j) 0).val < 1 := Fin.isLt _
    omega

set_option maxHeartbeats 4000000 in
theorem tile_body (O : CellTallies nD τ sig (HIx 1)) (W : Waits sig (HIx 1)) (hO : ∀ g, O g none = 0) :
    (iprop(levAts (K (F := F)).L (K (F := F)).lev ∗ emp ∗ goT d q0 q1 X T S (wid L)
        ∗ scopedBufs (tid d L) ∗ scopedSems0 (tid d L) ∗ owes (tid d L) O W) : sProp 𝕄)
      ⊢ wp frame (wpE defs₀ 𝒱₀ (tid d L) none) Set.univ (cc0__sc_body (F := F) L xV (Memref.isWhole_whole _) tV (Memref.isWhole_whole _) sV (Memref.isWhole_whole _) aV (Memref.isWhole_whole _) nV (Memref.isWhole_whole _) xB (Memref.isWhole_whole _) tB (Memref.isWhole_whole _) sB (Memref.isWhole_whole _) oB (Memref.isWhole_whole _) cc0_scratch4 cc0_scratch5 cc0_scoped0 cc0_scoped1)
          fun _ => iprop(tdT d q0 q1 X T S (wid L) ∗ scopedBufs (tid d L) ∗ scopedSems0 (tid d L)
            ∗ ∃ W', ⌜∀ p ∈ W', p ∈ W ∨ p.2 = none⌝ ∗ owes (tid d L) O W') := by
  simp only [cc0__sc_body_eq_skeleton]; unfold cc0__sc_body_skel
  rw [(K (F := F)).scopedBufs_V facts d (cV L) (jV L), SparseCore.Cfg.scopedSems0_V (Val := Elt F) d (cV L) (jV L), sems_V, bufs_V]
  unfold tileSems tileBufs goT
  simp only [List.map, pick]
  iintro ⟨#Hlv, -, ⟨HX0, HT0, HS0, HX1, HT1, HS1, ⟨%fa, Ha⟩, ⟨%fn, Hn⟩⟩, ⟨⟨%fx, Hx⟩, ⟨%ft, Ht⟩, ⟨%fs, Hs⟩, ⟨%fo, Ho⟩, Hbufs⟩, ⟨Hz40, Hz41, Hz50, Hz51, Hc0, Hc1, Hsems⟩, HO⟩
  ihave #Hmw := (show levAts (K (F := F)).L (K (F := F)).lev ⊢ Transfers.MayWaits (tid d L) (none : HIx 1) O from
    (K (F := F)).mayWaits_none (thr := tid d L) hO) $$ Hlv
  ihave Hx := (cut3 (ℓ := (xS0).view.loc (tid d L)) (xS0).view.set (xS1).view.set xS_disj fx) $$ Hx
  icases Hx with ⟨Hx0, Hx1, Hxr⟩
  ihave Ht := (cut3 (ℓ := (tS0).view.loc (tid d L)) (tS0).view.set (tS1).view.set tS_disj ft) $$ Ht
  icases Ht with ⟨Ht0, Ht1, Htr⟩
  ihave Hs := (cut3 (ℓ := (sS0).view.loc (tid d L)) (sS0).view.set (sS1).view.set sS_disj fs) $$ Hs
  icases Hs with ⟨Hs0, Hs1, Hsr⟩
  rw [wp_bind]
  iapply (wp_wand _ _ _) $$ [HX0 HT0 HS0 HX1 HT1 HS1 Hz40 Hz41 Hz50 Hz51 Hx0 Hx1 Ht0 Ht1 Hs0 Hs1]
  · iapply (part81_run d L q0 q1 X T S fx ft fx ft fs fs)
    unfold Slot0 Slot1
    isplitl [HX0 HT0 HS0 Hz40 Hz50 Hx0 Ht0 Hs0]
    · isplitl [Hz40]; · iexact Hz40
      isplitl [Hz50]; · iexact Hz50
      isplitl [HX0]; · iexact HX0
      isplitl [HT0]; · iexact HT0
      isplitl [HS0]; · iexact HS0
      isplitl [Hx0]; · iexact Hx0
      isplitl [Ht0]; · iexact Ht0
      iexact Hs0
    · isplitl [Hz41]; · iexact Hz41
      isplitl [Hz51]; · iexact Hz51
      isplitl [HX1]; · iexact HX1
      isplitl [HT1]; · iexact HT1
      isplitl [HS1]; · iexact HS1
      isplitl [Hx1]; · iexact Hx1
      isplitl [Ht1]; · iexact Ht1
      iexact Hs1
  iintro %r ⟨%hr, HS0, HS1⟩
  obtain ⟨v4, v7, v14, c0, v33⟩ := r
  obtain ⟨h7, h14, h0⟩ := hr
  simp only [k0_part82_eq_skeleton]; unfold k0_part82_skel
  simp only [Prog.lift, Prog.bind_op, Prog.bind_ret, Prog.pure_eq_ret, Prog.bind_assoc]
  iapply (loop_run d L q0 q1 X T S v4 v7 v14 c0 v33 h7 h0 h14 O W)
  isplitl [HS0]; · iexact HS0
  isplitl [HS1]; · iexact HS1
  isplitr; · iexact Hmw
  isplitl [HO]
  · unfold owesT; iexists W; isplitr
    · ipureintro; exact fun p hp => .inl hp
    iexact HO
  iintro ⟨HS0, HS1, HO⟩
  unfold owesT
  icases HO with ⟨%W', %hW', HO⟩
  sl_for (fun k acc => iprop(⌜acc = accV X T S (wid L) 7⌝)) $$ []
  case region =>
    intro k acc
    have hk : k.val < (k0_t4_loop L).trips := k.isLt
    rw [trips4_at] at hk
    exact absurd hk (Nat.not_lt_zero _)
  · ipureintro; rfl
  iintro %r' %hr'
  subst hr'
  ihave Ha := (Entails.of_eq (show (aLoc d ↦[rowSet (wid L)]{fullShare} fa : sProp 𝕄) = ((aRow L).view.loc (tid d L) ↦[(aRow L).view.set]{fullShare} fa) by rw [set_aRow])) $$ Ha
  ihave Hn := (Entails.of_eq (show (nLoc d ↦[rowSet (wid L)]{fullShare} fn : sProp 𝕄) = ((nRow L).view.loc (tid d L) ↦[(nRow L).view.set]{fullShare} fn) by rw [set_nRow])) $$ Hn
  ihave Ho := (Entails.of_eq (show ((d, (Proc.scVector (cV L) (jV L)).devRef cc0_scratch3) ↦{fullShare} fo : sProp 𝕄) = ((oB).view.loc (tid d L) ↦{fullShare} fo) from rfl)) $$ Ho
  sl_exec
  have e0 : ∀ j, tile_body.sl.dma4 d L X T S fo j = (accV X T S (wid L) 7).1 j := by
    intro j
    unfold tile_body.sl.dma4 tile_body.sl.Ho_2
    exact out_zero fo (accV X T S (wid L) 7).1 (accV X T S (wid L) 7).2 j
  have e1 : ∀ j : S16.Idx, tile_body.sl.dma4_1 d L X T S fo j = (accV X T S (wid L) 7).2 j := by
    intro j
    unfold tile_body.sl.dma4_1 tile_body.sl.Ho_2
    exact out_one fo (accV X T S (wid L) 7).1 (accV X T S (wid L) 7).2 j
  have ra := row_a (F := F) d L X T S fa (tile_body.sl.dma4 d L X T S fo) e0
  have rn := row_n (F := F) d L X T S fn (tile_body.sl.dma4_1 d L X T S fo) e1
  ihave Ha := (Entails.of_eq ra) $$ Ha
  ihave Hn := (Entails.of_eq rn) $$ Hn
  icases HS0 with ⟨%ax, %at', %au, HS0⟩
  icases HS1 with ⟨%bx, %bt, %bs, HS1⟩
  unfold Slot0 Slot1
  icases HS0 with ⟨Hz40, Hz50, HX0, HT0, HS0, Hx0, Ht0, Hs0⟩
  icases HS1 with ⟨Hz41, Hz51, HX1, HT1, HS1, Hx1, Ht1, Hs1⟩
  ihave Hx := (glue3 (ℓ := (xS0).view.loc (tid d L)) (xS0).view.set (xS1).view.set xS_disj ax bx fx) $$ [Hx0 Hx1 Hxr]
  · isplitl [Hx0]; · iexact Hx0
    isplitl [Hx1]; · iexact Hx1
    iexact Hxr
  ihave Ht := (glue3 (ℓ := (tS0).view.loc (tid d L)) (tS0).view.set (tS1).view.set tS_disj at' bt ft) $$ [Ht0 Ht1 Htr]
  · isplitl [Ht0]; · iexact Ht0
    isplitl [Ht1]; · iexact Ht1
    iexact Htr
  ihave Hs := (glue3 (ℓ := (sS0).view.loc (tid d L)) (sS0).view.set (sS1).view.set sS_disj au bs fs) $$ [Hs0 Hs1 Hsr]
  · isplitl [Hs0]; · iexact Hs0
    isplitl [Hs1]; · iexact Hs1
    iexact Hsr
  sl_step
  unfold tdT
  isplitl [HX0 HT0 HS0 HX1 HT1 HS1 Ha Hn]
  · isplitl [HX0]; · iexact HX0
    isplitl [HT0]; · iexact HT0
    isplitl [HS0]; · iexact HS0
    isplitl [HX1]; · iexact HX1
    isplitl [HT1]; · iexact HT1
    isplitl [HS1]; · iexact HS1
    isplitl [Ha]; · iexact Ha
    iexact Hn
  isplitl [Hx Ht Hs Ho Hbufs]
  · isplitl [Hx]; · iexact Hx
    isplitl [Ht]; · iexact Ht
    isplitl [Hs]; · iexact Hs
    isplitl [Ho]; · iexists _; iexact Ho
    iexact Hbufs
  isplitl [Hz40 Hz41 Hz50 Hz51 Hc0 Hc1 Hsems]
  · isplitl [Hz40]; · iexact Hz40
    isplitl [Hz41]; · iexact Hz41
    isplitl [Hz50]; · iexact Hz50
    isplitl [Hz51]; · iexact Hz51
    isplitl [Hc0]; · iexact Hc0
    isplitl [Hc1]; · iexact Hc1
    iexact Hsems
  iexists (insert (SemLoc.dma ⟨5, by decide⟩, (default : HIx 1)) (insert (SemLoc.dma ⟨4, by decide⟩, (default : HIx 1)) W')); isplitr
  · ipureintro
    exact wa_rec2 hW'
  iexact HO
end Tile

end Cert.Proof.Loss
-- ==== Proof.Pay.lean ====
/-
    What the call takes and brings back: the arrays dealt out to the thirty-two tiles, two shares of each to a tile and its rows
  of the two outputs, and gathered again; the obligation of a tile as the launch theorem asks it.
-/
module

public import proofs.«01_k».proof.Proof.Tile

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Thirty-two as sixteen pairs -/

/-- The even and the odd numbers below twice a bound. -/
def parity (n : ℕ) : Fin n ⊕ Fin n ≃ Fin (2 * n) where
  toFun := Sum.elim (fun j => ⟨2 * j.val, by omega⟩) (fun j => ⟨2 * j.val + 1, by omega⟩)
  invFun w := if w.val % 2 = 0 then Sum.inl ⟨w.val / 2, by omega⟩ else Sum.inr ⟨w.val / 2, by omega⟩
  left_inv s := by
    rcases s with j | j
    · simp
    · have h : (2 * j.val + 1) % 2 ≠ 0 := by omega
      simp only [Sum.elim_inr, h, ↓reduceIte]
      exact congrArg Sum.inr (Fin.ext (by show (2 * j.val + 1) / 2 = j.val; omega))
  right_inv w := by
    by_cases h : w.val % 2 = 0
    · simp only [h, ↓reduceIte]
      exact Fin.ext (by show 2 * (w.val / 2) = w.val; omega)
    · simp only [h, ↓reduceIte]
      exact Fin.ext (by show 2 * (w.val / 2) + 1 = w.val; omega)

theorem sep_parity (n : ℕ) (Φ : ℕ → sProp 𝕄) :
    (bigSep Finset.univ fun w : Fin (2 * n) => Φ w.val)
      = iprop((bigSep Finset.univ fun j : Fin n => Φ (2 * j.val)) ∗ bigSep Finset.univ fun j : Fin n => Φ (2 * j.val + 1)) := by
  rw [bigSep_univ_equiv (parity n), bigSep_univ_sum]
  rfl

theorem sep_cores (Φ : ℕ → sProp 𝕄) :
    (bigSep Finset.univ fun w : Fin 32 => Φ w.val)
      = bigSep Finset.univ fun c : Fin 2 => bigSep Finset.univ fun i : Fin 16 => Φ (2 * i.val + c.val) := by
  rw [bigSep_univ_two]
  exact sep_parity 16 Φ

/-! ## Shares -/

/-- Piece `w` of a share cut in two `n` times, the low bit of `w` first. -/
def piece : ℕ → PosShare TreeShare → ℕ → PosShare TreeShare
  | 0, q, _ => q
  | n + 1, q, w => if w % 2 = 0 then piece n q.left (w / 2) else piece n q.right (w / 2)

theorem sep_pieces {ℓ : Loc nD τ sig} (I : Finset (Idx ℓ)) (f : Buf (Elt F) ℓ) : ∀ (n : ℕ) (q : PosShare TreeShare),
    (ℓ ↦[I]{q} f : sProp 𝕄) = bigSep Finset.univ fun w : Fin (2 ^ n) => ℓ ↦[I]{piece n q w.val} f
  | 0, q => (bigSep_univ_of_subsingleton (0 : Fin 1) (Φ := fun w : Fin 1 => (ℓ ↦[I]{piece 0 q w.val} f : sProp 𝕄))).symm
  | n + 1, q => by
    have hs : (ℓ ↦[I]{q} f : sProp 𝕄) = iprop((ℓ ↦[I]{q.left} f) ∗ ℓ ↦[I]{q.right} f) :=
      BI.Entails.antisymm (pointsTo_share (PosShare.mem_left_op_right q)).1 (pointsTo_share (PosShare.mem_left_op_right q)).2
    have hp : (2 : ℕ) ^ (n + 1) = 2 * 2 ^ n := by omega
    have hc : (bigSep Finset.univ fun w : Fin (2 ^ (n + 1)) => (ℓ ↦[I]{piece (n + 1) q w.val} f : sProp 𝕄))
        = bigSep Finset.univ fun w : Fin (2 * 2 ^ n) => ℓ ↦[I]{piece (n + 1) q w.val} f := by rw [hp]
    rw [hs, hc, sep_pieces I f n q.left, sep_pieces I f n q.right, sep_parity (2 ^ n) fun w => (ℓ ↦[I]{piece (n + 1) q w} f : sProp 𝕄)]
    congr 1 <;> refine bigSep_congr fun j _ => ?_
    · have h0 : 2 * j.val % 2 = 0 := by omega
      have h1 : 2 * j.val / 2 = j.val := by omega
      simp only [piece, h0, h1, ↓reduceIte]
    · have h0 : ¬ (2 * j.val + 1) % 2 = 0 := by omega
      have h1 : (2 * j.val + 1) / 2 = j.val := by omega
      simp only [piece, h0, h1, ↓reduceIte]

/-- A tile's two shares. -/
def sh0 (w : ℕ) : PosShare TreeShare := (piece 5 fullShare w).left
def sh1 (w : ℕ) : PosShare TreeShare := (piece 5 fullShare w).right

theorem sep_shares {ℓ : Loc nD τ sig} (f : Buf (Elt F) ℓ) :
    (ℓ ↦{fullShare} f : sProp 𝕄) = iprop((bigSep Finset.univ fun w : Fin 32 => ℓ ↦{sh0 w.val} f) ∗ bigSep Finset.univ fun w : Fin 32 => ℓ ↦{sh1 w.val} f) := by
  rw [sep_pieces Finset.univ f 5 fullShare, ← bigSep_sep']
  exact bigSep_congr fun w _ => BI.Entails.antisymm (pointsTo_share (PosShare.mem_left_op_right _)).1 (pointsTo_share (PosShare.mem_left_op_right _)).2

theorem rows_disj : ∀ w ∈ (Finset.univ : Finset (Fin 32)), ∀ w' ∈ (Finset.univ : Finset (Fin 32)), w ≠ w' → Disjoint (rowSet w.val) (rowSet w'.val) := by
  intro w _ w' _ h
  refine Finset.disjoint_left.mpr fun i hi hi' => h (Fin.ext ?_)
  exact (Finset.mem_filter.mp hi).2.symm.trans (Finset.mem_filter.mp hi').2
theorem rows_all : (Finset.univ : Finset (Fin 32)).biUnion (fun w => rowSet w.val) = Finset.univ := by
  ext i
  exact ⟨fun _ => Finset.mem_univ _, fun _ => Finset.mem_biUnion.mpr ⟨i 0, Finset.mem_univ _, Finset.mem_filter.mpr ⟨Finset.mem_univ _, rfl⟩⟩⟩
theorem sep_rowsA (d : Dev nD) (f : Buf (Elt F) (aLoc d)) :
    (aLoc d ↦{fullShare} f : sProp 𝕄) = bigSep Finset.univ fun w : Fin 32 => aLoc d ↦[rowSet w.val]{fullShare} f := by
  rw [← pointsTo_biUnion Finset.univ (ℓ := aLoc d) (fun w : Fin 32 => rowSet w.val) rows_disj, rows_all]; try rfl
theorem sep_rowsN (d : Dev nD) (f : Buf (Elt F) (nLoc d)) :
    (nLoc d ↦{fullShare} f : sProp 𝕄) = bigSep Finset.univ fun w : Fin 32 => nLoc d ↦[rowSet w.val]{fullShare} f := by
  rw [← pointsTo_biUnion Finset.univ (ℓ := nLoc d) (fun w : Fin 32 => rowSet w.val) rows_disj, rows_all]; try rfl

/-- The five arrays, whole. -/
def whole5 (d : Dev nD) (X T : XArr F) (S : SArr) (f : Buf (Elt F) (aLoc d)) (g : Buf (Elt F) (nLoc d)) : sProp 𝕄 :=
  iprop((xLoc d ↦{fullShare} X) ∗ (tLoc d ↦{fullShare} T) ∗ (sLoc d ↦{fullShare} S) ∗ (aLoc d ↦{fullShare} f) ∗ nLoc d ↦{fullShare} g)
/-- A tile's part of them. -/
def part5 (d : Dev nD) (X T : XArr F) (S : SArr) (f : Buf (Elt F) (aLoc d)) (g : Buf (Elt F) (nLoc d)) (w : ℕ) : sProp 𝕄 :=
  iprop((xLoc d ↦{sh0 w} X) ∗ (tLoc d ↦{sh0 w} T) ∗ (sLoc d ↦{sh0 w} S) ∗ (xLoc d ↦{sh1 w} X) ∗ (tLoc d ↦{sh1 w} T) ∗ (sLoc d ↦{sh1 w} S)
    ∗ (aLoc d ↦[rowSet w]{fullShare} f) ∗ (nLoc d ↦[rowSet w]{fullShare} g))

theorem whole_parts (d : Dev nD) (X T : XArr F) (S : SArr) (f : Buf (Elt F) (aLoc d)) (g : Buf (Elt F) (nLoc d)) :
    whole5 d X T S f g ⊢ bigSep Finset.univ fun w : Fin 32 => part5 d X T S f g w.val := by
  unfold whole5 part5
  rw [bigSep_sep', bigSep_sep', bigSep_sep', bigSep_sep', bigSep_sep', bigSep_sep', bigSep_sep',
    sep_shares (ℓ := xLoc d), sep_shares (ℓ := tLoc d), sep_shares (ℓ := sLoc d), sep_rowsA, sep_rowsN]
  iintro ⟨⟨HX, HX'⟩, ⟨HT, HT'⟩, ⟨HS, HS'⟩, Ha, Hn⟩
  isplitl [HX]; · iexact HX
  isplitl [HT]; · iexact HT
  isplitl [HS]; · iexact HS
  isplitl [HX']; · iexact HX'
  isplitl [HT']; · iexact HT'
  isplitl [HS']; · iexact HS'
  isplitl [Ha]; · iexact Ha
  iexact Hn
theorem parts_whole (d : Dev nD) (X T : XArr F) (S : SArr) (f : Buf (Elt F) (aLoc d)) (g : Buf (Elt F) (nLoc d)) :
    (bigSep Finset.univ fun w : Fin 32 => part5 d X T S f g w.val) ⊢ whole5 d X T S f g := by
  unfold whole5 part5
  rw [bigSep_sep', bigSep_sep', bigSep_sep', bigSep_sep', bigSep_sep', bigSep_sep', bigSep_sep',
    sep_shares (ℓ := xLoc d), sep_shares (ℓ := tLoc d), sep_shares (ℓ := sLoc d), sep_rowsA, sep_rowsN]
  iintro ⟨HX, HT, HS, HX', HT', HS', Ha, Hn⟩
  isplitl [HX HX']; · isplitl [HX] <;> iassumption
  isplitl [HT HT']; · isplitl [HT] <;> iassumption
  isplitl [HS HS']; · isplitl [HS] <;> iassumption
  isplitl [Ha]; · iexact Ha
  iexact Hn

variable [FloatOps F]

variable (X T : Dev nD → XArr F) (S : Dev nD → SArr)

/-- What the handshakes of the call carry. -/
def P : (K (F := F)).Pay (nD := nD) (Val := Elt F) (Name := ℕ) (U := UU) where
  st := fun q d c => match q with
    | 0 => bigSep Finset.univ fun i : Fin 16 => goT d (sh0 (2 * i.val + c.val)) (sh1 (2 * i.val + c.val)) (X d) (T d) (S d) (2 * i.val + c.val)
  dn := fun q d c => match q with
    | 0 => bigSep Finset.univ fun i : Fin 16 => tdT d (sh0 (2 * i.val + c.val)) (sh1 (2 * i.val + c.val)) (X d) (T d) (S d) (2 * i.val + c.val)
  go := fun q d c i => match q with
    | 0 => goT d (sh0 (2 * i.val + c.val)) (sh1 (2 * i.val + c.val)) (X d) (T d) (S d) (2 * i.val + c.val)
  td := fun q d c i => match q with
    | 0 => tdT d (sh0 (2 * i.val + c.val)) (sh1 (2 * i.val + c.val)) (X d) (T d) (S d) (2 * i.val + c.val)
  x := fun _ _ => iprop(emp)

instance goT_storable (d : Dev nD) (q0 q1 : PosShare TreeShare) (X T : XArr F) (S : SArr) (w : ℕ) :
    BI.Storable (upEmb : UEmb _ 𝕄) (goT d q0 q1 X T S w) := by unfold goT; infer_instance
instance tdT_storable (d : Dev nD) (q0 q1 : PosShare TreeShare) (X T : XArr F) (S : SArr) (w : ℕ) :
    BI.Storable (upEmb : UEmb _ 𝕄) (tdT d q0 q1 X T S w) := by unfold tdT; infer_instance

instance P_storable : (P X T S).IsStorable where
  st q d c := match q with
    | 0 => (inferInstance : BI.Storable (upEmb : UEmb _ 𝕄)
      (bigSep Finset.univ fun i : Fin 16 => goT d (sh0 (2 * i.val + c.val)) (sh1 (2 * i.val + c.val)) (X d) (T d) (S d) (2 * i.val + c.val)))
  dn q d c := match q with
    | 0 => (inferInstance : BI.Storable (upEmb : UEmb _ 𝕄)
      (bigSep Finset.univ fun i : Fin 16 => tdT d (sh0 (2 * i.val + c.val)) (sh1 (2 * i.val + c.val)) (X d) (T d) (S d) (2 * i.val + c.val)))
  go q d c i := match q with
    | 0 => goT_storable d _ _ _ _ _ _
  td q d c i := match q with
    | 0 => tdT_storable d _ _ _ _ _ _

theorem vecSplit : (K (F := F)).VecSplit' (P X T S) 0 := by
  intro d c
  show (bigSep Finset.univ fun i : Fin 16 => goT d (sh0 (2 * i.val + c.val)) (sh1 (2 * i.val + c.val)) (X d) (T d) (S d) (2 * i.val + c.val))
    ⊢ |={Set.univ}=> iprop((bigSep Finset.univ fun i : Fin 16 => goT d (sh0 (2 * i.val + c.val)) (sh1 (2 * i.val + c.val)) (X d) (T d) (S d) (2 * i.val + c.val))
      ∗ ((bigSep Finset.univ fun i : Fin 16 => tdT d (sh0 (2 * i.val + c.val)) (sh1 (2 * i.val + c.val)) (X d) (T d) (S d) (2 * i.val + c.val))
        -∗ bigSep Finset.univ fun i : Fin 16 => tdT d (sh0 (2 * i.val + c.val)) (sh1 (2 * i.val + c.val)) (X d) (T d) (S d) (2 * i.val + c.val)))
  iintro H; imodintro
  isplitl [H]; · iexact H
  iintro H; iexact H

theorem part_go (d : Dev nD) (X T : XArr F) (S : SArr) (f : Buf (Elt F) (aLoc d)) (g : Buf (Elt F) (nLoc d)) (w : ℕ) :
    part5 d X T S f g w ⊢ goT d (sh0 w) (sh1 w) X T S w := by
  unfold part5 goT
  iintro ⟨HX, HT, HS, HX', HT', HS', Ha, Hn⟩
  isplitl [HX]; · iexact HX
  isplitl [HT]; · iexact HT
  isplitl [HS]; · iexact HS
  isplitl [HX']; · iexact HX'
  isplitl [HT']; · iexact HT'
  isplitl [HS']; · iexact HS'
  isplitl [Ha]; · iexists f; iexact Ha
  iexists g; iexact Hn

/-- The whole arrays are the call's operands. -/
theorem give (d : Dev nD) (f : Buf (Elt F) (aLoc d)) (g : Buf (Elt F) (nLoc d)) :
    whole5 d (X d) (T d) (S d) f g ⊢ bigSep Finset.univ fun c : Fin ((K (F := F)).nCore 0) => (P X T S).st 0 d c := by
  refine (whole_parts d (X d) (T d) (S d) f g).trans ?_
  have h : (bigSep Finset.univ fun w : Fin 32 => part5 d (X d) (T d) (S d) f g w.val)
      ⊢ bigSep Finset.univ fun w : Fin 32 => goT d (sh0 w.val) (sh1 w.val) (X d) (T d) (S d) w.val :=
    bigSep_mono fun w _ => part_go d (X d) (T d) (S d) f g w.val
  exact h.trans (Entails.of_eq (sep_cores fun w => goT d (sh0 w) (sh1 w) (X d) (T d) (S d) w))

/-- What the call brings back is the arrays again, the outputs written. -/
theorem take (d : Dev nD) :
    (bigSep Finset.univ fun c : Fin ((K (F := F)).nCore 0) => (P X T S).dn 0 d c)
      ⊢ whole5 d (X d) (T d) (S d) (accOut (X d) (T d) (S d)) (cntOut (X d) (T d) (S d)) :=
  (Entails.of_eq (sep_cores fun w => tdT d (sh0 w) (sh1 w) (X d) (T d) (S d) w).symm).trans (parts_whole d (X d) (T d) (S d) _ _)

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => (fun L => cc0__sc_body L xV (Memref.isWhole_whole _) tV (Memref.isWhole_whole _) sV (Memref.isWhole_whole _) aV (Memref.isWhole_whole _) nV (Memref.isWhole_whole _) xB (Memref.isWhole_whole _) tB (Memref.isWhole_whole _) sB (Memref.isWhole_whole _) oB (Memref.isWhole_whole _) cc0_scratch4 cc0_scratch5 cc0_scoped0 cc0_scoped1) (coordsV c s)) ⟨⟩ c s := rfl

omit [FloatOps F] in
theorem weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
set_option maxHeartbeats 4000000 in
theorem tileObl : (K (F := F)).TileObl (D (F := F)) 𝒱 (P X T S) v₀ 0 := by
  intro d c i O W hO _ _
  simp only [show (P X T S).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (sh0 (2 * i.val + c.val)) (sh1 (2 * i.val + c.val)) (X d) (T d) (S d) O W hO).trans (wp_mono frame _ _ fun _ => weaken)

end Cert.Proof.Loss
-- ==== Proof.Host.lean ====
/-
  The host operations of the program, as three straight lines around its two calls, and the buffers' contents after each.
-/
module

public import proofs.«01_k».proof.Proof.RegCall
public import proofs.«01_k».proof.Proof.Pay
public import Idealize.ShloMosaic.Lib.StableHlo.Run

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The lines -/

/-- The host operations before the SparseCore call: the two row arrays, by tiles of 128 rows. -/
def opsA : List (HloOp τ sig (Elt F)) := [
  (StableHlo.reshape main_arg0 main_v0 (rfl : (.f32 : EltTy) = .f32) shapeCasts_S4000000x4_S31250x128x4),
  (StableHlo.unary main_v0 main_v1 ((transpose S31250x4x128 [0, 2, 1] · transposes_S31250x128x4_S31250x4x128_0_2_1) : (⟨S31250x128x4, .f32⟩ : BufTy).Contents (Elt F) → (⟨S31250x4x128, .f32⟩ : BufTy).Contents (Elt F))),
  (StableHlo.reshape main_arg1 main_v2 (rfl : (.f32 : EltTy) = .f32) shapeCasts_S4000000x4_S31250x128x4),
  (StableHlo.unary main_v2 main_v3 ((transpose S31250x4x128 [0, 2, 1] · transposes_S31250x128x4_S31250x4x128_0_2_1) : (⟨S31250x128x4, .f32⟩ : BufTy).Contents (Elt F) → (⟨S31250x4x128, .f32⟩ : BufTy).Contents (Elt F)))]

abbrev opsAW : List (Ref sig .tc) := [main_v0, main_v1, main_v2, main_v3]
theorem opsA_writes : (opsA (F := F)).Forall fun op => op.writes ⊆ ((opsAW).map (Proc.devRef (τ := τ) .tc)).toFinset :=
  StableHlo.forall_writes_sub_of_map rfl
theorem opsA_fresh : ∀ op ∈ (opsA (F := F)), op.fresh = ∅ := by
  intro _ h; (repeat (cases h with | head => rfl | tail _ h => ?_)); exact nomatch h

/-- Those between the two calls: the three arrays, by pairs of tiles. -/
def opsB : List (HloOp τ sig (Elt F)) := [
  (StableHlo.reshape main_arg0 main_v5 (rfl : (.f32 : EltTy) = .f32) shapeCasts_S4000000x4_S15625x2x128x4),
  (StableHlo.unary main_v5 main_v6 ((transpose S15625x2x4x128 [0, 1, 3, 2] · transposes_S15625x2x128x4_S15625x2x4x128_0_1_3_2) : (⟨S15625x2x128x4, .f32⟩ : BufTy).Contents (Elt F) → (⟨S15625x2x4x128, .f32⟩ : BufTy).Contents (Elt F))),
  (StableHlo.reshape main_v6 main_v7 (rfl : (.f32 : EltTy) = .f32) shapeCasts_S15625x2x4x128_S15625x8x128),
  (StableHlo.reshape main_arg1 main_v8 (rfl : (.f32 : EltTy) = .f32) shapeCasts_S4000000x4_S15625x2x128x4),
  (StableHlo.unary main_v8 main_v9 ((transpose S15625x2x4x128 [0, 1, 3, 2] · transposes_S15625x2x128x4_S15625x2x4x128_0_1_3_2) : (⟨S15625x2x128x4, .f32⟩ : BufTy).Contents (Elt F) → (⟨S15625x2x4x128, .f32⟩ : BufTy).Contents (Elt F))),
  (StableHlo.reshape main_v9 main_v10 (rfl : (.f32 : EltTy) = .f32) shapeCasts_S15625x2x4x128_S15625x8x128),
  (StableHlo.reshape main_arg2 main_v11 (rfl : (.i32 : EltTy) = .i32) shapeCasts_S4000000_S15625x2x128)]

abbrev opsBW : List (Ref sig .tc) := [main_v5, main_v6, main_v7, main_v8, main_v9, main_v10, main_v11]
theorem opsB_writes : (opsB (F := F)).Forall fun op => op.writes ⊆ ((opsBW).map (Proc.devRef (τ := τ) .tc)).toFinset :=
  StableHlo.forall_writes_sub_of_map rfl
theorem opsB_fresh : ∀ op ∈ (opsB (F := F)), op.fresh = ∅ := by
  intro _ h; (repeat (cases h with | head => rfl | tail _ h => ?_)); exact nomatch h

/-- Those after the TensorCore call: the two partial sums added, and the quotient. -/
def opsC : List (HloOp τ sig (Elt F)) := [
  (StableHlo.unary main_v12 main_v13 ((extractStridedSlice S1x1 ![0, 0] · slices_S1x2_S1x1_0_0) : (⟨S1x2, .f32⟩ : BufTy).Contents (Elt F) → (⟨S1x1, .f32⟩ : BufTy).Contents (Elt F))),
  (StableHlo.reshape main_v13 main_v14 (rfl : (.f32 : EltTy) = .f32) shapeCasts_S1x1_S_),
  (StableHlo.nullary main_cst (constant S_ .f32 0x00000000#32)),
  (StableHlo.binary main_v4_0 main_cst main_v15 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))),
  (StableHlo.binary main_v14 main_v15 main_v16 (addf : (⟨S_, .f32⟩ : BufTy).Contents (Elt F) → (⟨S_, .f32⟩ : BufTy).Contents (Elt F) → (⟨S_, .f32⟩ : BufTy).Contents (Elt F))),
  (StableHlo.unary main_v12 main_v17 ((extractStridedSlice S1x1 ![0, 1] · slices_S1x2_S1x1_0_1) : (⟨S1x2, .f32⟩ : BufTy).Contents (Elt F) → (⟨S1x1, .f32⟩ : BufTy).Contents (Elt F))),
  (StableHlo.reshape main_v17 main_v18 (rfl : (.f32 : EltTy) = .f32) shapeCasts_S1x1_S_),
  (StableHlo.nullary main_cst_0 (constant S_ .f32 0x00000000#32)),
  (StableHlo.binary main_v4_1 main_cst_0 main_v19 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))),
  (StableHlo.binary main_v18 main_v19 main_v20 (addf : (⟨S_, .f32⟩ : BufTy).Contents (Elt F) → (⟨S_, .f32⟩ : BufTy).Contents (Elt F) → (⟨S_, .f32⟩ : BufTy).Contents (Elt F))),
  (StableHlo.nullary main_cst_1 (constant S_ .f32 0x40800000#32)),
  (StableHlo.binary main_cst_1 main_v20 main_v21 (mulf : (⟨S_, .f32⟩ : BufTy).Contents (Elt F) → (⟨S_, .f32⟩ : BufTy).Contents (Elt F) → (⟨S_, .f32⟩ : BufTy).Contents (Elt F))),
  (StableHlo.binary main_v16 main_v21 main_v22 (Host.divf : (⟨S_, .f32⟩ : BufTy).Contents (Elt F) → (⟨S_, .f32⟩ : BufTy).Contents (Elt F) → (⟨S_, .f32⟩ : BufTy).Contents (Elt F)))]

abbrev opsCW : List (Ref sig .tc) := [main_v13, main_v14, main_cst, main_v15, main_v16, main_v17, main_v18, main_cst_0, main_v19, main_v20, main_cst_1, main_v21, main_v22]
theorem opsC_writes : (opsC (F := F)).Forall fun op => op.writes ⊆ ((opsCW).map (Proc.devRef (τ := τ) .tc)).toFinset :=
  StableHlo.forall_writes_sub_of_map rfl
theorem opsC_fresh : ∀ op ∈ (opsC (F := F)), op.fresh = ∅ := by
  intro _ h; (repeat (cases h with | head => rfl | tail _ h => ?_)); exact nomatch h

theorem main_eq (d : Dev nD) : main (F := F) d
    = (StableHlo.seq opsA >>= fun _ => (K (F := F)).run d 0 >>= fun _ => StableHlo.seq opsB >>= fun _ =>
        Prog.lift (.customCall (SparseCore.inner (Pipeline.entry 0)) ()) >>= fun _ => StableHlo.seq opsC >>= fun _ => pure ⟨⟩) := rfl

/-- The buffers that outlive the calls. -/
def ucRefs : Finset (DevRef τ sig) := (StableHlo.tcRefs τ sig).filter fun b => ¬ b.isScoped

theorem held_unscoped (c : Dev nD) (W : Valuation τ sig (Elt F)) :
    (unscopedBufs c (fun b => W (Proc.devRef .tc b)) : sProp 𝕄) = StableHlo.held (T c : Thread nD τ) ucRefs W := by
  unfold unscopedBufs StableHlo.held ucRefs StableHlo.tcRefs
  rw [Finset.filter_map, bigSep_map]; rfl

theorem in_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem opsA_in : ∀ op ∈ (opsA (F := F)), op.bufs ⊆ ucRefs := by
  refine List.forall_iff_forall_mem.mp ?_
  exact ⟨in_ucRefs _ (StableHlo.reshape_bufs_sub ..), in_ucRefs _ (StableHlo.unary_bufs_sub ..), in_ucRefs _ (StableHlo.reshape_bufs_sub ..), in_ucRefs _ (StableHlo.unary_bufs_sub ..)⟩
theorem opsB_in : ∀ op ∈ (opsB (F := F)), op.bufs ⊆ ucRefs := by
  refine List.forall_iff_forall_mem.mp ?_
  exact ⟨in_ucRefs _ (StableHlo.reshape_bufs_sub ..), in_ucRefs _ (StableHlo.unary_bufs_sub ..), in_ucRefs _ (StableHlo.reshape_bufs_sub ..), in_ucRefs _ (StableHlo.reshape_bufs_sub ..), in_ucRefs _ (StableHlo.unary_bufs_sub ..), in_ucRefs _ (StableHlo.reshape_bufs_sub ..), in_ucRefs _ (StableHlo.reshape_bufs_sub ..)⟩
theorem opsC_in : ∀ op ∈ (opsC (F := F)), op.bufs ⊆ ucRefs := by
  refine List.forall_iff_forall_mem.mp ?_
  exact ⟨in_ucRefs _ (StableHlo.unary_bufs_sub ..), in_ucRefs _ (StableHlo.reshape_bufs_sub ..), in_ucRefs _ (StableHlo.nullary_bufs_sub ..), in_ucRefs _ (StableHlo.binary_bufs_sub ..), in_ucRefs _ (StableHlo.binary_bufs_sub ..), in_ucRefs _ (StableHlo.unary_bufs_sub ..), in_ucRefs _ (StableHlo.reshape_bufs_sub ..), in_ucRefs _ (StableHlo.nullary_bufs_sub ..), in_ucRefs _ (StableHlo.binary_bufs_sub ..), in_ucRefs _ (StableHlo.binary_bufs_sub ..), in_ucRefs _ (StableHlo.nullary_bufs_sub ..), in_ucRefs _ (StableHlo.binary_bufs_sub ..), in_ucRefs _ (StableHlo.binary_bufs_sub ..)⟩

end Cert.Proof.Loss
-- ==== Proof.Run.lean ====
/-
  The program's run on the mesh: the host operations around the two calls, the launch, and every final state's contents.
-/
module

public import proofs.«01_k».proof.Proof.Host

@[expose] public section

noncomputable section

namespace Cert.Proof.Loss

open Cert.KernelIdeal Cert.KernelIdeal.Gen

open Idealize.ShloMosaic
open Idealize.ShloMosaic.SparseCore (T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (m : (ℓ : Loc nD τ sig) → Buf (Elt F) ℓ) (ρ : Dev nD → PrngReg)

/-! ## The buffers' contents along the program -/

abbrev dv (b : Ref sig .tc) : DevRef τ sig := Proc.devRef .tc b

/-- At the SparseCore call. -/
def VA (d : Dev nD) : Valuation τ sig (Elt F) := StableHlo.after opsA (StableHlo.launchContents m d)
/-- The SparseCore call's operands. -/
def xIn (d : Dev nD) : XArr F := VA m d (dv main_v1)
def tIn (d : Dev nD) : XArr F := VA m d (dv main_v3)
def sIn (d : Dev nD) : SArr := VA m d (dv main_arg2)
/-- After it. -/
def VB (d : Dev nD) : Valuation τ sig (Elt F) :=
  Function.update (Function.update (VA m d) (dv main_v4_0) (accOut (xIn m d) (tIn m d) (sIn m d))) (dv main_v4_1) (cntOut (xIn m d) (tIn m d) (sIn m d))
/-- At the TensorCore call. -/
def VC (d : Dev nD) : Valuation τ sig (Elt F) := StableHlo.after opsB (VB m d)
def atC (d : Dev nD) (b : Ref sig .tc) : Buf (Elt F) ((T d : Thread nD τ).loc b) := VC m d (dv b)
/-- After it. -/
def VD (d : Dev nD) : Valuation τ sig (Elt F) :=
  Function.update (VC m d) (dv main_v12) (tcOut (F := F) (VC m d (dv main_v7)) (VC m d (dv main_v10)) (VC m d (dv main_v11)))
/-- At the end. -/
def VE (d : Dev nD) : Valuation τ sig (Elt F) := StableHlo.after opsC (VD m d)

theorem after12_eq (d : Dev nD) : after12 (atC m) d = fun b => VD m d (dv b) := by
  funext b
  by_cases h : b = main_v12
  · subst h
    rw [after12_self]; exact (Function.update_self (dv main_v12) _ (VC m d)).symm
  · rw [after12_ne _ _ _ h]
    exact (Function.update_of_ne (StableHlo.devRef_ne_of_ne h) _ (VC m d)).symm

/-- The five buffers of the SparseCore call. -/
def five : Finset (DevRef τ sig) := {dv main_v1, dv main_v3, dv main_arg2, dv main_v4_0, dv main_v4_1}
theorem five_sub : five ⊆ ucRefs := by
  intro b hb
  simp only [five, Finset.mem_insert, Finset.mem_singleton] at hb
  rcases hb with rfl | rfl | rfl | rfl | rfl <;> exact Finset.mem_filter.mpr ⟨StableHlo.devRef_mem_tcRefs _, by decide⟩

theorem held_five (d : Dev nD) (W : Valuation τ sig (Elt F)) :
    (StableHlo.held (T d : Thread nD τ) five W : sProp 𝕄)
      = whole5 d (W (dv main_v1)) (W (dv main_v3)) (W (dv main_arg2)) (W (dv main_v4_0)) (W (dv main_v4_1)) := by
  unfold StableHlo.held five whole5
  rw [SparseCore.bigSep_insert' (by decide), SparseCore.bigSep_insert' (by decide), SparseCore.bigSep_insert' (by decide), SparseCore.bigSep_insert' (by decide),
    bigSep_singleton]

theorem held_rest (d : Dev nD) :
    (StableHlo.held (T d : Thread nD τ) (ucRefs \ five) (VA m d) : sProp 𝕄) = StableHlo.held (T d) (ucRefs \ five) (VB m d) :=
  bigSep_congr fun b hb => by
    have hn := (Finset.mem_sdiff.mp hb).2
    have h0 : b ≠ dv main_v4_0 := fun e => hn (by rw [e]; decide)
    have h1 : b ≠ dv main_v4_1 := fun e => hn (by rw [e]; decide)
    rw [VB, Function.update_of_ne h1, Function.update_of_ne h0]

theorem VB_x (d : Dev nD) : VB m d (dv main_v1) = xIn m d := by
  rw [VB, Function.update_of_ne (by decide), Function.update_of_ne (by decide)]; rfl
theorem VB_t (d : Dev nD) : VB m d (dv main_v3) = tIn m d := by
  rw [VB, Function.update_of_ne (by decide), Function.update_of_ne (by decide)]; rfl
theorem VB_s (d : Dev nD) : VB m d (dv main_arg2) = sIn m d := by
  rw [VB, Function.update_of_ne (by decide), Function.update_of_ne (by decide)]; rfl
theorem VB_a (d : Dev nD) : VB m d (dv main_v4_0) = accOut (xIn m d) (tIn m d) (sIn m d) := by
  rw [VB, Function.update_of_ne (by decide), Function.update_self]
theorem VB_n (d : Dev nD) : VB m d (dv main_v4_1) = cntOut (xIn m d) (tIn m d) (sIn m d) := by
  rw [VB, Function.update_self]

/-! ## @main on the TensorCore -/

abbrev PP : (K (F := F)).Pay (nD := nD) (Val := Elt F) (Name := ℕ) (U := UU) := P (xIn m) (tIn m) (sIn m)

abbrev FIN (d : Dev nD) : sProp 𝕄 := StableHlo.held (T d : Thread nD τ) ucRefs (VE m d)

theorem owes_out (d : Dev nD) : ((K (F := F)).tcSt EH d 1 : sProp 𝕄)
    ⊢ iprop(owesTc (F := F) d ∗ (owesTc (F := F) d -∗ (K (F := F)).tcSt EH d 1)) := by
  unfold SparseCore.Cfg.tcSt owesTc
  rw [(K (F := F)).Otc_end d (le_refl 1)]
  iintro ⟨⟨%W, %hW, HO⟩, Hrest⟩
  isplitl [HO]
  · iexists W; isplitr; · ipureintro; exact hW
    iexact HO
  · iintro ⟨%W', %hW', HO⟩
    isplitl [HO]
    · iexists W'; isplitr; · ipureintro; exact hW'
      iexact HO
    iexact Hrest

/-- The buffers at the launch. -/
theorem held_launch (d : Dev nD) : (unscopedBufs d (fun b => m ((SparseCore.T d : Thread nD τ).loc b)) : sProp 𝕄)
    = StableHlo.held (T d : Thread nD τ) ucRefs (StableHlo.launchContents m d) := held_unscoped d (StableHlo.launchContents m d)

set_option backward.isDefEq.respectTransparency.types false in
theorem hmain (κ : GSem nD τ sig → ℕ) (d : Dev nD) :
    iprop((K (F := F)).ctx EH (PP m) κ ∗ (K (F := F)).tcSt EH d 0 ∗ (K (F := F)).tcRes m ρ d ∗ callGhost d)
      ⊢ wp frame (wpE ((K (F := F)).defs (D (F := F))) 𝒱 (T d) none) Set.univ (main d)
          fun _ => iprop((K (F := F)).tcSt EH d 1 ∗ FIN m d ∗ (K (F := F)).tcEnd d) := by
  rw [main_eq]
  unfold SparseCore.Cfg.tcRes SparseCore.Cfg.tcEnd
  rw [held_launch]
  iintro ⟨#Hctx, Hst, ⟨Hb, Hh, Hts, -⟩, Hg⟩
  iapply (StableHlo.wp_seq 𝒱 none Set.univ d ucRefs _ opsA opsA_in opsA_fresh (StableHlo.launchContents m d)) $$ [Hb Hh]
  · isplitl [Hb] <;> iassumption
  rw [show StableHlo.after opsA (StableHlo.launchContents m d) = VA m d from rfl]
  iintro ⟨Hb, Hh⟩
  ihave Hh' := (Entails.of_eq (StableHlo.held_sub_split (T d : Thread nD τ) five_sub (VA m d))) $$ Hh
  icases Hh' with ⟨H5, Hr⟩
  rw [wp_bind]
  iapply ((K (F := F)).wp_run (D (F := F)) 𝒱 (EH := EH) (P := PP m) κ d 0) $$ [Hst H5 Hb Hr Hts Hg]
  isplitr; · iexact Hctx
  isplitl [Hst]; · iexact Hst
  isplitl [H5]
  · iapply (give (xIn m) (tIn m) (sIn m) d (VA m d (dv main_v4_0)) (VA m d (dv main_v4_1)))
    iapply (Entails.of_eq (held_five d (VA m d))) $$ H5
  iintro ⟨Hst, Hdn⟩
  ihave H5 := (take (xIn m) (tIn m) (sIn m) d) $$ Hdn
  ihave Hh := (show iprop(whole5 d (xIn m d) (tIn m d) (sIn m d) (accOut (xIn m d) (tIn m d) (sIn m d)) (cntOut (xIn m d) (tIn m d) (sIn m d))
      ∗ StableHlo.held (T d : Thread nD τ) (ucRefs \ five) (VA m d)) ⊢ StableHlo.held (T d : Thread nD τ) ucRefs (VB m d) from
      Entails.of_eq (by rw [StableHlo.held_sub_split (T d : Thread nD τ) five_sub (VB m d), held_five, held_rest, VB_x, VB_t, VB_s, VB_a, VB_n])) $$ [H5 Hr]
  · isplitl [H5] <;> iassumption
  iapply (StableHlo.wp_seq 𝒱 none Set.univ d ucRefs _ opsB opsB_in opsB_fresh (VB m d)) $$ [Hb Hh]
  · isplitl [Hb] <;> iassumption
  rw [show StableHlo.after opsB (VB m d) = VC m d from rfl]
  rw [show ((0 : Fin 1) : ℕ) + 1 = 1 from rfl]
  iintro ⟨Hb, Hh⟩
  ihave Ho := (owes_out d) $$ Hst
  icases Ho with ⟨HO, Hback⟩
  rw [wp_bind]
  iapply (tc_call (atC m) d _) $$ [Hh Hb Hts Hg HO Hback]
  isplitl [Hts Hback]
  · iintro ⟨Hb, Hh, HO⟩
    ihave Hst := Hback $$ HO
    ihave Hh := (Entails.of_eq ((congrArg (unscopedBufs d) (after12_eq m d)).trans (held_unscoped d (VD m d)))) $$ Hh
    iapply (StableHlo.wp_seq 𝒱 none Set.univ d ucRefs _ opsC opsC_in opsC_fresh (VD m d)) $$ [Hb Hh]
    · isplitl [Hb] <;> iassumption
    rw [show StableHlo.after opsC (VD m d) = VE m d from rfl]
    iintro ⟨Hb, Hh⟩
    rw [wp_pure]; imodintro
    isplitl [Hst]; · iexact Hst
    isplitl [Hh]; · iexact Hh
    isplitl [Hb] <;> iassumption
  isplitl [Hb]; · iexact Hb
  isplitl [Hh HO]
  · isplitl [Hh]
    · iapply (Entails.of_eq (held_unscoped d (VC m d)).symm) $$ Hh
    · iexact HO
  isplitr [Hg]
  · iapply ((K (F := F)).ctx_levAts (EH := EH) (P := PP m) κ) $$ Hctx
  · iexact Hg

/-! ## The launch -/

/-- The ghost state of the launch: the SparseCore call's handshakes, and the TensorCore call's cells and tokens. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem no_ghost {I : Type} (s : Finset I) : (bigSep s fun _ => iprop(emp)) = (iprop(emp) : sProp 𝕄) := bigSep_emp_const s

theorem own_call (x : UP) (y : Counters) : (BI.own ((embR : Emb (UP × Counters) 𝕄) (x, y)) : sProp 𝕄) ⊢ BI.own (EP x) :=
  (own_pair_emb embR x y).trans sep_elim_left

theorem launch_ghost : (BI.own (EP (initOf (Pipeline.cells (Pipeline.pin (pcfgs (F := F)) adm) cellOf_inj) (Pipeline.launchToks (Pipeline.pin (pcfgs (F := F)) adm) cellOf_inj))) : sProp 𝕄)
    ⊢ |={Set.univ}=> bigSep Finset.univ fun d : Dev nD => callGhost (F := F) d := by
  refine (Pipeline.fund_ghost (Pipeline.pin (pcfgs (F := F)) adm) (EP (F := F)) cellOf_inj).trans ?_
  rw [← bigSep_sep']
  refine BIBase.Entails.trans ?_ bupd_fupd
  refine bupd_mono (bigSep_mono fun d _ => ?_)
  unfold callGhost
  rw [bigSep_univ_of_subsingleton (0 : Fin 1), bigSep_univ_of_subsingleton (0 : Fin 1)]
  exact BI.Entails.refl _

theorem hu₀ : (ownU (u₀ (F := F)) : sProp 𝕄)
    ⊢ |={Set.univ}=> iprop(BI.own (EH (initOf (K (F := F)).hsCells (K (F := F)).hsToks)) ∗ (bigSep Finset.univ fun d : Dev nD => callGhost (F := F) d)
        ∗ bigSep Finset.univ fun thr : Thread nD τ => bigSep Finset.univ fun q : Fin 1 => (PP m).x q thr) := by
  unfold u₀
  iintro Hu
  ihave H := (ownU_pair (initOf (K (F := F)).hsCells (K (F := F)).hsToks) _) $$ Hu
  icases H with ⟨HH, HG⟩
  ihave HG := (own_call _ _) $$ HG
  imod launch_ghost $$ HG with HG
  imodintro
  isplitl [HH]; · iexact HH
  isplitl [HG]; · iexact HG
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1), no_ghost]
  iempintro

/-! ## The run -/

/-- Every buffer that outlives the calls ends at its contents. -/
def fq (d : Dev nD) (s' : Phys nD τ sig (Elt F)) : Prop := ∀ b ∈ ucRefs, s'.mem.mem (d, b) = VE m d b

theorem hfin (d : Dev nD) (s' : Phys nD τ sig (Elt F)) : iprop(FIN m d ∗ SI s') ⊢ (⌜fq m d s'⌝ : sProp 𝕄) := by
  have h : ∀ b ∈ ucRefs, iprop(FIN m d ∗ SI s') ⊢ (⌜s'.mem.mem (d, b) = VE m d b⌝ : sProp 𝕄) := by
    intro b hb
    have he : (FIN m d : sProp 𝕄) ⊢ ((d, b) : Loc nD τ sig) ↦{fullShare} VE m d b := bigSep_elim (Φ := fun b => ((d, b) : Loc nD τ sig) ↦{fullShare} VE m d b) hb
    refine (sep_mono he .rfl).trans ?_
    iintro ⟨H, HSI⟩
    ihave H := (SI_pointsTo_agree (st := s') (ℓ := ((d, b) : Loc nD τ sig)) (I := Finset.univ) (q := fullShare) (f := VE m d b)) $$ [HSI H]
    · isplitl [HSI] <;> iassumption
    icases H with %h2
    ipureintro; exact funext fun i => h2 i (Finset.mem_univ i)
  have h2 : iprop(FIN m d ∗ SI s') ⊢ (⌜∀ b : {b // b ∈ ucRefs}, s'.mem.mem (d, b.1) = VE m d b.1⌝ : sProp 𝕄) :=
    BIBase.Entails.trans (forall_intro fun b : {b // b ∈ ucRefs} => h b.1 b.2) pure_forall.2
  exact h2.trans (Laws.pure_mono fun H b hb => H ⟨b, hb⟩)

def QC : PUnit × MemSt nD τ sig (Elt F) → Prop := fun r =>
  (∀ d : Dev nD, ∀ b ∈ ucRefs, r.2.mem (d, b) = VE m d b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (xIn m) (tIn m) (sIn m))
    (fun q _ => match q with | 0 => SparseCore.Cfg.VecSplit.of_plain (vecSplit (xIn m) (tIn m) (sIn m)))
    m ρ main (fun d => callGhost (F := F) d) (FIN m) (u₀ (F := F)) (sep_elim_left.trans (hu₀ m)) (hmain m ρ) (fq m) (hfin m) (QC m) (fun _ h hz => ⟨h, hz⟩)

end Cert.Proof.Loss
-- ==== Proof.Frame.lean ====
/-
  The frames: the run, with the arguments unchanged, of the kernel as printed and of its idealization, and of the reference.
-/
module

public import proofs.«01_k».proof.Proof.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Unchanged
variable [FloatOps F]
variable (m : (ℓ : Loc nD τ sig) → Buf (Elt F) ℓ) (ρ : Dev nD → PrngReg)

/-- A buffer no operation and no call writes ends as launched. -/
theorem kept (d : Dev nD) (b : Ref sig .tc) (hA : b ∉ opsAW) (hB : b ∉ opsBW) (hC : b ∉ opsCW) (h0 : b ≠ main_v4_0) (h1 : b ≠ main_v4_1) (h12 : b ≠ main_v12) :
    VE m d (dv b) = m (d, dv b) := by
  have e1 : VE m d (dv b) = VD m d (dv b) := StableHlo.after_of_writes_sub opsC (VD m d) opsC_writes hC
  have e2 : VD m d (dv b) = VC m d (dv b) := Function.update_of_ne (StableHlo.devRef_ne_of_ne h12) _ _
  have e3 : VC m d (dv b) = VB m d (dv b) := StableHlo.after_of_writes_sub opsB (VB m d) opsB_writes hB
  have e4 : VB m d (dv b) = VA m d (dv b) := (Function.update_of_ne (StableHlo.devRef_ne_of_ne h1) _ _).trans (Function.update_of_ne (StableHlo.devRef_ne_of_ne h0) _ _)
  have e5 : VA m d (dv b) = m (d, dv b) := StableHlo.after_of_writes_sub opsA (StableHlo.launchContents m d) opsA_writes hA
  rw [e1, e2, e3, e4, e5]

theorem ref_mem (b : Ref sig .tc) (h : ¬ b.isScoped) : dv b ∈ ucRefs := Finset.mem_filter.mpr ⟨StableHlo.devRef_mem_tcRefs _, h⟩

/-- The result and the arguments at the end of a run. -/
def Ends (r : PUnit × MemSt nD τ sig (Elt F)) : Prop :=
  (∀ c : Dev nD, r.2.mem ((T c : Thread nD τ).loc main_v22) = VE m c (dv main_v22)
    ∧ r.2.mem ((T c : Thread nD τ).loc main_arg0) = m ((T c : Thread nD τ).loc main_arg0)
    ∧ r.2.mem ((T c : Thread nD τ).loc main_arg1) = m ((T c : Thread nD τ).loc main_arg1)
    ∧ r.2.mem ((T c : Thread nD τ).loc main_arg2) = m ((T c : Thread nD τ).loc main_arg2)) ∧ r.2.sem = fun _ => 0

theorem run_ends [∀ e, Nonempty (Elt F e)] :
    θ_run (Cert.KernelIdeal.defs (F := F)) (Cert.KernelIdeal.threads (F := F)) ⟨m, fun _ => 0, ρ⟩ (Ends m) :=
  (θ_run (Cert.KernelIdeal.defs (F := F)) _ _).mono (fun _ h => ⟨fun c => ⟨h.1 c (dv main_v22) (ref_mem _ (by decide)),
    (h.1 c (dv main_arg0) (ref_mem _ (by decide))).trans (kept m c main_arg0 (by decide) (by decide) (by decide) (by decide) (by decide) (by decide)),
    (h.1 c (dv main_arg1) (ref_mem _ (by decide))).trans (kept m c main_arg1 (by decide) (by decide) (by decide) (by decide) (by decide) (by decide)),
    (h.1 c (dv main_arg2) (ref_mem _ (by decide))).trans (kept m c main_arg2 (by decide) (by decide) (by decide) (by decide) (by decide) (by decide))⟩, h.2⟩)
    (run_main m ρ)

end Unchanged

/-- The two programs' body tables agree: their bodies are the same text. -/
theorem body_eq : @Cert.Kernel.defs₀ Bits _ _ = @defs₀ Bits _ _ := by
  funext p l a
  cases p with
  | tc =>
    rcases l with ⟨_ | _ | n, h⟩
    · rfl
    · rfl
    · exact absurd h (by omega)
  | scScalar c =>
    rcases l with ⟨_ | _ | n, h⟩
    · rfl
    · rfl
    · exact absurd h (by omega)
  | scVector c s =>
    rcases l with ⟨_ | _ | n, h⟩
    · rfl
    · rfl
    · exact absurd h (by omega)

theorem defs_eq : @Cert.Kernel.defs Bits _ _ = @defs Bits _ _ :=
  congrArg (fun D => (sc (F := Bits)).defs (Pipeline.defs (pcfgs (F := Bits)) D)) body_eq

theorem frame_kernel : Cert.quiescent_Kernel := by
  intro m ρ _
  rw [defs_eq]
  exact (θ_run (Cert.KernelIdeal.defs (F := Bits)) (Cert.KernelIdeal.threads (F := Bits)) ⟨m, fun _ => 0, ρ⟩).mono
    (fun _ h => ⟨fun c => (h.1 c).2, h.2⟩) (run_ends (F := Bits) m ρ)

theorem frame_ideal : Cert.quiescent_KernelIdeal := fun m ρ _ =>
  (θ_run Cert.KernelIdeal.defs _ _).mono (fun _ h => ⟨fun c => (h.1 c).2, h.2⟩) (run_ends (F := Ideal) m ρ)

/-- The reference declares no semaphore. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

end Cert.Proof.Loss
-- ==== Proof.HostVal.lean ====
/-
  The values along the host program, over the extended reals: the arrays the two calls are given, row by row, and the result.
-/
module

public import proofs.«01_k».proof.Proof.Run
public import Idealize.ShloMosaic.Lib.Pointwise.Index
public import Idealize.ShloMosaic.Lib.IdealHost

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Values
variable (m : (ℓ : Loc nD τ sig) → Buf (Elt Ideal) ℓ) (d : Dev nD)

abbrev A0 : S4000000x4.Idx → EReal := m (d, dv main_arg0)
abbrev A1 : S4000000x4.Idx → EReal := m (d, dv main_arg1)
abbrev A2 : S4000000.Idx → BitVec 32 := m (d, dv main_arg2)

/-! ## The arrays, whole -/

def tileMajor (A : S4000000x4.Idx → EReal) : S31250x4x128.Idx → EReal :=
  transpose S31250x4x128 [0, 2, 1] (shapeCast S31250x128x4 A shapeCasts_S4000000x4_S31250x128x4) transposes_S31250x128x4_S31250x4x128_0_2_1
def pairMajor (A : S4000000x4.Idx → EReal) : S15625x8x128.Idx → EReal :=
  shapeCast S15625x8x128 (transpose S15625x2x4x128 [0, 1, 3, 2] (shapeCast S15625x2x128x4 A shapeCasts_S4000000x4_S15625x2x128x4)
    transposes_S15625x2x128x4_S15625x2x4x128_0_1_3_2) shapeCasts_S15625x2x4x128_S15625x8x128
def pairScores (S : S4000000.Idx → BitVec 32) : S15625x2x128.Idx → BitVec 32 := shapeCast S15625x2x128 S shapeCasts_S4000000_S15625x2x128

theorem xIn_eq : xIn m d = tileMajor (A0 m d) := by
  show StableHlo.after opsA (StableHlo.launchContents m d) (dv main_v1) = _
  simp only [opsA]
  after_results_simp
  rfl
theorem tIn_eq : tIn m d = tileMajor (A1 m d) := by
  show StableHlo.after opsA (StableHlo.launchContents m d) (dv main_v3) = _
  simp only [opsA]
  after_results_simp
  rfl
theorem sIn_eq : sIn m d = A2 m d :=
  StableHlo.after_of_writes_sub (r := main_arg2) opsA (StableHlo.launchContents m d) opsA_writes (by decide)

theorem VB_arg (b : Ref sig .tc) (hA : b ∉ opsAW) (h0 : b ≠ main_v4_0) (h1 : b ≠ main_v4_1) : VB m d (dv b) = m (d, dv b) :=
  ((Function.update_of_ne (StableHlo.devRef_ne_of_ne h1) _ _).trans (Function.update_of_ne (StableHlo.devRef_ne_of_ne h0) _ _)).trans
    (StableHlo.after_of_writes_sub opsA (StableHlo.launchContents m d) opsA_writes hA)

theorem VC_x : VC m d (dv main_v7) = pairMajor (A0 m d) := by
  unfold A0
  rw [← VB_arg m d main_arg0 (by decide) (by decide) (by decide)]
  show StableHlo.after opsB (VB m d) (dv main_v7) = _
  generalize VB m d = W
  simp only [opsB]
  after_results_simp
  rfl
theorem VC_y : VC m d (dv main_v10) = pairMajor (A1 m d) := by
  unfold A1
  rw [← VB_arg m d main_arg1 (by decide) (by decide) (by decide)]
  show StableHlo.after opsB (VB m d) (dv main_v10) = _
  generalize VB m d = W
  simp only [opsB]
  after_results_simp
  rfl
theorem VC_s : VC m d (dv main_v11) = pairScores (A2 m d) := by
  unfold A2
  rw [← VB_arg m d main_arg2 (by decide) (by decide) (by decide)]
  show StableHlo.after opsB (VB m d) (dv main_v11) = _
  generalize VB m d = W
  simp only [opsB]
  after_results_simp
  rfl

/-- The result's numerator and count, of the three partial results. -/
def kerSum (o : Fin 2) (P : S1x2.Idx → EReal) (Q : S32x16.Idx → EReal) (hs : S1x2.Slices ![0, o.val] S1x1) : FVec Ideal S_ .f32 :=
  addf (shapeCast S_ (extractStridedSlice S1x1 ![0, o.val] P hs) shapeCasts_S1x1_S_) (Host.reduceAdd (F := Ideal) (φ := .f32) Q (constant S_ .f32 0x00000000#32) reducesTo_S32x16_S_d0_1 h_S_)

theorem VE_res (W : Valuation τ sig (Elt Ideal)) : StableHlo.after opsC W (dv main_v22)
    = Host.divf (F := Ideal) (φ := .f32) (kerSum 0 (W (dv main_v12)) (W (dv main_v4_0)) slices_S1x2_S1x1_0_0)
      (mulf (constant S_ .f32 0x40800000#32) (kerSum 1 (W (dv main_v12)) (W (dv main_v4_1)) slices_S1x2_S1x1_0_1)) := by
  simp only [opsC]
  after_results_simp
  rfl

theorem VD_p : VD m d (dv main_v12) = tcOut (F := Ideal) (VC m d (dv main_v7)) (VC m d (dv main_v10)) (VC m d (dv main_v11)) :=
  Function.update_self (dv main_v12) _ (VC m d)
theorem VD_a : VD m d (dv main_v4_0) = accOut (xIn m d) (tIn m d) (sIn m d) :=
  (Function.update_of_ne (StableHlo.devRef_ne_of_ne (by decide)) _ _).trans
    ((StableHlo.after_of_writes_sub (r := main_v4_0) opsB (VB m d) opsB_writes (by decide)).trans (VB_a m d))
theorem VD_n : VD m d (dv main_v4_1) = cntOut (xIn m d) (tIn m d) (sIn m d) :=
  (Function.update_of_ne (StableHlo.devRef_ne_of_ne (by decide)) _ _).trans
    ((StableHlo.after_of_writes_sub (r := main_v4_1) opsB (VB m d) opsB_writes (by decide)).trans (VB_n m d))

theorem kerSum_at (o : Fin 2) (P : S1x2.Idx → EReal) (Q : S32x16.Idx → EReal) (hs : S1x2.Slices ![0, o.val] S1x1) (j : S_.Idx) :
    kerSum o P Q hs j = P (Idealize.ShloMosaic.ix2 (n0 := 1) (n1 := 2) 0 o) + ∑ w : Fin 32, ∑ l : Fin 16, Q (Idealize.ShloMosaic.ix2 w l) := by
  show shapeCast S_ (extractStridedSlice S1x1 ![0, o.val] P hs) shapeCasts_S1x1_S_ j
    + Ideal.hostReduceAdd reducesTo_S32x16_S_d0_1 Q (Ideal.ofBits .f32 0x00000000#32) j = _
  rw [Ideal.hostReduceAdd_total _ (fun b => b.elim0), Ideal.ofBits_zero_f32, zero_add, Idealize.ShloMosaic.sum_idx2 (n0 := 32) (n1 := 16) Q]
  refine congrArg (· + _) ?_
  unfold shapeCast extractStridedSlice
  generalize Shape.reshapeEquiv shapeCasts_S1x1_S_ j = k
  refine congrArg P (funext fun a => ?_)
  match a with
  | ⟨0, _⟩ =>
    refine Fin.ext ?_
    have hk : (k 0).val < 1 := (k 0).isLt
    show 0 + (k 0).val = 0
    omega
  | ⟨1, _⟩ =>
    refine Fin.ext ?_
    have hk : (k 1).val < 1 := (k 1).isLt
    show o.val + (k 1).val = o.val
    omega

/-! ## The arrays, row by row -/

theorem tile_at (A : S4000000x4.Idx → EReal) (p : Fin 31250) (c : Fin 4) (l : Fin 128) (q : Fin 4000000) (hq : q.val = 128 * p.val + l.val) :
    tileMajor A (Idealize.ShloMosaic.ix3 p c l) = A (Idealize.ShloMosaic.ix2 q c) := by
  unfold tileMajor
  refine (transpose_apply _ _ _ _ (Idealize.ShloMosaic.ix3 (n0 := 31250) (n1 := 128) (n2 := 4) p l c) fun b => ?_).trans ?_
  · match b with
    | ⟨0, _⟩ => rfl
    | ⟨1, _⟩ => rfl
    | ⟨2, _⟩ => rfl
  refine shapeCast_apply _ _ _ _ ?_
  rw [Shape.rowMajor_val_two, Shape.rowMajor_val_three]
  show q.val * 4 + c.val = (p.val * 128 + l.val) * 4 + c.val
  omega

theorem pair_at (A : S4000000x4.Idx → EReal) (p : Fin 15625) (h : Fin 2) (c : Fin 4) (s : Fin 8) (l : Fin 128) (q : Fin 4000000)
    (hs : s.val = 4 * h.val + c.val) (hq : q.val = 256 * p.val + 128 * h.val + l.val) :
    pairMajor A (Idealize.ShloMosaic.ix3 p s l) = A (Idealize.ShloMosaic.ix2 q c) := by
  unfold pairMajor
  refine (shapeCast_apply _ _ _ (Idealize.ShloMosaic.ix4 (n0 := 15625) (n1 := 2) (n2 := 4) (n3 := 128) p h c l) ?_).trans ?_
  · rw [Shape.rowMajor_val_three, Shape.rowMajor_val_four]
    show ((p.val * 2 + h.val) * 4 + c.val) * 128 + l.val = (p.val * 8 + s.val) * 128 + l.val
    omega
  refine (transpose_apply _ _ _ _ (Idealize.ShloMosaic.ix4 (n0 := 15625) (n1 := 2) (n2 := 128) (n3 := 4) p h l c) fun b => ?_).trans ?_
  · match b with
    | ⟨0, _⟩ => rfl
    | ⟨1, _⟩ => rfl
    | ⟨2, _⟩ => rfl
    | ⟨3, _⟩ => rfl
  refine shapeCast_apply _ _ _ _ ?_
  rw [Shape.rowMajor_val_two, Shape.rowMajor_val_four]
  show q.val * 4 + c.val = ((p.val * 2 + h.val) * 128 + l.val) * 4 + c.val
  omega

theorem pairS_at (S : S4000000.Idx → BitVec 32) (p : Fin 15625) (h : Fin 2) (l : Fin 128) (q : Fin 4000000) (hq : q.val = 256 * p.val + 128 * h.val + l.val) :
    pairScores S (Idealize.ShloMosaic.ix3 p h l) = S (Idealize.ShloMosaic.ix1 q) := by
  refine shapeCast_apply _ _ _ _ ?_
  rw [Shape.rowMajor_val_one, Shape.rowMajor_val_three]
  show q.val = (p.val * 2 + h.val) * 128 + l.val
  omega

end Values

end Cert.Proof.Loss
-- ==== Proof.Sums.lean ====
/-
  Sums over rows, by tiles and chunks: the order in which the kernel adds does not matter.
-/
module

public import Idealize.ShloMosaic.PureOps.Ideal
public import Idealize.ShloMosaic.Lib.IdealHost

@[expose] public section

noncomputable section

namespace Cert.Proof.Loss

section Sums
variable {M : Type} [AddCommMonoid M]

/-- `a` runs of `b` consecutive terms. -/
theorem sum_runs (f : ℕ → M) (b : ℕ) : ∀ a : ℕ, ∑ i ∈ Finset.range (b * a), f i = ∑ j ∈ Finset.range a, ∑ l ∈ Finset.range b, f (b * j + l)
  | 0 => by rw [Nat.mul_zero, Finset.range_zero, Finset.sum_empty, Finset.sum_empty]
  | a + 1 => by rw [Nat.mul_succ, Finset.sum_range_add, sum_runs f b a, Finset.sum_range_succ]

/-- Chunks of worker `w`, and the first of them. -/
def nChunks (w : ℕ) : ℕ := if w = 0 then 14 else 13
def chunk0 (w : ℕ) : ℕ := 13 * w + min w 1

theorem chunk0_succ (w : ℕ) : chunk0 (w + 1) = chunk0 w + nChunks w := by
  unfold chunk0 nChunks; split <;> omega

theorem sum_fourteen (g : ℕ → M) (w : ℕ) : ∑ n ∈ Finset.range 14, (if n < nChunks w then g n else 0) = ∑ n ∈ Finset.range (nChunks w), g n := by
  have h : nChunks w ≤ 14 := by unfold nChunks; split <;> omega
  rw [← Finset.sum_filter]
  congr 1
  ext n
  rw [Finset.mem_filter, Finset.mem_range, Finset.mem_range]
  omega

/-- The workers' chunks are the chunks. -/
theorem sum_workers (g : ℕ → M) : ∀ W : ℕ, ∑ w ∈ Finset.range W, ∑ n ∈ Finset.range 14, (if n < nChunks w then g (chunk0 w + n) else 0) = ∑ c ∈ Finset.range (chunk0 W), g c
  | 0 => rfl
  | W + 1 => by
    rw [Finset.sum_range_succ, sum_workers g W, chunk0_succ, Finset.sum_range_add, sum_fourteen (fun n => g (chunk0 W + n))]

/-- The rows of a chunk, lane by lane. -/
theorem sum_chunk (f : ℕ → M) (p : ℕ) :
    ∑ l ∈ Finset.range 16, ∑ j ∈ Finset.range 50, ∑ g ∈ Finset.range 8, f (128 * (p + j) + (16 * g + l)) = ∑ i ∈ Finset.range (128 * 50), f (128 * p + i) := by
  rw [sum_runs (fun i => f (128 * p + i)) 128 50, Finset.sum_comm]
  refine Finset.sum_congr rfl fun j _ => ?_
  rw [Finset.sum_comm, show (128 : ℕ) = 16 * 8 from rfl, sum_runs (fun i => f (16 * 8 * p + (16 * 8 * j + i))) 16 8]
  refine Finset.sum_congr rfl fun g _ => Finset.sum_congr rfl fun l _ => ?_
  congr 1
  omega

/-- What the SparseCore's lanes add up to: the rows from row 1331200 on. -/
theorem sum_lanes (f : ℕ → M) :
    ∑ w ∈ Finset.range 32, ∑ l ∈ Finset.range 16, ∑ n ∈ Finset.range 14,
        (if n < nChunks w then ∑ j ∈ Finset.range 50, ∑ g ∈ Finset.range 8, f (128 * (10400 + 50 * (chunk0 w + n) + j) + (16 * g + l)) else 0)
      = ∑ i ∈ Finset.range 2668800, f (1331200 + i) := by
  have h1 : ∀ w, ∑ l ∈ Finset.range 16, ∑ n ∈ Finset.range 14,
        (if n < nChunks w then ∑ j ∈ Finset.range 50, ∑ g ∈ Finset.range 8, f (128 * (10400 + 50 * (chunk0 w + n) + j) + (16 * g + l)) else 0)
      = ∑ n ∈ Finset.range 14, (if n < nChunks w then (fun c => ∑ i ∈ Finset.range 6400, f (1331200 + (6400 * c + i))) (chunk0 w + n) else 0) := by
    intro w
    rw [Finset.sum_comm]
    refine Finset.sum_congr rfl fun n _ => ?_
    by_cases h : n < nChunks w
    · simp only [if_pos h]
      rw [sum_chunk f (10400 + 50 * (chunk0 w + n))]
      refine Finset.sum_congr rfl fun i _ => ?_
      congr 1
      omega
    · simp only [if_neg h, Finset.sum_const_zero]
  rw [Finset.sum_congr rfl fun w _ => h1 w, sum_workers (fun c => ∑ i ∈ Finset.range 6400, f (1331200 + (6400 * c + i))) 32,
    show chunk0 32 = 417 from rfl, ← sum_runs (fun i => f (1331200 + i)) 6400 417]

/-- What the TensorCore's blocks add up to: the rows before row 1331200. -/
theorem sum_blocks (f : ℕ → M) :
    ∑ t ∈ Finset.range 11, ∑ i ∈ Finset.range 512, ∑ l ∈ Finset.range 128,
        (if 512 * t + i < 5200 then f (256 * (512 * t + i) + l) + f (256 * (512 * t + i) + (128 + l)) else 0)
      = ∑ i ∈ Finset.range 1331200, f i := by
  have h1 : ∀ R, ∑ l ∈ Finset.range 128, (if R < 5200 then f (256 * R + l) + f (256 * R + (128 + l)) else 0)
      = if R < 5200 then ∑ i ∈ Finset.range 256, f (256 * R + i) else 0 := by
    intro R
    by_cases h : R < 5200
    · simp only [if_pos h]
      rw [Finset.sum_add_distrib, show (256 : ℕ) = 128 + 128 from rfl, Finset.sum_range_add]
    · simp only [if_neg h, Finset.sum_const_zero]
  rw [Finset.sum_congr rfl fun t _ => Finset.sum_congr rfl fun i _ => h1 (512 * t + i),
    ← sum_runs (fun R => if R < 5200 then ∑ i ∈ Finset.range 256, f (256 * R + i) else 0) 512 11,
    show 512 * 11 = 5200 + 432 from rfl, Finset.sum_range_add,
    Finset.sum_congr rfl fun R hR => if_pos (Finset.mem_range.1 hR),
    Finset.sum_eq_zero fun R _ => if_neg (by omega : ¬ 5200 + R < 5200), add_zero,
    ← sum_runs f 256 5200]

/-- The two parts together. -/
theorem sum_parts (f : ℕ → M) : ∑ i ∈ Finset.range 1331200, f i + ∑ i ∈ Finset.range 2668800, f (1331200 + i) = ∑ i ∈ Finset.range 4000000, f i :=
  (Finset.sum_range_add f 1331200 2668800).symm

end Sums

/-! ## One element, one row -/

/-- The word of one half. -/
abbrev half : EReal := Idealize.ShloMosaic.Ideal.ofBits .f32 0x3F000000#32
theorem half_eq : half = ((1 / 2 : ℝ) : EReal) := by
  simp [half, Idealize.ShloMosaic.Ideal.ofBits, Idealize.ShloMosaic.Ideal.ieee]
  rw [← EReal.coe_mul]
  norm_num

/-- The loss of one element, of its difference, as the kernel computes it. -/
def peE (d : EReal) : EReal := min (max d (-d)) 1 * (max d (-d) - half * min (max d (-d)) 1)

/-- It is the two-branched loss. -/
theorem peE_eq (d : EReal) : peE d = if max d (-d) < 1 then half * d * d else max d (-d) - half := by
  unfold peE
  rw [half_eq]
  induction d with
  | bot => simp
  | top => simp
  | coe r =>
    have ha : max (r : EReal) (-(r : EReal)) = ((|r| : ℝ) : EReal) := by
      rw [← EReal.coe_neg, abs_eq_max_neg]; exact (EReal.coe_strictMono.monotone.map_max).symm
    rw [ha]
    by_cases h : |r| < 1
    · have h' : ((|r| : ℝ) : EReal) < 1 := by exact_mod_cast h
      rw [if_pos h', min_eq_left h'.le]
      norm_cast
      have := abs_mul_abs_self r
      push_cast
      nlinarith
    · have h' : ¬ ((|r| : ℝ) : EReal) < 1 := by exact_mod_cast h
      rw [if_neg h', min_eq_right (not_lt.1 h'), one_mul, mul_one]

/-- The loss of one row, and whether it counts. -/
def rowE (x t : Fin 4 → EReal) (s : BitVec 32) : EReal :=
  if s = 1#32 then peE (x 0 - t 0) + peE (x 1 - t 1) + peE (x 2 - t 2) + peE (x 3 - t 3) else 0
def rowC (s : BitVec 32) : EReal := if s = 1#32 then 1 else 0

end Cert.Proof.Loss
-- ==== Proof.ScSum.lean ====
/-
  What the SparseCore leaves, over the extended reals: the sums of the losses and the count of the rows it takes.
-/
module

public import proofs.«01_k».proof.Proof.Loop
public import proofs.«01_k».proof.Proof.Sums

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Rows of the arrays the call is given -/

def xRow (X : XArr Ideal) (r : ℕ) (c : Fin 4) : EReal := X (ix3 ⟨r / 128 % 31250, Nat.mod_lt _ (by decide)⟩ c ⟨r % 128, Nat.mod_lt _ (by decide)⟩)
def sRow (S : SArr) (r : ℕ) : BitVec 32 := S (ix1 ⟨r % 4000000, Nat.mod_lt _ (by decide)⟩)
def eRow (X T : XArr Ideal) (S : SArr) (r : ℕ) : EReal := rowE (xRow X r) (xRow T r) (sRow S r)
def cRow (S : SArr) (r : ℕ) : EReal := rowC (sRow S r)

theorem sel_eq {α : Type} (s : BitVec 32) (a b : α) : Scalar.select (IntOp.cmpi .eq s 1#32) a b = if s = 1#32 then a else b :=
  sel_if (s = 1#32) a b _ (by
    show BitVec.ofBool (s == 1#32) = _
    by_cases h : s = 1#32
    · subst h; rfl
    · rw [if_neg h, beq_eq_false_iff_ne.2 h]; rfl)

/-! ## One step -/

theorem pe_at (x t : FVec Ideal S16 .f32) (l : S16.Idx) : peV x t l = peE (x l - t l) := by
  show min (max (x l - t l) (-(x l - t l))) (Ideal.ofBits .f32 0x3F800000#32) * (max (x l - t l) (-(x l - t l)) - half * min (max (x l - t l) (-(x l - t l))) (Ideal.ofBits .f32 0x3F800000#32)) = _
  rw [Ideal.ofBits_one_f32]; rfl

theorem grp_at (s : IVec S16 32) (x t : Fin 4 → FVec Ideal S16 .f32) (a : FVec Ideal S16 .f32) (l : S16.Idx) :
    grpV s x t a l = a l + rowE (fun c => x c l) (fun c => t c l) (s l) := by
  show a l + Scalar.select (IntOp.cmpi .eq (s l) 1#32) (peV (x 0) (t 0) l + peV (x 1) (t 1) l + peV (x 2) (t 2) l + peV (x 3) (t 3) l) (Ideal.ofBits .f32 0x00000000#32) = _
  rw [sel_eq, pe_at, pe_at, pe_at, pe_at, Ideal.ofBits_zero_f32]; rfl

theorem cnt_at (s : IVec S16 32) (a : FVec Ideal S16 .f32) (l : S16.Idx) : cntG s a l = a l + rowC (s l) := by
  show a l + Scalar.select (IntOp.cmpi .eq (s l) 1#32) (Ideal.ofBits .f32 0x3F800000#32) (Ideal.ofBits .f32 0x00000000#32) = _
  rw [sel_eq, Ideal.ofBits_one_f32, Ideal.ofBits_zero_f32]; rfl

/-- Eight steps, each adding its own term, add the eight terms. -/
theorem sweep_at (f : Fin 8 → FVec Ideal S16 .f32 → FVec Ideal S16 .f32) (e : ℕ → EReal) (l : S16.Idx) (h : ∀ g a, f g a l = a l + e g.val) (a : FVec Ideal S16 .f32) :
    sweep f a l = a l + ∑ g ∈ Finset.range 8, e g := by
  unfold sweep
  rw [h, h, h, h, h, h, h, h]
  simp only [Finset.sum_range_succ, Finset.sum_range_zero, zero_add, add_assoc]
  rfl

section Parts
variable (X T : XArr Ideal) (S : SArr)

theorem row_x (A : XArr Ideal) (b : Fin 2) (p : ℕ) (k : Fin 50) (c : Fin 4) (g : Fin 8) (l : S16.Idx) :
    chX A p (ix4 b k c (lane g l)) = xRow A (128 * (p + k.val) + (16 * g.val + (l 0).val)) c := by
  have hl : (l 0).val < 16 := (l 0).isLt
  have hg := g.isLt
  show A (ix3 ⟨(p + k.val) % 31250, _⟩ c ⟨16 * g.val + (l 0).val, _⟩) = A (ix3 ⟨_ / 128 % 31250, _⟩ c ⟨_ % 128, _⟩)
  congr 2
  · exact Fin.ext (show (p + k.val) % 31250 = (128 * (p + k.val) + (16 * g.val + (l 0).val)) / 128 % 31250 by
      generalize (l 0).val = u at hl ⊢; congr 1; omega)
  · exact Fin.ext (show 16 * g.val + (l 0).val = (128 * (p + k.val) + (16 * g.val + (l 0).val)) % 128 by
      generalize (l 0).val = u at hl ⊢; omega)

theorem row_s (b : Fin 2) (p : ℕ) (k : Fin 50) (g : Fin 8) (l : S16.Idx) :
    chS S p (ix2 b (srow k (lane g l))) = sRow S (128 * (p + k.val) + (16 * g.val + (l 0).val)) := by
  show S (ix1 ⟨(128 * p + (128 * k.val + (16 * g.val + (l 0).val))) % 4000000, _⟩) = S (ix1 ⟨_ % 4000000, _⟩)
  congr 2
  exact Fin.ext (by show _ % 4000000 = _ % 4000000; congr 1; omega)

theorem trip_at (b : Fin 2) (p : ℕ) (k : Fin 50) (a : FVec Ideal S16 .f32 × FVec Ideal S16 .f32) (l : S16.Idx) :
    (trip b k (chX X p) (chX T p) (chS S p) a).1 l = a.1 l + ∑ g ∈ Finset.range 8, eRow X T S (128 * (p + k.val) + (16 * g + (l 0).val))
    ∧ (trip b k (chX X p) (chX T p) (chS S p) a).2 l = a.2 l + ∑ g ∈ Finset.range 8, cRow S (128 * (p + k.val) + (16 * g + (l 0).val)) := by
  constructor
  · show sweep (fun g => grpV (fun l => chS S p (ix2 b (srow k (lane g l)))) (fun c l => chX X p (ix4 b k c (lane g l))) (fun c l => chX T p (ix4 b k c (lane g l)))) a.1 l = _
    refine sweep_at _ (fun g => eRow X T S (128 * (p + k.val) + (16 * g + (l 0).val))) l (fun g a => ?_) a.1
    rw [grp_at]
    simp only [row_x, row_s]
    rfl
  · show sweep (fun g => cntG (fun l => chS S p (ix2 b (srow k (lane g l))))) a.2 l = _
    refine sweep_at _ (fun g => cRow S (128 * (p + k.val) + (16 * g + (l 0).val))) l (fun g a => ?_) a.2
    rw [cnt_at]
    simp only [row_s]
    rfl

theorem zV_at (l : S16.Idx) : zV (F := Ideal) l = 0 := Ideal.ofBits_zero_f32

theorem chunk_at (b : Fin 2) (p : ℕ) (l : S16.Idx) : ∀ k : ℕ, k ≤ 50 →
    (chunkV b (chX X p) (chX T p) (chS S p) k).1 l = ∑ j ∈ Finset.range k, ∑ g ∈ Finset.range 8, eRow X T S (128 * (p + j) + (16 * g + (l 0).val))
    ∧ (chunkV b (chX X p) (chX T p) (chS S p) k).2 l = ∑ j ∈ Finset.range k, ∑ g ∈ Finset.range 8, cRow S (128 * (p + j) + (16 * g + (l 0).val))
  | 0, _ => ⟨zV_at l, zV_at l⟩
  | k + 1, hk => by
    have ih := chunk_at b p l k (by omega)
    have ht := trip_at X T S b p ⟨k, by omega⟩ (chunkV b (chX X p) (chX T p) (chS S p) k) l
    rw [chunkV, dif_pos (by omega : k < 50), Finset.sum_range_succ (fun j => ∑ g ∈ Finset.range 8, eRow X T S (128 * (p + j) + (16 * g + (l 0).val))) k,
      Finset.sum_range_succ (fun j => ∑ g ∈ Finset.range 8, cRow S (128 * (p + j) + (16 * g + (l 0).val))) k, ← ih.1, ← ih.2]
    exact ht

/-- A lane's terms over a chunk from tile `p` on. -/
def laneE (l : ℕ) (p : ℕ) : EReal := ∑ j ∈ Finset.range 50, ∑ g ∈ Finset.range 8, eRow X T S (128 * (p + j) + (16 * g + l))
def laneC (l : ℕ) (p : ℕ) : EReal := ∑ j ∈ Finset.range 50, ∑ g ∈ Finset.range 8, cRow S (128 * (p + j) + (16 * g + l))

theorem part_at (b : Fin 2) (p : ℕ) (l : S16.Idx) :
    (partV b X T S p).1 l = laneE X T S (l 0).val p ∧ (partV b X T S p).2 l = laneC S (l 0).val p :=
  chunk_at X T S b p l 50 le_rfl

theorem acc_at (w : ℕ) (l : S16.Idx) : ∀ k : ℕ,
    (accV X T S w k).1 l = ∑ n ∈ Finset.range (2 * k), (if n < cnt w then laneE X T S (l 0).val (base w n) else 0)
    ∧ (accV X T S w k).2 l = ∑ n ∈ Finset.range (2 * k), (if n < cnt w then laneC S (l 0).val (base w n) else 0)
  | 0 => ⟨zV_at l, zV_at l⟩
  | k + 1 => by
    have ih := acc_at w l k
    have e1 : ∀ (b : Fin 2) n, (if n < cnt w then (partV b X T S (base w n)).1 else zV) l = if n < cnt w then laneE X T S (l 0).val (base w n) else 0 := by
      intro b n; split
      · exact (part_at X T S b _ l).1
      · exact zV_at l
    have e2 : ∀ (b : Fin 2) n, (if n < cnt w then (partV b X T S (base w n)).2 else zV) l = if n < cnt w then laneC S (l 0).val (base w n) else 0 := by
      intro b n; split
      · exact (part_at X T S b _ l).2
      · exact zV_at l
    rw [show 2 * (k + 1) = 2 * k + 1 + 1 from rfl, Finset.sum_range_succ, Finset.sum_range_succ, Finset.sum_range_succ, Finset.sum_range_succ,
      ← ih.1, ← ih.2, ← e1 0, ← e1 1, ← e2 0, ← e2 1]
    exact ⟨rfl, rfl⟩

/-- The sixteen lanes of the 32 tiles together. -/
theorem accOut_sum : ∑ w : Fin 32, ∑ l : Fin 16, (accV X T S w.val 7).1 (l16 l) = ∑ i ∈ Finset.range 2668800, eRow X T S (1331200 + i) := by
  rw [← sum_lanes (eRow X T S), ← Fin.sum_univ_eq_sum_range (fun w => ∑ l ∈ Finset.range 16, _) 32]
  refine Finset.sum_congr rfl fun w _ => ?_
  rw [← Fin.sum_univ_eq_sum_range (fun l => ∑ n ∈ Finset.range 14, _) 16]
  exact Finset.sum_congr rfl fun l _ => (acc_at X T S w.val (l16 l) 7).1

theorem cntOut_sum : ∑ w : Fin 32, ∑ l : Fin 16, (accV X T S w.val 7).2 (l16 l) = ∑ i ∈ Finset.range 2668800, cRow S (1331200 + i) := by
  rw [← sum_lanes (cRow S), ← Fin.sum_univ_eq_sum_range (fun w => ∑ l ∈ Finset.range 16, _) 32]
  refine Finset.sum_congr rfl fun w _ => ?_
  rw [← Fin.sum_univ_eq_sum_range (fun l => ∑ n ∈ Finset.range 14, _) 16]
  exact Finset.sum_congr rfl fun l _ => (acc_at X T S w.val (l16 l) 7).2

end Parts

end Cert.Proof.Loss
-- ==== Proof.TcSum.lean ====
/-
  What the TensorCore call leaves, over the extended reals: the sum of the losses and the count of the rows it takes.
-/
module

public import proofs.«01_k».proof.Proof.Region
public import proofs.«01_k».proof.Proof.Sums
public import Idealize.ShloMosaic.Lib.Pointwise.Index

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A block's elements -/

def k8 (o : S512x128.Idx) (s : Fin 8) : S512x8x128.Idx := Idealize.ShloMosaic.ix3 (n0 := 512) (n1 := 8) (n2 := 128) (o 0) s (o 1)
def k2 (o : S512x128.Idx) (h : Fin 2) : S512x2x128.Idx := Idealize.ShloMosaic.ix3 (n0 := 512) (n1 := 2) (n2 := 128) (o 0) h (o 1)

theorem flat_at {α : Type} (v : S512x1x128.Idx → α) (h : S512x1x128.ShapeCasts S512x128) (o : S512x128.Idx) :
    shapeCast S512x128 v h o = v (Idealize.ShloMosaic.ix3 (n0 := 512) (n1 := 1) (n2 := 128) (o 0) 0 (o 1)) :=
  shapeCast_apply _ _ o _ (by
    rw [Shape.rowMajor_val_two, Shape.rowMajor_val_three]
    show ((o 0).val * 1 + 0) * 128 + (o 1).val = (o 0).val * 128 + (o 1).val
    omega)

theorem at8 {α : Type} (v : S512x8x128.Idx → α) (s : Fin 8) (h : S512x8x128.Slices ![0, s.val, 0] S512x1x128)
    (h' : S512x1x128.ShapeCasts S512x128) (o : S512x128.Idx) :
    shapeCast S512x128 (extractStridedSlice S512x1x128 ![0, s.val, 0] v h) h' o = v (k8 o s) := by
  rw [flat_at]
  refine congrArg v (funext fun a => ?_)
  match a with
  | 0 => exact Fin.ext (Nat.zero_add _)
  | 1 => exact Fin.ext (Nat.add_zero _)
  | 2 => exact Fin.ext (Nat.zero_add _)

theorem at2 {α : Type} (v : S512x2x128.Idx → α) (s : Fin 2) (h : S512x2x128.Slices ![0, s.val, 0] S512x1x128)
    (h' : S512x1x128.ShapeCasts S512x128) (o : S512x128.Idx) :
    shapeCast S512x128 (extractStridedSlice S512x1x128 ![0, s.val, 0] v h) h' o = v (k2 o s) := by
  rw [flat_at]
  refine congrArg v (funext fun a => ?_)
  match a with
  | 0 => exact Fin.ext (Nat.zero_add _)
  | 1 => exact Fin.ext (Nat.add_zero _)
  | 2 => exact Fin.ext (Nat.zero_add _)

/-- One sublane of the losses under its mask. -/
def subl (m : IVec S512x2x128 1) (v : FVec Ideal S512x8x128 .f32) (o : S512x128.Idx) (h : Fin 2) (s : Fin 8) : EReal :=
  if m (k2 o h) = 1#1 then v (k8 o s) else 0

theorem lane_at (m : IVec S512x2x128 1) (v : FVec Ideal S512x8x128 .f32) (o : S512x128.Idx) (h : Fin 2) (s : Fin 8)
    (hm : S512x2x128.Slices ![0, h.val, 0] S512x1x128) (hv : S512x8x128.Slices ![0, s.val, 0] S512x1x128)
    (h1 h2 : S512x1x128.ShapeCasts S512x128) :
    Scalar.select (shapeCast S512x128 (extractStridedSlice S512x1x128 ![0, h.val, 0] m hm) h1 o)
      (shapeCast S512x128 (extractStridedSlice S512x1x128 ![0, s.val, 0] v hv) h2 o) (Ideal.ofBits .f32 0x00000000#32) = subl m v o h s := by
  rw [at8, at2, Ideal.ofBits_zero_f32]; rfl

theorem total2 (v : FVec Ideal S512x128 .f32) (acc : BitVec 32) (h1 : S512x128.ShapeCasts S1x512x128) (h : S1x512x128.Reduces [1, 2] S1)
    (hφ : FKind.Formats .f32) (hacc : acc = FKind.add.neutral .f32 hφ) (j : S1.Idx) :
    multiReduction (F := Ideal) .add [1, 2] S1 (shapeCast S1x512x128 v h1) acc h hφ hacc j = ∑ i : Fin 512, ∑ l : Fin 128, v (Idealize.ShloMosaic.ix2 i l) := by
  rw [Ideal.multiReduction_add_total _ _ _ (by decide)]
  exact (Equiv.sum_comp (Shape.reshapeEquiv h1) v).trans (Idealize.ShloMosaic.sum_idx2 v)

theorem total3 (v : FVec Ideal S512x2x128 .f32) (acc : BitVec 32) (h1 : S512x2x128.ShapeCasts S1x512x2x128) (h : S1x512x2x128.Reduces [1, 2, 3] S1)
    (hφ : FKind.Formats .f32) (hacc : acc = FKind.add.neutral .f32 hφ) (j : S1.Idx) :
    multiReduction (F := Ideal) .add [1, 2, 3] S1 (shapeCast S1x512x2x128 v h1) acc h hφ hacc j
      = ∑ i : Fin 512, ∑ a : Fin 2, ∑ l : Fin 128, v (Idealize.ShloMosaic.ix3 i a l) := by
  rw [Ideal.multiReduction_add_total _ _ _ (by decide)]
  exact (Equiv.sum_comp (Shape.reshapeEquiv h1) v).trans (Idealize.ShloMosaic.sum_idx3 v)

/-! ## The mask -/

theorem slt_small (t i : ℕ) (ht : t < 11) (hi : i < 512) :
    (BitVec.ofNat 32 (0 * 512 + i) + BitVec.ofNat 32 (t % 11) * 512#32).slt 5200#32 = decide (512 * t + i < 5200) := by
  have h1 : (BitVec.ofNat 32 (0 * 512 + i) + BitVec.ofNat 32 (t % 11) * 512#32) = BitVec.ofNat 32 (512 * t + i) := by
    apply BitVec.eq_of_toNat_eq
    simp only [BitVec.toNat_add, BitVec.toNat_mul, BitVec.toNat_ofNat]
    omega
  rw [h1]
  have h2 : (BitVec.ofNat 32 (512 * t + i)).toInt = 512 * t + i := by
    rw [BitVec.toInt_eq_toNat_of_lt (by rw [BitVec.toNat_ofNat]; omega), BitVec.toNat_ofNat]
    omega
  rw [BitVec.slt_eq_decide, h2, show (5200#32 : BitVec 32).toInt = 5200 from by decide]
  simp only [decide_eq_decide]
  omega

theorem mask_at (t : ℕ) (ht : t < 11) (s : Blk2) (j : S512x2x128.Idx) :
    k1_pay7 (F := Ideal) (co t) s j = 1#1 ↔ s j = 1#32 ∧ 512 * t + (j 0).val < 5200 := by
  have e : k1_pay7 (F := Ideal) (co t) s j = BitVec.ofBool (s j == 1#32) &&& BitVec.ofBool (decide (512 * t + (j 0).val < 5200)) := by
    rw [← slt_small t (j 0).val ht (j 0).isLt]
    show BitVec.ofBool (shapeCast S512x2x128 s _ j == 1#32) &&& _ = _
    rw [shapeCast_apply s _ j j rfl]
    rfl
  rw [e]
  by_cases h : s j = 1#32
  · by_cases h' : 512 * t + (j 0).val < 5200
    · rw [h]; simp [h']
    · rw [h]; simp [h']
  · rw [beq_eq_false_iff_ne.2 h]; simp [h]

/-! ## One point -/

theorem pe8_at (x t : Blk8 Ideal) (j : S512x8x128.Idx) : k1_pay6 (F := Ideal) x t j = peE (x j - t j) := by
  have hx : shapeCast S512x8x128 x shapeCasts_S512x8x128_S512x8x128 = x := funext fun j => shapeCast_apply x _ j j rfl
  have ht : shapeCast S512x8x128 t shapeCasts_S512x8x128_S512x8x128 = t := funext fun j => shapeCast_apply t _ j j rfl
  show (fun (a b : Blk8 Ideal) => min (max (a j - b j) (-(a j - b j))) (Ideal.ofBits .f32 0x3F800000#32)
    * (max (a j - b j) (-(a j - b j)) - half * min (max (a j - b j) (-(a j - b j))) (Ideal.ofBits .f32 0x3F800000#32)))
    (shapeCast S512x8x128 x shapeCasts_S512x8x128_S512x8x128) (shapeCast S512x8x128 t shapeCasts_S512x8x128_S512x8x128) = _
  rw [hx, ht, Ideal.ofBits_one_f32]; rfl

theorem tcSum_lanes (i : grid1.Coords) (x t : Blk8 Ideal) (s : Blk2) (a : One Ideal) (j : S1x1.Idx) (m : IVec S512x2x128 1)
    (hm : k1_pay7 (F := Ideal) i s = m) (v : FVec Ideal S512x8x128 .f32) (hv : k1_pay6 (F := Ideal) x t = v) :
    tcSum i x t s a j = a j + ∑ p : Fin 512, ∑ l : Fin 128, (fun o => 0 + subl m v o 0 0 + subl m v o 0 1 + subl m v o 0 2 + subl m v o 0 3
      + subl m v o 1 4 + subl m v o 1 5 + subl m v o 1 6 + subl m v o 1 7) (Idealize.ShloMosaic.ix2 p l) := by
  unfold tcSum k1_pay8 k1_pay9 k1_pay10 k1_pay1
  rw [hm, hv]
  refine (shapeCast_apply _ _ j j rfl).trans ?_
  unfold k1_pay12
  refine congrArg (fun z : EReal => a j + z) ((total2 _ 0x00000000#32 _ _ (.inl rfl) rfl _).trans ?_)
  refine Finset.sum_congr rfl fun p _ => Finset.sum_congr rfl fun l _ => ?_
  generalize (Idealize.ShloMosaic.ix2 p l : S512x128.Idx) = o
  have ad : ∀ {a b c d : EReal}, a = b → c = d → a + c = b + d := fun h h' => by rw [h, h']
  refine ad (ad (ad (ad (ad (ad (ad (ad ?_ ?_) ?_) ?_) ?_) ?_) ?_) ?_) ?_
  · exact Ideal.ofBits_zero_f32
  · exact lane_at m v o 0 0 _ _ _ _
  · exact lane_at m v o 0 1 _ _ _ _
  · exact lane_at m v o 0 2 _ _ _ _
  · exact lane_at m v o 0 3 _ _ _ _
  · exact lane_at m v o 1 4 _ _ _ _
  · exact lane_at m v o 1 5 _ _ _ _
  · exact lane_at m v o 1 6 _ _ _ _
  · exact lane_at m v o 1 7 _ _ _ _

theorem one_at (m : IVec S512x2x128 1) (o : S512x2x128.Idx) :
    select m (broadcast S512x2x128 (Scalar.ofBits (F := Ideal) .f32 0x3F800000#32)) (broadcast S512x2x128 (Scalar.ofBits (F := Ideal) .f32 0x00000000#32)) o
      = if m o = 1#1 then (1 : EReal) else 0 := by
  show (if m o = 1#1 then Ideal.ofBits .f32 0x3F800000#32 else Ideal.ofBits .f32 0x00000000#32) = _
  rw [Ideal.ofBits_one_f32, Ideal.ofBits_zero_f32]

theorem ext4 (M : FVec Ideal S1 .f32) (E : EReal) (hM : ∀ j, M j = E) (h : S1.ShapeCasts S1x1x1x1) (h' : ∀ a, ![0, 0, 0, 0] a < S1x1x1x1.size a) :
    extractAt ![0, 0, 0, 0] (shapeCast S1x1x1x1 M h) h' = E := hM _

theorem tcCnt_lanes (i : grid1.Coords) (s : Blk2) (a : One Ideal) (j : S1x1.Idx) (m : IVec S512x2x128 1)
    (hm : k1_pay7 (F := Ideal) i s = m) :
    tcCnt i s a j = a j + ∑ p : Fin 512, ∑ h : Fin 2, ∑ l : Fin 128, (fun o => if m o = 1#1 then (1 : EReal) else 0) (Idealize.ShloMosaic.ix3 p h l) := by
  unfold tcCnt k1_pay2
  rw [hm]
  refine (shapeCast_apply _ _ j j rfl).trans ?_
  have hV := funext (one_at m)
  refine congrArg (fun z : EReal => a j + z) (ext4 _ _ (fun k => ?_) _ _)
  rw [hV]
  exact total3 _ _ _ _ _ _ _

/-! ## The rows of the arrays the call is given -/

def xRow8 (X : Arr8 Ideal) (r : ℕ) (c : Fin 4) : EReal :=
  X (j8 ⟨r / 256 % 15625, Nat.mod_lt _ (by decide)⟩ ⟨4 * (r / 128 % 2) + c.val, by omega⟩ ⟨r % 128, Nat.mod_lt _ (by decide)⟩)
def sRow8 (S : Arr2) (r : ℕ) : BitVec 32 :=
  S (j2 ⟨r / 256 % 15625, Nat.mod_lt _ (by decide)⟩ ⟨r / 128 % 2, Nat.mod_lt _ (by decide)⟩ ⟨r % 128, Nat.mod_lt _ (by decide)⟩)
def eRow8 (X Y : Arr8 Ideal) (S : Arr2) (r : ℕ) : EReal := rowE (xRow8 X r) (xRow8 Y r) (sRow8 S r)
def cRow8 (S : Arr2) (r : ℕ) : EReal := rowC (sRow8 S r)

theorem j8_eq {a a' : Fin 15625} {b b' : Fin 8} {c c' : Fin 128} (h : a.val = a'.val) (h' : b.val = b'.val) (h'' : c.val = c'.val) :
    j8 a b c = j8 a' b' c' := by rw [Fin.ext h, Fin.ext h', Fin.ext h'']
theorem j2_eq {a a' : Fin 15625} {b b' : Fin 2} {c c' : Fin 128} (h : a.val = a'.val) (h' : b.val = b'.val) (h'' : c.val = c'.val) :
    j2 a b c = j2 a' b' c' := by rw [Fin.ext h, Fin.ext h', Fin.ext h'']

theorem blk8_at (A : Arr8 Ideal) (t : ℕ) (i : Fin 512) (l : Fin 128) (h : Fin 2) (c : Fin 4) (s : Fin 8) (hs : s.val = 4 * h.val + c.val) :
    blk8 A t (k8 (Idealize.ShloMosaic.ix2 i l) s) = xRow8 A (256 * (512 * t + i.val) + (128 * h.val + l.val)) c := by
  have hi := i.isLt; have hl := l.isLt; have hh := h.isLt
  unfold blk8 xRow8
  refine congrArg A (j8_eq ?_ ?_ ?_)
  · show (512 * t + i.val) % 15625 = (256 * (512 * t + i.val) + (128 * h.val + l.val)) / 256 % 15625
    rw [show (256 * (512 * t + i.val) + (128 * h.val + l.val)) / 256 = 512 * t + i.val by omega]
  · show s.val = 4 * ((256 * (512 * t + i.val) + (128 * h.val + l.val)) / 128 % 2) + c.val
    omega
  · show l.val = (256 * (512 * t + i.val) + (128 * h.val + l.val)) % 128
    omega

theorem blk2_at (A : Arr2) (t : ℕ) (i : Fin 512) (l : Fin 128) (h : Fin 2) :
    blk2 A t (Idealize.ShloMosaic.ix3 (n0 := 512) (n1 := 2) (n2 := 128) i h l) = sRow8 A (256 * (512 * t + i.val) + (128 * h.val + l.val)) := by
  have hi := i.isLt; have hl := l.isLt; have hh := h.isLt
  unfold blk2 sRow8
  refine congrArg A (j2_eq ?_ ?_ ?_)
  · show (512 * t + i.val) % 15625 = (256 * (512 * t + i.val) + (128 * h.val + l.val)) / 256 % 15625
    rw [show (256 * (512 * t + i.val) + (128 * h.val + l.val)) / 256 = 512 * t + i.val by omega]
  · show h.val = (256 * (512 * t + i.val) + (128 * h.val + l.val)) / 128 % 2
    omega
  · show l.val = (256 * (512 * t + i.val) + (128 * h.val + l.val)) % 128
    omega

theorem lane_row (X Y : Arr8 Ideal) (S : Arr2) (t : ℕ) (ht : t < 11) (i : Fin 512) (l : Fin 128) (h : Fin 2) (c : Fin 4) (s : Fin 8)
    (hs : s.val = 4 * h.val + c.val) :
    subl (k1_pay7 (F := Ideal) (co t) (blk2 S t)) (k1_pay6 (F := Ideal) (blk8 X t) (blk8 Y t)) (Idealize.ShloMosaic.ix2 i l) h s
      = if sRow8 S (256 * (512 * t + i.val) + (128 * h.val + l.val)) = 1#32 ∧ 512 * t + i.val < 5200
        then peE (xRow8 X (256 * (512 * t + i.val) + (128 * h.val + l.val)) c - xRow8 Y (256 * (512 * t + i.val) + (128 * h.val + l.val)) c) else 0 := by
  unfold subl
  rw [pe8_at, blk8_at X t i l h c s hs, blk8_at Y t i l h c s hs, ← blk2_at S t i l h]
  exact if_congr (mask_at t ht _ _) rfl rfl

/-- The eight masked sublanes are two rows' losses. -/
theorem eight (p : Prop) [Decidable p] (s0 s1 : BitVec 32) (f g : Fin 4 → EReal) :
    (0 : EReal) + (if s0 = 1#32 ∧ p then f 0 else 0) + (if s0 = 1#32 ∧ p then f 1 else 0) + (if s0 = 1#32 ∧ p then f 2 else 0) + (if s0 = 1#32 ∧ p then f 3 else 0)
      + (if s1 = 1#32 ∧ p then g 0 else 0) + (if s1 = 1#32 ∧ p then g 1 else 0) + (if s1 = 1#32 ∧ p then g 2 else 0) + (if s1 = 1#32 ∧ p then g 3 else 0)
    = if p then (if s0 = 1#32 then f 0 + f 1 + f 2 + f 3 else 0) + (if s1 = 1#32 then g 0 + g 1 + g 2 + g 3 else 0) else 0 := by
  by_cases hp : p <;> by_cases h0 : s0 = 1#32 <;> by_cases h1 : s1 = 1#32 <;> simp [hp, h0, h1, add_assoc]

theorem tcSum_at (X Y : Arr8 Ideal) (S : Arr2) (t : ℕ) (ht : t < 11) (a : One Ideal) (j : S1x1.Idx) :
    tcSum (co t) (blk8 X t) (blk8 Y t) (blk2 S t) a j = a j + ∑ i ∈ Finset.range 512, ∑ l ∈ Finset.range 128,
      (if 512 * t + i < 5200 then eRow8 X Y S (256 * (512 * t + i) + l) + eRow8 X Y S (256 * (512 * t + i) + (128 + l)) else 0) := by
  rw [tcSum_lanes _ _ _ _ _ _ _ rfl _ rfl, ← Fin.sum_univ_eq_sum_range (fun i => ∑ l ∈ Finset.range 128,
      (if 512 * t + i < 5200 then eRow8 X Y S (256 * (512 * t + i) + l) + eRow8 X Y S (256 * (512 * t + i) + (128 + l)) else 0)) 512]
  refine congrArg (fun z : EReal => a j + z) (Finset.sum_congr rfl fun i _ => ?_)
  rw [← Fin.sum_univ_eq_sum_range (fun l =>
      (if 512 * t + i.val < 5200 then eRow8 X Y S (256 * (512 * t + i.val) + l) + eRow8 X Y S (256 * (512 * t + i.val) + (128 + l)) else 0)) 128]
  refine Finset.sum_congr rfl fun l _ => ?_
  dsimp only
  rw [lane_row X Y S t ht i l 0 0 0 rfl, lane_row X Y S t ht i l 0 1 1 rfl, lane_row X Y S t ht i l 0 2 2 rfl, lane_row X Y S t ht i l 0 3 3 rfl,
    lane_row X Y S t ht i l 1 0 4 rfl, lane_row X Y S t ht i l 1 1 5 rfl, lane_row X Y S t ht i l 1 2 6 rfl, lane_row X Y S t ht i l 1 3 7 rfl]
  rw [show 128 * (0 : Fin 2).val + l.val = l.val from Nat.zero_add _, show 128 * (1 : Fin 2).val + l.val = 128 + l.val from rfl]
  exact eight _ _ _ (fun c => peE (xRow8 X (256 * (512 * t + i.val) + l.val) c - xRow8 Y (256 * (512 * t + i.val) + l.val) c))
    (fun c => peE (xRow8 X (256 * (512 * t + i.val) + (128 + l.val)) c - xRow8 Y (256 * (512 * t + i.val) + (128 + l.val)) c))

theorem tcCnt_at (S : Arr2) (t : ℕ) (ht : t < 11) (a : One Ideal) (j : S1x1.Idx) :
    tcCnt (co t) (blk2 S t) a j = a j + ∑ i ∈ Finset.range 512, ∑ l ∈ Finset.range 128,
      (if 512 * t + i < 5200 then cRow8 S (256 * (512 * t + i) + l) + cRow8 S (256 * (512 * t + i) + (128 + l)) else 0) := by
  rw [tcCnt_lanes _ _ _ _ _ rfl, ← Fin.sum_univ_eq_sum_range (fun i => ∑ l ∈ Finset.range 128,
      (if 512 * t + i < 5200 then cRow8 S (256 * (512 * t + i) + l) + cRow8 S (256 * (512 * t + i) + (128 + l)) else 0)) 512]
  refine congrArg (fun z : EReal => a j + z) (Finset.sum_congr rfl fun i _ => ?_)
  rw [← Fin.sum_univ_eq_sum_range (fun l =>
      (if 512 * t + i.val < 5200 then cRow8 S (256 * (512 * t + i.val) + l) + cRow8 S (256 * (512 * t + i.val) + (128 + l)) else 0)) 128,
    Fin.sum_univ_two, ← Finset.sum_add_distrib]
  refine Finset.sum_congr rfl fun l _ => ?_
  dsimp only
  have hk : ∀ h : Fin 2, (if k1_pay7 (F := Ideal) (co t) (blk2 S t) (Idealize.ShloMosaic.ix3 i h l) = 1#1 then (1 : EReal) else 0)
      = if sRow8 S (256 * (512 * t + i.val) + (128 * h.val + l.val)) = 1#32 ∧ 512 * t + i.val < 5200 then 1 else 0 := fun h => by
    rw [← blk2_at S t i l h]; exact if_congr (mask_at t ht _ _) rfl rfl
  rw [hk 0, hk 1]
  rw [show 128 * (0 : Fin 2).val + l.val = l.val from Nat.zero_add _, show 128 * (1 : Fin 2).val + l.val = 128 + l.val from rfl]
  unfold cRow8 rowC
  by_cases hp : 512 * t + i.val < 5200 <;> simp [hp]

/-! ## The whole call -/

theorem tot_at (X Y : Arr8 Ideal) (S : Arr2) (j : S1x1.Idx) (t : ℕ) (ht : t ≤ 11) :
    (tot X Y S t).1 j = (∑ t ∈ Finset.range t, ∑ i ∈ Finset.range 512, ∑ l ∈ Finset.range 128,
      (if 512 * t + i < 5200 then eRow8 X Y S (256 * (512 * t + i) + l) + eRow8 X Y S (256 * (512 * t + i) + (128 + l)) else 0))
    ∧ (tot X Y S t).2 j = (∑ t ∈ Finset.range t, ∑ i ∈ Finset.range 512, ∑ l ∈ Finset.range 128,
      (if 512 * t + i < 5200 then cRow8 S (256 * (512 * t + i) + l) + cRow8 S (256 * (512 * t + i) + (128 + l)) else 0)) := by
  induction t with
  | zero => exact ⟨Ideal.ofBits_zero_f32, Ideal.ofBits_zero_f32⟩
  | succ t ih =>
    obtain ⟨h1, h2⟩ := ih (by omega)
    rw [Finset.sum_range_succ (fun t => ∑ i ∈ Finset.range 512, ∑ l ∈ Finset.range 128,
      (if 512 * t + i < 5200 then eRow8 X Y S (256 * (512 * t + i) + l) + eRow8 X Y S (256 * (512 * t + i) + (128 + l)) else 0)),
      Finset.sum_range_succ (fun t => ∑ i ∈ Finset.range 512, ∑ l ∈ Finset.range 128,
      (if 512 * t + i < 5200 then cRow8 S (256 * (512 * t + i) + l) + cRow8 S (256 * (512 * t + i) + (128 + l)) else 0)), ← h1, ← h2]
    exact ⟨tcSum_at X Y S t (by omega) _ j, tcCnt_at S t (by omega) _ j⟩

theorem one_eq (j k : S1x1.Idx) : j = k := funext fun a => Fin.ext (by
  have h : S1x1.size a = 1 := by match a with | 0 => rfl | 1 => rfl
  have := (j a).isLt; have := (k a).isLt; omega)

def o2 (c : Fin 2) : S1x2.Idx := Idealize.ShloMosaic.ix2 (n0 := 1) (n1 := 2) 0 c

theorem tcOut_sum (X Y : Arr8 Ideal) (S : Arr2) : tcOut X Y S (o2 0) = ∑ r ∈ Finset.range 1331200, eRow8 X Y S r :=
  (show tcOut X Y S (o2 0) = (tot X Y S 11).1 (Idealize.ShloMosaic.ix2 (n0 := 1) (n1 := 1) 0 0) from
    congrArg (tot X Y S 11).1 (one_eq _ _)).trans
    (((tot_at X Y S _ 11 le_rfl).1).trans (sum_blocks (eRow8 X Y S)))

theorem tcOut_cnt (X Y : Arr8 Ideal) (S : Arr2) : tcOut X Y S (o2 1) = ∑ r ∈ Finset.range 1331200, cRow8 S r :=
  (show tcOut X Y S (o2 1) = (tot X Y S 11).2 (Idealize.ShloMosaic.ix2 (n0 := 1) (n1 := 1) 0 0) from
    congrArg (tot X Y S 11).2 (one_eq _ _)).trans
    (((tot_at X Y S _ 11 le_rfl).2).trans (sum_blocks (cRow8 S)))

end Cert.Proof.Loss
-- ==== Proof.RefSum.lean ====
/-
  The reference's result, over the extended reals: the sum of the losses and four times the count, row by row.
-/
module

public import proofs.«01_k».proof.Proof.Gen.ReferenceIdeal.Run
public import proofs.«01_k».proof.Proof.Sums
public import Idealize.ShloMosaic.Lib.IndicatorCount
public import Idealize.ShloMosaic.Lib.Pipeline.Value
public import Idealize.ShloMosaic.Lib.Pointwise.Index

@[expose] public section

noncomputable section

namespace Cert.Proof.Loss

open Cert.ReferenceIdeal Cert.ReferenceIdeal.Gen
open Idealize.ShloMosaic

/-! ## The rows of the arguments -/

def argRow (A : S4000000x4.Idx → EReal) (r : ℕ) (c : Fin 4) : EReal := A (Idealize.ShloMosaic.ix2 (n0 := 4000000) (n1 := 4) ⟨r % 4000000, Nat.mod_lt _ (by decide)⟩ c)
def argS (S : S4000000.Idx → BitVec 32) (r : ℕ) : BitVec 32 := S (Idealize.ShloMosaic.ix1 (n0 := 4000000) ⟨r % 4000000, Nat.mod_lt _ (by decide)⟩)
def argE (A B : S4000000x4.Idx → EReal) (S : S4000000.Idx → BitVec 32) (r : ℕ) : EReal := rowE (argRow A r) (argRow B r) (argS S r)
def argC (S : S4000000.Idx → BitVec 32) (r : ℕ) : EReal := rowC (argS S r)

theorem elt_at (A : S4000000x4.Idx → EReal) (h : S4000000x4.ShapeCasts S16000000) (p : S16000000.Idx) :
    shapeCast S16000000 A h p = argRow A ((p 0).val / 4) ⟨(p 0).val % 4, Nat.mod_lt _ (by decide)⟩ := by
  have hp : (p 0).val < 16000000 := (p 0).isLt
  refine shapeCast_apply _ _ p _ ?_
  rw [Shape.rowMajor_val_one, Shape.rowMajor_val_two]
  show (p 0).val / 4 % 4000000 * 4 + (p 0).val % 4 = (p 0).val
  omega

theorem score_at (S : S4000000.Idx → BitVec 32) (hb : S4000000.BroadcastsInDim S4000000x1 ![0])
    (hc : Shape.Concatenates [S4000000x1, S4000000x1, S4000000x1, S4000000x1] S4000000x4 1)
    (h : S4000000x4.ShapeCasts S16000000) (p : S16000000.Idx) :
    shapeCast S16000000 (concatenate S4000000x4 1 [⟨S4000000x1, broadcastInDim S4000000x1 ![0] hb S⟩, ⟨S4000000x1, broadcastInDim S4000000x1 ![0] hb S⟩,
      ⟨S4000000x1, broadcastInDim S4000000x1 ![0] hb S⟩, ⟨S4000000x1, broadcastInDim S4000000x1 ![0] hb S⟩] hc) h p = argS S ((p 0).val / 4) := by
  have hp : (p 0).val < 16000000 := (p 0).isLt
  have hq : (p 0).val / 4 < 4000000 := by omega
  refine (shapeCast_apply _ _ p (Idealize.ShloMosaic.ix2 (n0 := 4000000) (n1 := 4) ⟨(p 0).val / 4, hq⟩ ⟨(p 0).val % 4, Nat.mod_lt _ (by decide)⟩) ?_).trans ?_
  · rw [Shape.rowMajor_val_one, Shape.rowMajor_val_two]
    show (p 0).val / 4 * 4 + (p 0).val % 4 = (p 0).val
    omega
  refine (concatenate_replicate_apply (t := S4000000x4) (s₁ := S4000000x1) 1 4 (broadcastInDim S4000000x1 ![0] hb S) hc rfl _
    (Idealize.ShloMosaic.ix2 (n0 := 4000000) (n1 := 1) ⟨(p 0).val / 4, hq⟩ 0) ?_ ?_).trans ?_
  · show 0 = (p 0).val % 4 % 1
    omega
  · intro b hb
    match b with
    | ⟨0, _⟩ => rfl
    | ⟨1, _⟩ => exact absurd rfl hb
  refine broadcastInDim_apply _ _ _ _ _ fun a => ?_
  match a with
  | ⟨0, _⟩ =>
    refine Eq.trans ?_ (if_neg (by show ¬ (4000000 : ℕ) = 1; omega)).symm
    show (p 0).val / 4 % 4000000 = (p 0).val / 4
    omega

/-! ## The loss of one element -/

theorem bcast_at {α : Type} (x : S_.Idx → α) (k : S_.Idx) (h : S_.BroadcastsInDim S16000000 ![]) (p : S16000000.Idx) : broadcastInDim S16000000 ![] h x p = x k :=
  broadcastInDim_apply _ _ _ _ _ fun a => a.elim0

/-- The flat element `n`'s loss under its row's score. -/
def flatE (A B : S4000000x4.Idx → EReal) (S : S4000000.Idx → BitVec 32) (n : ℕ) : EReal :=
  if argS S (n / 4) = 1#32 then peE (argRow A (n / 4) ⟨n % 4, Nat.mod_lt _ (by decide)⟩ - argRow B (n / 4) ⟨n % 4, Nat.mod_lt _ (by decide)⟩) else 0

theorem flag_iff (s t : BitVec 32) : BitVec.ofBool (s == t) = 1#1 ↔ s = t := by
  by_cases h : s = t
  · simp [h]
  · rw [beq_eq_false_iff_ne.2 h]; simp [h]

theorem loss_at (s : BitVec 32) (x t : EReal) :
    Scalar.select (IntOp.cmpi .eq s 1#32) (Scalar.select (Ideal.cmp .olt (max (x - t) (-(x - t))) (Ideal.ofBits .f32 0x3F800000#32))
      (half * (x - t) * (x - t)) (max (x - t) (-(x - t)) - half)) (Ideal.ofBits .f32 0x00000000#32)
    = if s = 1#32 then peE (x - t) else 0 := by
  rw [Ideal.ofBits_zero_f32, Ideal.ofBits_one_f32, peE_eq]
  generalize x - t = d
  show (if BitVec.ofBool (s == 1#32) = 1#1 then (if BitVec.ofBool (decide (max d (-d) < 1)) = 1#1 then half * d * d else max d (-d) - half) else 0) = _
  rw [if_congr (flag_iff s 1#32) rfl rfl]
  by_cases h1 : s = 1#32 <;> by_cases h2 : max d (-d) < 1 <;> simp [h1, h2]

/-- The sum of all the losses, as the flat sum and by rows. -/
theorem flat_sum (A B : S4000000x4.Idx → EReal) (S : S4000000.Idx → BitVec 32) :
    ∑ p : S16000000.Idx, flatE A B S (p 0).val = ∑ r ∈ Finset.range 4000000, argE A B S r := by
  rw [Idealize.ShloMosaic.sum_idx1 (n0 := 16000000) (fun p => flatE A B S (p 0).val)]
  refine (Fin.sum_univ_eq_sum_range (flatE A B S) 16000000).trans ?_
  rw [show (16000000 : ℕ) = 4 * 4000000 by norm_num, sum_runs]
  refine Finset.sum_congr rfl fun r _ => ?_
  have e : ∀ l (hl : l < 4), flatE A B S (4 * r + l) = if argS S r = 1#32 then peE (argRow A r ⟨l, hl⟩ - argRow B r ⟨l, hl⟩) else 0 := fun l hl => by
    have h1 : (4 * r + l) / 4 = r := by omega
    have h2 : (4 * r + l) % 4 = l := by omega
    unfold flatE
    simp only [h1, h2]
  rw [Finset.sum_range_succ (fun l => flatE A B S (4 * r + l)), Finset.sum_range_succ (fun l => flatE A B S (4 * r + l)),
    Finset.sum_range_succ (fun l => flatE A B S (4 * r + l)), Finset.sum_range_succ (fun l => flatE A B S (4 * r + l)), Finset.sum_range_zero, zero_add,
    e 0 (by omega), e 1 (by omega), e 2 (by omega), e 3 (by omega)]
  unfold argE rowE
  by_cases h : argS S r = 1#32
  · simp only [if_pos h]; rfl
  · simp only [if_neg h, add_zero]

/-! ## The count -/

def cntN (S : S4000000.Idx → BitVec 32) : ℕ := ∑ r ∈ Finset.range 4000000, if argS S r = 1#32 then 1 else 0

theorem cntN_le (S : S4000000.Idx → BitVec 32) : cntN S ≤ 4000000 :=
  (Finset.sum_le_card_nsmul _ _ 1 fun r _ => by split <;> omega).trans (by rw [Finset.card_range]; norm_num)

theorem argC_sum (S : S4000000.Idx → BitVec 32) : ∑ r ∈ Finset.range 4000000, argC S r = ((cntN S : ℝ) : EReal) := by
  rw [EReal.coe_natCast, cntN, Nat.cast_sum]
  refine Finset.sum_congr rfl fun r _ => ?_
  unfold argC rowC
  split <;> simp

theorem flat_card (S : S4000000.Idx → BitVec 32) (p : S16000000.Idx → BitVec 1)
    (hp : ∀ i, p i = BitVec.ofBool (argS S ((i 0).val / 4) == 1#32)) :
    (Finset.univ.filter fun i => p i = 1#1).card = 4 * cntN S := by
  rw [Finset.card_filter]
  have e0 : ∀ i : S16000000.Idx, (if p i = 1#1 then 1 else 0) = (fun n : ℕ => if argS S (n / 4) = 1#32 then 1 else 0) (i 0).val := fun i => by
    rw [hp i]
    exact if_congr (flag_iff _ _) rfl rfl
  rw [Finset.sum_congr rfl fun i _ => e0 i]
  rw [Idealize.ShloMosaic.sum_idx1 (n0 := 16000000) (fun i => (fun n : ℕ => if argS S (n / 4) = 1#32 then 1 else 0) (i 0).val)]
  refine (Fin.sum_univ_eq_sum_range (fun n : ℕ => if argS S (n / 4) = 1#32 then 1 else 0) 16000000).trans ?_
  rw [show (16000000 : ℕ) = 4 * 4000000 by norm_num, sum_runs, cntN, Finset.mul_sum]
  refine Finset.sum_congr rfl fun r _ => ?_
  have e : ∀ l ∈ Finset.range 4, (if argS S ((4 * r + l) / 4) = 1#32 then 1 else 0) = if argS S r = 1#32 then 1 else 0 := fun l hl => by
    have hl := Finset.mem_range.1 hl
    rw [show (4 * r + l) / 4 = r by omega]
  rw [Finset.sum_congr rfl e, Finset.sum_const, Finset.card_range, smul_eq_mul]

theorem toInt_small (n : ℕ) (h : n ≤ 16000000) : (BitVec.ofNat 32 n).toInt = n := by
  rw [BitVec.toInt_eq_toNat_of_lt (by rw [BitVec.toNat_ofNat]; omega), BitVec.toNat_ofNat]
  omega

theorem four_eq : Ideal.ofBits .f32 0x40800000#32 = ((4 : ℝ) : EReal) := by
  simp [Idealize.ShloMosaic.Ideal.ofBits, Idealize.ShloMosaic.Ideal.ieee]
  rw [← EReal.coe_mul]
  norm_num

/-! ## The result -/

variable (A B : (⟨S4000000x4, .f32⟩ : BufTy).Contents (Elt Ideal)) (S : (⟨S4000000, .i32⟩ : BufTy).Contents (Elt Ideal))

/-- The scores, each four times. -/
def scores : (⟨S16000000, .i32⟩ : BufTy).Contents (Elt Ideal) :=
  shapeCast S16000000 (concatenate S4000000x4 1 [⟨S4000000x1, broadcastInDim S4000000x1 ![0] bcast_S4000000_S4000000x1_0 S⟩, ⟨S4000000x1, broadcastInDim S4000000x1 ![0] bcast_S4000000_S4000000x1_0 S⟩,
      ⟨S4000000x1, broadcastInDim S4000000x1 ![0] bcast_S4000000_S4000000x1_0 S⟩, ⟨S4000000x1, broadcastInDim S4000000x1 ![0] bcast_S4000000_S4000000x1_0 S⟩]
      concatenates_S4000000x1_S4000000x1_S4000000x1_S4000000x1_S4000000x4_d1) shapeCasts_S4000000x4_S16000000

def flags : IVec S16000000 1 := cmpi .eq (scores S) (broadcastInDim S16000000 ![] bcast_S_S16000000 (constantI S_ 32 1#32))

def diff : FVec Ideal S16000000 .f32 := subf (shapeCast S16000000 A shapeCasts_S4000000x4_S16000000) (shapeCast S16000000 B shapeCasts_S4000000x4_S16000000)

def losses : FVec Ideal S16000000 .f32 :=
  select (flags S) (select (cmpf .olt (Host.absf (diff A B)) (broadcastInDim S16000000 ![] bcast_S_S16000000 (constant S_ .f32 0x3F800000#32)))
    (mulf (mulf (broadcastInDim S16000000 ![] bcast_S_S16000000 (constant S_ .f32 0x3F000000#32)) (diff A B)) (diff A B))
    (subf (Host.absf (diff A B)) (broadcastInDim S16000000 ![] bcast_S_S16000000 (constant S_ .f32 0x3F000000#32))))
    (broadcastInDim S16000000 ![] bcast_S_S16000000 (id (constant S_ .f32 0x00000000#32)))

def refNum : FVec Ideal S_ .f32 := Host.reduceAdd (losses A B S) (constant S_ .f32 0x00000000#32) reducesTo_S16000000_S_d0 h_S_
def refCnt : FVec Ideal S_ .f32 :=
  sitofp .f32 (Host.reduce IntOp.addi (extui 32 (flags S) natLt_1_32) (constantI S_ 32 0#32) reducesTo_S16000000_S_d0 h_S_)

theorem flags_at (p : S16000000.Idx) : flags S p = BitVec.ofBool (argS S ((p 0).val / 4) == 1#32) := by
  show BitVec.ofBool (scores S p == broadcastInDim S16000000 ![] bcast_S_S16000000 (constantI S_ 32 1#32) p) = _
  rw [bcast_at _ (fun a : Fin 0 => a.elim0), show scores S p = argS S ((p 0).val / 4) from score_at S _ _ _ p]
  rfl

theorem losses_at (p : S16000000.Idx) : losses A B S p = flatE A B S (p 0).val := by
  have hd : diff A B p = argRow A ((p 0).val / 4) ⟨(p 0).val % 4, Nat.mod_lt _ (by decide)⟩ - argRow B ((p 0).val / 4) ⟨(p 0).val % 4, Nat.mod_lt _ (by decide)⟩ := by
    show shapeCast S16000000 A shapeCasts_S4000000x4_S16000000 p - shapeCast S16000000 B shapeCasts_S4000000x4_S16000000 p = _
    rw [elt_at A, elt_at B]
  refine Eq.trans ?_ (loss_at (argS S ((p 0).val / 4)) _ _)
  rw [← hd]
  show Scalar.select (flags S p) (Scalar.select (Ideal.cmp .olt (max (diff A B p) (-(diff A B p))) (broadcastInDim S16000000 ![] bcast_S_S16000000 (constant (F := Ideal) S_ .f32 0x3F800000#32) p))
    (broadcastInDim S16000000 ![] bcast_S_S16000000 (constant (F := Ideal) S_ .f32 0x3F000000#32) p * diff A B p * diff A B p)
    (max (diff A B p) (-(diff A B p)) - broadcastInDim S16000000 ![] bcast_S_S16000000 (constant (F := Ideal) S_ .f32 0x3F000000#32) p))
    (broadcastInDim S16000000 ![] bcast_S_S16000000 (constant (F := Ideal) S_ .f32 0x00000000#32) p) = _
  rw [bcast_at _ (fun a : Fin 0 => a.elim0), bcast_at _ (fun a : Fin 0 => a.elim0), bcast_at _ (fun a : Fin 0 => a.elim0), flags_at]
  rfl

theorem refNum_at (j : S_.Idx) : refNum A B S j = ∑ r ∈ Finset.range 4000000, argE A B S r := by
  show Ideal.hostReduceAdd reducesTo_S16000000_S_d0 (losses A B S) (Ideal.ofBits .f32 0x00000000#32) j = _
  rw [Ideal.hostReduceAdd_total _ (fun b => b.elim0), Ideal.ofBits_zero_f32, zero_add, Finset.sum_congr rfl fun p _ => losses_at A B S p]
  exact flat_sum A B S

theorem refCnt_at (j : S_.Idx) : refCnt S j = Ideal.ofBits .f32 0x40800000#32 * ∑ r ∈ Finset.range 4000000, argC S r := by
  have h0 : ∀ i : S16000000.Idx, (reducesTo_S16000000_S_d0).drop i = j := fun i => funext fun b => b.elim0
  have hw : Host.reduce IntOp.addi (extui 32 (flags S) natLt_1_32) (constantI S_ 32 0#32) reducesTo_S16000000_S_d0 h_S_ j = BitVec.ofNat 32 (4 * cntN S) := by
    rw [Host.reduce_eq_fold, Finset.filter_true_of_mem fun i _ => h0 i]
    exact (IndicatorCount.fold_addi_setWidth_eq_card (w := 32) (flags S) Finset.univ).trans (congrArg (BitVec.ofNat 32) (flat_card S (flags S) (flags_at S)))
  show (((Host.reduce IntOp.addi (extui 32 (flags S) natLt_1_32) (constantI S_ 32 0#32) reducesTo_S16000000_S_d0 h_S_ j).toInt : ℝ) : EReal) = _
  rw [hw, toInt_small _ (by have := cntN_le S; omega), four_eq, argC_sum, ← EReal.coe_mul]
  push_cast
  rfl

end Cert.Proof.Loss
-- ==== Proof.Alg.lean ====
/-
  The kernel's result is the reference's, over the extended reals.
-/
module

public import proofs.«01_k».proof.Proof.Frame
public import proofs.«01_k».proof.Proof.HostVal
public import proofs.«01_k».proof.Proof.ScSum
public import proofs.«01_k».proof.Proof.TcSum
public import proofs.«01_k».proof.Proof.RefSum

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Agree
variable (m : (ℓ : Loc nD τ sig) → Buf (Elt Ideal) ℓ) (d : Dev nD)

theorem xRow_arg (A : S4000000x4.Idx → EReal) (r : ℕ) (hr : r < 4000000) (c : Fin 4) : xRow (tileMajor A) r c = argRow A r c := by
  unfold xRow argRow
  refine tile_at A _ c _ _ ?_
  show r % 4000000 = 128 * (r / 128 % 31250) + r % 128
  omega

theorem xRow8_arg (A : S4000000x4.Idx → EReal) (r : ℕ) (hr : r < 4000000) (c : Fin 4) : xRow8 (pairMajor A) r c = argRow A r c := by
  unfold xRow8 argRow
  refine pair_at A _ ⟨r / 128 % 2, Nat.mod_lt _ (by decide)⟩ c _ _ _ rfl ?_
  show r % 4000000 = 256 * (r / 256 % 15625) + 128 * (r / 128 % 2) + r % 128
  omega

theorem sRow8_arg (S : S4000000.Idx → BitVec 32) (r : ℕ) (hr : r < 4000000) : sRow8 (pairScores S) r = argS S r := by
  unfold sRow8 argS
  refine pairS_at S _ _ _ _ ?_
  show r % 4000000 = 256 * (r / 256 % 15625) + 128 * (r / 128 % 2) + r % 128
  omega

theorem sRow_arg (S : S4000000.Idx → BitVec 32) (r : ℕ) : sRow S r = argS S r :=
  congrArg S (funext fun a => match a with | ⟨0, _⟩ => rfl)

theorem eRow_arg (A B : S4000000x4.Idx → EReal) (S : S4000000.Idx → BitVec 32) (r : ℕ) (hr : r < 4000000) :
    eRow (tileMajor A) (tileMajor B) S r = argE A B S r := by
  unfold eRow argE
  rw [show xRow (tileMajor A) r = argRow A r from funext (xRow_arg A r hr), show xRow (tileMajor B) r = argRow B r from funext (xRow_arg B r hr), sRow_arg]

theorem eRow8_arg (A B : S4000000x4.Idx → EReal) (S : S4000000.Idx → BitVec 32) (r : ℕ) (hr : r < 4000000) :
    eRow8 (pairMajor A) (pairMajor B) (pairScores S) r = argE A B S r := by
  unfold eRow8 argE
  rw [show xRow8 (pairMajor A) r = argRow A r from funext (xRow8_arg A r hr), show xRow8 (pairMajor B) r = argRow B r from funext (xRow8_arg B r hr), sRow8_arg S r hr]

theorem num_at (j : S_.Idx) : kerSum 0 (VD m d (dv main_v12)) (VD m d (dv main_v4_0)) slices_S1x2_S1x1_0_0 j
    = ∑ r ∈ Finset.range 4000000, argE (A0 m d) (A1 m d) (A2 m d) r := by
  rw [kerSum_at 0 _ _ slices_S1x2_S1x1_0_0, VD_p, VD_a, VC_x, VC_y, VC_s, xIn_eq, tIn_eq, sIn_eq, ← sum_parts (argE (A0 m d) (A1 m d) (A2 m d))]
  refine congrArg₂ (fun a b : EReal => a + b) ((tcOut_sum _ _ _).trans ?_) ((accOut_sum _ _ _).trans ?_)
  · exact Finset.sum_congr rfl fun r hr => eRow8_arg _ _ _ r (by have := Finset.mem_range.1 hr; omega)
  · exact Finset.sum_congr rfl fun r hr => eRow_arg _ _ _ _ (by have := Finset.mem_range.1 hr; omega)

theorem cnt_all (j : S_.Idx) : kerSum 1 (VD m d (dv main_v12)) (VD m d (dv main_v4_1)) slices_S1x2_S1x1_0_1 j
    = ∑ r ∈ Finset.range 4000000, argC (A2 m d) r := by
  rw [kerSum_at 1 _ _ slices_S1x2_S1x1_0_1, VD_p, VD_n, VC_x, VC_y, VC_s, xIn_eq, tIn_eq, sIn_eq, ← sum_parts (argC (A2 m d))]
  refine congrArg₂ (fun a b : EReal => a + b) ((tcOut_cnt _ _ _).trans ?_) ((cntOut_sum _ _ _).trans ?_)
  · exact Finset.sum_congr rfl fun r hr => congrArg rowC (sRow8_arg _ r (by have := Finset.mem_range.1 hr; omega))
  · exact Finset.sum_congr rfl fun r hr => congrArg rowC (sRow_arg _ _)

/-- The kernel's result, of the arguments, is the reference's. -/
theorem res_eq : VE m d (dv main_v22) = Host.divf (F := Ideal) (φ := .f32) (refNum (A0 m d) (A1 m d) (A2 m d)) (refCnt (A2 m d)) := by
  refine (VE_res (VD m d)).trans ?_
  refine congrArg₂ (Host.divf (F := Ideal) (φ := .f32) (s := S_)) (funext fun j => (num_at m d j).trans (refNum_at _ _ _ j).symm) (funext fun j => ?_)
  refine Eq.trans ?_ (refCnt_at _ j).symm
  exact congrArg (fun z : EReal => Ideal.ofBits .f32 0x40800000#32 * z) (cnt_all m d j)

end Agree

theorem algebraic : Cert.algebraic_KernelIdeal_ReferenceIdeal := fun m g m' g' _ hagree =>
  ⟨fun c => VE m c (dv main_v22),
    (θ_run (Cert.KernelIdeal.defs (F := Ideal)) _ _).mono (fun _ h => h.1) (run_ends m g),
    (θ_run (Cert.ReferenceIdeal.defs (F := Ideal)) _ _).mono (fun _ h c => by
      obtain ⟨hr, h0, h1, h2⟩ := h c
      refine ⟨hr.trans (Eq.trans ?_ (res_eq m c).symm), h0, h1, h2⟩
      obtain ⟨e0, e1, e2⟩ := hagree c
      have e0' : m' ((c.tc : Thread Cert.ReferenceIdeal.nD Cert.ReferenceIdeal.τ).loc Cert.ReferenceIdeal.main_arg0) = A0 m c := e0
      have e1' : m' ((c.tc : Thread Cert.ReferenceIdeal.nD Cert.ReferenceIdeal.τ).loc Cert.ReferenceIdeal.main_arg1) = A1 m c := e1
      have e2' : m' ((c.tc : Thread Cert.ReferenceIdeal.nD Cert.ReferenceIdeal.τ).loc Cert.ReferenceIdeal.main_arg2) = A2 m c := e2
      rw [← e0', ← e1', ← e2']
      rfl) (Cert.ReferenceIdeal.Value.run m' g')⟩

end Cert.Proof.Loss
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frame
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Loss.frame_kernel, Loss.frame_ideal, Loss.frame_ref, trivial, Loss.algebraic⟩

end Cert.Proof

end
